-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_inputs_finite [hPre_inputs_finite : Cert.Pre_inputs_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_inputs_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_inputs_finite [hPre_inputs_finite : Cert.Pre_inputs_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_inputs_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Kernel2Ideal_pre_inputs_finite [hKernel2Ideal : Cert.Kernel2Ideal.Facts] [hPre_inputs_finite : Cert.Pre_inputs_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_inputs_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def quiescent_Reference2Ideal_pre_inputs_finite [hReference2Ideal : Cert.Reference2Ideal.Facts] [hPre_inputs_finite : Cert.Pre_inputs_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_inputs_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "cubic" .f32 0x3D122279#32 ((80338380498831 / 2251799813685248 : ℝ) : EReal)

def algebraic_Kernel2Ideal_Reference2Ideal_pre_inputs_finite [hKernel2Ideal : Cert.Kernel2Ideal.Facts] [hReference2Ideal : Cert.Reference2Ideal.Facts] [hPre_inputs_finite : Cert.Pre_inputs_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_inputs_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v101) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_scores_finite : Cert.Pre_scores_finite.Facts) (hPre_inputs_finite : Cert.Pre_inputs_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Kernel2Ideal_pre_inputs_finite (hKernel2Ideal := hKernel2Ideal) (hPre_inputs_finite := hPre_inputs_finite)
    ∧ quiescent_Reference2Ideal (hReference2Ideal := hReference2Ideal)
    ∧ quiescent_Reference2Ideal_pre_inputs_finite (hReference2Ideal := hReference2Ideal) (hPre_inputs_finite := hPre_inputs_finite)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal_pre_inputs_finite (hKernel2Ideal := hKernel2Ideal) (hReference2Ideal := hReference2Ideal) (hPre_inputs_finite := hPre_inputs_finite)
    ∧ preserves_Kernel3_Kernel3Ideal
    ∧ algebraic_Kernel3Ideal_Reference3Ideal (hKernel3Ideal := hKernel3Ideal) (hReference3Ideal := hReference3Ideal)
-- ==== Pre_inputs_finite.lean ====
abbrev S1x16384x1024 : Shape := ⟨3, ![1, 16384, 1024]⟩
abbrev S16384x512 : Shape := ⟨2, ![16384, 512]⟩
abbrev S1x1024 : Shape := ⟨2, ![1, 1024]⟩
abbrev S1024x1024 : Shape := ⟨2, ![1024, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S1x5632 : S_.BroadcastsInDim S1x5632 (![] : Fin 0 → Fin S1x5632.rank)
  reducesTo_S1x5632_S_d0_1 : S1x5632.ReducesTo [0, 1] S_

variable [Facts]

def fn_part1 {F : FTy → Type} [FloatOps F] (main_arg12 : FVec F S3x5632 .f32) (main_arg13 : FVec F S1x5632 .f32) (main_v13 : IVec S_ 1) (main_v16 : IVec S1024x5632 1) : IVec S_ 1 :=
  let main_c_5 : IVec S_ 1 := constantI S_ 1 1#1
  let main_v17 : IVec S_ 1 := (fun x v => Host.reduce IntOp.andi x v reducesTo_S1024x5632_S_d0_1 h_S_) main_v16 main_c_5
  let main_v18 : IVec S_ 1 := andi main_v13 main_v17
  let main_v19 : FVec F S3x5632 .f32 := Host.absf main_arg12
  let main_cst_6 : FVec F S_ .f32 := constant S_ .f32 0x7F800000#32
  let main_v20 : FVec F S3x5632 .f32 := broadcastInDim S3x5632 ![] bcast_S_S3x5632 main_cst_6
  let main_v21 : IVec S3x5632 1 := cmpf .olt main_v19 main_v20
  let main_c_7 : IVec S_ 1 := constantI S_ 1 1#1
  let main_v22 : IVec S_ 1 := (fun x v => Host.reduce IntOp.andi x v reducesTo_S3x5632_S_d0_1 h_S_) main_v21 main_c_7
  let main_v23 : IVec S_ 1 := andi main_v18 main_v22
  let main_v24 : FVec F S1x5632 .f32 := Host.absf main_arg13
  let main_cst_8 : FVec F S_ .f32 := constant S_ .f32 0x7F800000#32
  let main_v25 : FVec F S1x5632 .f32 := broadcastInDim S1x5632 ![] bcast_S_S1x5632 main_cst_8
  let main_v26 : IVec S1x5632 1 := cmpf .olt main_v24 main_v25
  let main_c_9 : IVec S_ 1 := constantI S_ 1 1#1
  let main_v27 : IVec S_ 1 := (fun x v => Host.reduce IntOp.andi x v reducesTo_S1x5632_S_d0_1 h_S_) main_v26 main_c_9
  let main_v28 : IVec S_ 1 := andi main_v23 main_v27
  main_v28

def fn {F : FTy → Type} [FloatOps F] (main_arg0 : FVec F S1x16384x1024 .f32) (main_arg1 : FVec F S16384x512 .f32) (main_arg2 : FVec F S16384x512 .f32) (main_arg3 : FVec F S1x1024 .f32) (main_arg4 : FVec F S1x1024 .f32) (main_arg5 : FVec F S1x1024 .f32) (main_arg6 : FVec F S1x1024 .f32) (main_arg7 : FVec F S1x1024 .f32) (main_arg8 : FVec F S1x1024 .f32) (main_arg9 : FVec F S1x1024 .f32) (main_arg10 : FVec F S1024x1024 .f32) (main_arg11 : FVec F S1024x5632 .f32) (main_arg12 : FVec F S3x5632 .f32) (main_arg13 : FVec F S1x5632 .f32) (main_arg14 : FVec F S2816x1024 .f32) : IVec S_ 1 :=
  let main_v0 : FVec F S1x1024 .f32 := Host.absf main_arg5
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024 .f32 := Host.absf main_arg6
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024 .f32 := Host.absf main_arg7
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x5632 .f32 := Host.absf main_arg11
  let main_cst_4 : FVec F S_ .f32 := constant S_ .f32 0x7F800000#32
  let main_v15 : FVec F S1024x5632 .f32 := broadcastInDim S1024x5632 ![] bcast_S_S1024x5632 main_cst_4
  let main_v16 : IVec S1024x5632 1 := cmpf .olt main_v14 main_v15
  fn_part1 (F := F) main_arg12 main_arg13 main_v13 main_v16
-- ==== Pre_scores_finite.lean ====
abbrev S1x8 : Shape := ⟨2, ![1, 8]⟩
abbrev S32x8 : Shape := ⟨2, ![32, 8]⟩
abbrev S16384x512 : Shape := ⟨2, ![16384, 512]⟩
abbrev S16384x128 : Shape := ⟨2, ![16384, 128]⟩
abbrev S_ : Shape := ⟨0, ![]⟩

class Facts : Prop where
  bcast_S_S1x8 : S_.BroadcastsInDim S1x8 (![] : Fin 0 → Fin S1x8.rank)
  reducesTo_S1x8_S_d0_1 : S1x8.ReducesTo [0, 1] S_
  h_S_ : 0 < S_.numel
  bcast_S_S32x8 : S_.BroadcastsInDim S32x8 (![] : Fin 0 → Fin S32x8.rank)
  reducesTo_S32x8_S_d0_1 : S32x8.ReducesTo [0, 1] S_
  bcast_S_S16384x512 : S_.BroadcastsInDim S16384x512 (![] : Fin 0 → Fin S16384x512.rank)
  reducesTo_S16384x512_S_d0_1 : S16384x512.ReducesTo [0, 1] S_
  bcast_S_S16384x128 : S_.BroadcastsInDim S16384x128 (![] : Fin 0 → Fin S16384x128.rank)
  reducesTo_S16384x128_S_d0_1 : S16384x128.ReducesTo [0, 1] S_

variable [Facts]

def fn_part1 {F : FTy → Type} [FloatOps F] (main_v13 : IVec S_ 1) (main_v16 : IVec S16384x128 1) : IVec S_ 1 :=
  let main_c_5 : IVec S_ 1 := constantI S_ 1 1#1
  let main_v17 : IVec S_ 1 := (fun x v => Host.reduce IntOp.andi x v reducesTo_S16384x128_S_d0_1 h_S_) main_v16 main_c_5
  let main_v18 : IVec S_ 1 := andi main_v13 main_v17
  main_v18

def fn {F : FTy → Type} [FloatOps F] (main_arg0 : FVec F S1x8 .f32) (main_arg1 : FVec F S32x8 .f32) (main_arg2 : FVec F S16384x512 .f32) (main_arg3 : FVec F S16384x128 .f32) (main_arg4 : FVec F S16384x128 .f32) : IVec S_ 1 :=
  let main_v0 : FVec F S1x8 .f32 := Host.absf main_arg0
  let main_cst : FVec F S_ .f32 := constant S_ .f32 0x7F800000#32
  let main_v1 : FVec F S1x8 .f32 := broadcastInDim S1x8 ![] bcast_S_S1x8 main_cst
  let main_v2 : IVec S1x8 1 := cmpf .olt main_v0 main_v1
  let main_c : IVec S_ 1 := constantI S_ 1 1#1
  let main_v3 : IVec S_ 1 := (fun x v => Host.reduce IntOp.andi x v reducesTo_S1x8_S_d0_1 h_S_) main_v2 main_c
  let main_v4 : FVec F S32x8 .f32 := Host.absf main_arg1
  let main_cst_0 : FVec F S_ .f32 := constant S_ .f32 0x7F800000#32
  let main_v5 : FVec F S32x8 .f32 := broadcastInDim S32x8 ![] bcast_S_S32x8 main_cst_0
  let main_v6 : IVec S32x8 1 := cmpf .olt main_v4 main_v5
  let main_c_1 : IVec S_ 1 := constantI S_ 1 1#1
  let main_v7 : IVec S_ 1 := (fun x v => Host.reduce IntOp.andi x v reducesTo_S32x8_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S16384x128 .f32 := Host.absf main_arg3
  let main_cst_4 : FVec F S_ .f32 := constant S_ .f32 0x7F800000#32
  let main_v15 : FVec F S16384x128 .f32 := broadcastInDim S16384x128 ![] bcast_S_S16384x128 main_cst_4
  let main_v16 : IVec S16384x128 1 := cmpf .olt main_v14 main_v15
  fn_part1 (F := F) main_v13 main_v16
-- ==== Kernel.lean ====
abbrev S1x8 : Shape := ⟨2, ![1, 8]⟩
abbrev S32x8 : Shape := ⟨2, ![32, 8]⟩
abbrev S16384x512 : Shape := ⟨2, ![16384, 512]⟩
abbrev S16384x128 : Shape := ⟨2, ![16384, 128]⟩
abbrev S128x256 : Shape := ⟨2, ![128, 256]⟩
abbrev S_ : Shape := ⟨0, ![]⟩
abbrev S16384x64 : Shape := ⟨2, ![16384, 64]⟩
abbrev S2048x512 : Shape := ⟨2, ![2048, 512]⟩
abbrev S128x512 : Shape := ⟨2, ![128, 512]⟩
abbrev S2176x512 : Shape := ⟨2, ![2176, 512]⟩
abbrev S2x2x256x256 : Shape := ⟨4, ![2, 2, 256, 256]⟩
abbrev S1x1 : Shape := ⟨2, ![1, 1]⟩
abbrev S128x128 : Shape := ⟨2, ![128, 128]⟩
abbrev S1x1x128x128 : Shape := ⟨4, ![1, 1, 128, 128]⟩
abbrev S256x128 : Shape := ⟨2, ![256, 128]⟩
abbrev S512x128 : Shape := ⟨2, ![512, 128]⟩
abbrev S256x512 : Shape := ⟨2, ![256, 512]⟩
abbrev S128 : Shape := ⟨1, ![128]⟩
abbrev S128x1 : Shape := ⟨2, ![128, 1]⟩

abbrev nBuf : Space → Nat
  | .hbm => 24
  | .vmem => 11
  | .smem => 2
  | _ => 0

abbrev bufTy : (tb : Table) → Fin (tcTables nBuf tb) → BufTy
  | .hbm, ⟨0, _⟩ => ⟨S1x8, .f32⟩
  | .hbm, ⟨1, _⟩ => ⟨S32x8, .f32⟩
  | .hbm, ⟨2, _⟩ => ⟨S16384x512, .f32⟩
  | .hbm, ⟨3, _⟩ => ⟨S16384x128, .f32⟩
  | .hbm, ⟨4, _⟩ => ⟨S16384x128, .f32⟩
  | .hbm, ⟨5, _⟩ => ⟨S128x256, .i32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16384x512, .f32⟩
  | .hbm, ⟨12, _⟩ => ⟨S16384x512, .f32⟩
  | .hbm, ⟨13, _⟩ => ⟨S16384x512, .bf16⟩
  | .hbm, ⟨14, _⟩ => ⟨S16384x64, .f32⟩
  | .hbm, ⟨15, _⟩ => ⟨S16384x64, .bf16⟩
  | .hbm, ⟨16, _⟩ => ⟨S16384x64, .f32⟩
  | .hbm, ⟨17, _⟩ => ⟨S16384x64, .bf16⟩
  | .hbm, ⟨18, _⟩ => ⟨S16384x64, .f32⟩
  | .hbm, ⟨19, _⟩ => ⟨S16384x64, .bf16⟩
  | .hbm, ⟨20, _⟩ => ⟨S16384x64, .f32⟩
  | .hbm, ⟨21, _⟩ => ⟨S16384x64, .bf16⟩
  | .hbm, ⟨22, _⟩ => ⟨S16384x512, .bf16⟩
  | .hbm, ⟨23, _⟩ => ⟨S16384x512, .bf16⟩
  | .local _ .vmem, ⟨0, _⟩ => ⟨S128x256, .i32⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S128x512, .bf16⟩
  | .local _ .vmem, ⟨6, _⟩ => ⟨S128x512, .bf16⟩
  | .local _ .vmem, ⟨7, _⟩ => ⟨S2048x512, .bf16⟩
  | .local _ .vmem, ⟨8, _⟩ => ⟨S2048x512, .bf16⟩
  | .local _ .vmem, ⟨9, _⟩ => ⟨S2176x512, .bf16⟩
  | .local _ .vmem, ⟨10, _⟩ => ⟨S2x2x256x256, .f32⟩
  | .local _ .smem, ⟨0, _⟩ => ⟨S1x8, .f32⟩
  | .local _ .smem, ⟨1, _⟩ => ⟨S32x8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def k0_off1 (i : grid0.Coords) : Fin 4 → Nat :=
  let arg0 : BitVec 32 := BitVec.ofNat 32 (i 0).val
  let c0_i32_20 : BitVec 32 := 0#32
  let v43 : BitVec 1 := Scalar.cmpi .eq arg0 c0_i32_20
  let c0_i32_21 : BitVec 32 := 0#32
  let c1_i32 : BitVec 32 := 1#32
  let v44 : BitVec 32 := Scalar.select v43 c0_i32_21 c1_i32
  let v50 : Index := Scalar.indexCast v44
  let c0_25 : Index := 0#32
  let c0_26 : Index := 0#32
  let c0_27 : Index := 0#32
  ![v50.toNat, 0, 0, 0]
def k0_off2 (i : grid0.Coords) : Fin 4 → Nat :=
  let arg0 : BitVec 32 := BitVec.ofNat 32 (i 0).val
  let c0_i32_20 : BitVec 32 := 0#32
  let v43 : BitVec 1 := Scalar.cmpi .eq arg0 c0_i32_20
  let c0_i32_21 : BitVec 32 := 0#32
  let c1_i32 : BitVec 32 := 1#32
  let v44 : BitVec 32 := Scalar.select v43 c0_i32_21 c1_i32
  let v80 : Index := Scalar.indexCast v44
  let c0_35 : Index := 0#32
  let c0_36 : Index := 0#32
  let c128_37 : Index := 128#32
  ![v80.toNat, 0, 0, 128]
def k0_off3 (i : grid0.Coords) : Fin 4 → Nat :=
  let arg0 : BitVec 32 := BitVec.ofNat 32 (i 0).val
  let c0_i32_20 : BitVec 32 := 0#32
  let v43 : BitVec 1 := Scalar.cmpi .eq arg0 c0_i32_20
  let c0_i32_21 : BitVec 32 := 0#32
  let c1_i32 : BitVec 32 := 1#32
  let v44 : BitVec 32 := Scalar.select v43 c0_i32_21 c1_i32
  let v116 : Index := Scalar.indexCast v44
  let c0_45 : Index := 0#32
  let c128_46 : Index := 128#32
  let c0_47 : Index := 0#32
  ![v116.toNat, 0, 128, 0]
def k0_off4 (i : grid0.Coords) : Fin 4 → Nat :=
  let arg0 : BitVec 32 := BitVec.ofNat 32 (i 0).val
  let c0_i32_20 : BitVec 32 := 0#32
  let v43 : BitVec 1 := Scalar.cmpi .eq arg0 c0_i32_20
  let c0_i32_21 : BitVec 32 := 0#32
  let c1_i32 : BitVec 32 := 1#32
  let v44 : BitVec 32 := Scalar.select v43 c0_i32_21 c1_i32
  let v146 : Index := Scalar.indexCast v44
  let c0_55 : Index := 0#32
  let c128_56 : Index := 128#32
  let c128_57 : Index := 128#32
  ![v146.toNat, 0, 128, 128]
def k0_off5 (i : grid0.Coords) : Fin 4 → Nat :=
  let arg0 : BitVec 32 := BitVec.ofNat 32 (i 0).val
  let c0_i32_77 : BitVec 32 := 0#32
  let v200 : BitVec 1 := Scalar.cmpi .eq arg0 c0_i32_77
  let c0_i32_78 : BitVec 32 := 0#32
  let c1_i32_79 : BitVec 32 := 1#32
  let v201 : BitVec 32 := Scalar.select v200 c0_i32_78 c1_i32_79
  let v207 : Index := Scalar.indexCast v201
  let c1_82 : Index := 1#32
  let c0_83 : Index := 0#32
  let c0_84 : Index := 0#32
  ![v207.toNat, 1, 0, 0]
def k0_off6 (i : grid0.Coords) : Fin 4 → Nat :=
  let arg0 : BitVec 32 := BitVec.ofNat 32 (i 0).val
  let c0_i32_77 : BitVec 32 := 0#32
  let v200 : BitVec 1 := Scalar.cmpi .eq arg0 c0_i32_77
  let c0_i32_78 : BitVec 32 := 0#32
  let c1_i32_79 : BitVec 32 := 1#32
  let v201 : BitVec 32 := Scalar.select v200 c0_i32_78 c1_i32_79
  let v237 : Index := Scalar.indexCast v201
  let c1_92 : Index := 1#32
  let c0_93 : Index := 0#32
  let c128_94 : Index := 128#32
  ![v237.toNat, 1, 0, 128]
def k0_off7 (i : grid0.Coords) : Fin 4 → Nat :=
  let arg0 : BitVec 32 := BitVec.ofNat 32 (i 0).val
  let c0_i32_77 : BitVec 32 := 0#32
  let v200 : BitVec 1 := Scalar.cmpi .eq arg0 c0_i32_77
  let c0_i32_78 : BitVec 32 := 0#32
  let c1_i32_79 : BitVec 32 := 1#32
  let v201 : BitVec 32 := Scalar.select v200 c0_i32_78 c1_i32_79
  let v273 : Index := Scalar.indexCast v201
  let c1_102 : Index := 1#32
  let c128_103 : Index := 128#32
  let c0_104 : Index := 0#32
  ![v273.toNat, 1, 128, 0]
def k0_off8 (i : grid0.Coords) : Fin 4 → Nat :=
  let arg0 : BitVec 32 := BitVec.ofNat 32 (i 0).val
  let c0_i32_77 : BitVec 32 := 0#32
  let v200 : BitVec 1 := Scalar.cmpi .eq arg0 c0_i32_77
  let c0_i32_78 : BitVec 32 := 0#32
  let c1_i32_79 : BitVec 32 := 1#32
  let v201 : BitVec 32 := Scalar.select v200 c0_i32_78 c1_i32_79
  let v303 : Index := Scalar.indexCast v201
  let c1_112 : Index := 1#32
  let c128_113 : Index := 128#32
  let c128_114 : Index := 128#32
  ![v303.toNat, 1, 128, 128]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S32x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S1x8 : Shape := ⟨2, ![1, 8]⟩
abbrev S32x8 : Shape := ⟨2, ![32, 8]⟩
abbrev S16384x512 : Shape := ⟨2, ![16384, 512]⟩
abbrev S16384x128 : Shape := ⟨2, ![16384, 128]⟩
abbrev S128x128x2x4x64 : Shape := ⟨5, ![128, 128, 2, 4, 64]⟩
abbrev S_ : Shape := ⟨0, ![]⟩
abbrev S16512x128 : Shape := ⟨2, ![16512, 128]⟩
abbrev S128x128x2x64 : Shape := ⟨4, ![128, 128, 2, 64]⟩
abbrev S128x256x2x64 : Shape := ⟨4, ![128, 256, 2, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x1x1 : Shape := ⟨3, ![128, 1, 1]⟩
abbrev S1x128x256 : Shape := ⟨3, ![1, 128, 256]⟩
abbrev S1x1x256 : Shape := ⟨3, ![1, 1, 256]⟩
abbrev S128x1x256 : Shape := ⟨3, ![128, 1, 256]⟩
abbrev S128x128x256 : Shape := ⟨3, ![128, 128, 256]⟩
abbrev S128x256x1 : Shape := ⟨3, ![128, 256, 1]⟩
abbrev S128x256x8 : Shape := ⟨3, ![128, 256, 8]⟩
abbrev S8x128x256 : Shape := ⟨3, ![8, 128, 256]⟩
abbrev S2x4x128x256 : Shape := ⟨4, ![2, 4, 128, 256]⟩
abbrev S128x2x256x128x4 : Shape := ⟨5, ![128, 2, 256, 128, 4]⟩
abbrev S128x2x4x128x256 : Shape := ⟨5, ![128, 2, 4, 128, 256]⟩
abbrev S1x2x4x128x256 : Shape := ⟨5, ![1, 2, 4, 128, 256]⟩
abbrev S128x1x1x128x256 : Shape := ⟨5, ![128, 1, 1, 128, 256]⟩
abbrev S2x4 : Shape := ⟨2, ![2, 4]⟩
abbrev S1x2x4x1x1 : Shape := ⟨5, ![1, 2, 4, 1, 1]⟩
abbrev S128x2x4x128 : Shape := ⟨4, ![128, 2, 4, 128]⟩
abbrev S128x2x4x128x1 : Shape := ⟨5, ![128, 2, 4, 128, 1]⟩
abbrev S128x2x64x4x128 : Shape := ⟨5, ![128, 2, 64, 4, 128]⟩

abbrev nBuf : Space → Nat
  | .hbm => 129
  | .vmem => 0
  | .smem => 0
  | _ => 0

abbrev hbmTy0_0 (i : Nat) : BufTy := match i % 128 with
  | 0 => ⟨S1x8, .f32⟩
  | 1 => ⟨S32x8, .f32⟩
  | 2 => ⟨S16384x512, .f32⟩
  | 3 => ⟨S16384x128, .f32⟩
  | 4 => ⟨S16384x128, .f32⟩
  | 5 => ⟨S128x128x2x4x64, .f32⟩
  | 6 => ⟨S_, .i32⟩
  | 7 => ⟨S_, .f32⟩
  | 8 => ⟨S16512x128, .f32⟩
  | 9 => ⟨S16384x128, .f32⟩
  | 10 => ⟨S128x128x2x64, .f32⟩
  | 11 => ⟨S128x128x2x64, .f32⟩
  | 12 => ⟨S128x256x2x64, .f32⟩
  | 13 => ⟨S_, .i32⟩
  | 14 => ⟨S_, .f32⟩
  | 15 => ⟨S16512x128, .f32⟩
  | 16 => ⟨S16384x128, .f32⟩
  | 17 => ⟨S128x128x2x64, .f32⟩
  | 18 => ⟨S128x128x2x64, .f32⟩
  | 19 => ⟨S128x256x2x64, .f32⟩
  | 20 => ⟨S128, .i32⟩
  | 21 => ⟨S128x1, .i32⟩
  | 22 => ⟨S_, .i32⟩
  | 23 => ⟨S128x1, .i32⟩
  | 24 => ⟨S128x1, .i32⟩
  | 25 => ⟨S256, .i32⟩
  | 26 => ⟨S1x256, .i32⟩
  | 27 => ⟨S128x256, .i32⟩
  | 28 => ⟨S128x256, .i32⟩
  | 29 => ⟨S128x256, .i32⟩
  | 30 => ⟨S_, .i32⟩
  | 31 => ⟨S128x256, .i32⟩
  | 32 => ⟨S128x256, .i1⟩
  | 33 => ⟨S_, .i32⟩
  | 34 => ⟨S128x256, .i32⟩
  | 35 => ⟨S128x256, .i1⟩
  | 36 => ⟨S128x256, .i1⟩
  | 37 => ⟨S128, .i32⟩
  | 38 => ⟨S128x1x1, .i32⟩
  | 39 => ⟨S1x128x256, .i1⟩
  | 40 => ⟨S_, .i32⟩
  | 41 => ⟨S128x1x1, .i32⟩
  | 42 => ⟨S128x1x1, .i1⟩
  | 43 => ⟨S1x1x256, .i32⟩
  | 44 => ⟨S_, .i32⟩
  | 45 => ⟨S1x1x256, .i32⟩
  | 46 => ⟨S1x1x256, .i1⟩
  | 47 => ⟨S128x1x256, .i1⟩
  | 48 => ⟨S128x1x256, .i1⟩
  | 49 => ⟨S128x1x256, .i1⟩
  | 50 => ⟨S128x128x256, .i1⟩
  | 51 => ⟨S128x128x256, .i1⟩
  | 52 => ⟨S128x128x256, .i1⟩
  | 53 => ⟨S_, .i32⟩
  | 54 => ⟨S128x256, .i32⟩
  | 55 => ⟨S128x256, .i32⟩
  | 56 => ⟨S_, .i32⟩
  | 57 => ⟨S128x256, .i32⟩
  | 58 => ⟨S128x256, .i32⟩
  | 59 => ⟨S128x256, .f32⟩
  | 60 => ⟨S_, .f32⟩
  | 61 => ⟨S128x256, .f32⟩
  | 62 => ⟨S128x256, .f32⟩
  | 63 => ⟨S128x256, .f32⟩
  | 64 => ⟨S_, .f32⟩
  | 65 => ⟨S128x256, .f32⟩
  | 66 => ⟨S128x256, .f32⟩
  | 67 => ⟨S_, .f32⟩
  | 68 => ⟨S128x256, .f32⟩
  | 69 => ⟨S128x256, .f32⟩
  | 70 => ⟨S128x256, .i32⟩
  | 71 => ⟨S_, .i32⟩
  | 72 => ⟨S128x256, .i32⟩
  | 73 => ⟨S128x256, .i32⟩
  | 74 => ⟨S_, .i32⟩
  | 75 => ⟨S128x256, .i32⟩
  | 76 => ⟨S128x256, .i32⟩
  | 77 => ⟨S_, .i32⟩
  | 78 => ⟨S128x256, .i32⟩
  | 79 => ⟨S128x256, .i1⟩
  | 80 => ⟨S128x256, .i32⟩
  | 81 => ⟨S_, .i32⟩
  | 82 => ⟨S128x256, .i32⟩
  | 83 => ⟨S128x256, .i1⟩
  | 84 => ⟨S_, .i32⟩
  | 85 => ⟨S128x256, .i32⟩
  | 86 => ⟨S128x256, .i32⟩
  | 87 => ⟨S128x256, .i32⟩
  | 88 => ⟨S128x256x1, .i32⟩
  | 89 => ⟨S128x256x8, .f32⟩
  | 90 => ⟨S8x128x256, .f32⟩
  | 91 => ⟨S2x4x128x256, .f32⟩
  | 92 => ⟨S128x2x256x128x4, .f32⟩
  | 93 => ⟨S128x2x4x128x256, .f32⟩
  | 94 => ⟨S_, .f32⟩
  | 95 => ⟨S128x2x4x128x256, .f32⟩
  | 96 => ⟨S128x2x4x128x256, .f32⟩
  | 97 => ⟨S1x2x4x128x256, .f32⟩
  | 98 => ⟨S128x2x4x128x256, .f32⟩
  | 99 => ⟨S128x2x4x128x256, .f32⟩
  | 100 => ⟨S128x1x1x128x256, .i1⟩
  | 101 => ⟨S_, .f32⟩
  | 102 => ⟨S_, .f32⟩
  | 103 => ⟨S128x2x4x128x256, .i1⟩
  | 104 => ⟨S128x2x4x128x256, .f32⟩
  | 105 => ⟨S128x2x4x128x256, .f32⟩
  | 106 => ⟨S2x4, .f32⟩
  | 107 => ⟨S1x2x4x1x1, .f32⟩
  | 108 => ⟨S_, .f32⟩
  | 109 => ⟨S128x2x4x128, .f32⟩
  | 110 => ⟨S128x2x4x128x1, .f32⟩
  | 111 => ⟨S128x2x4x128x1, .f32⟩
  | 112 => ⟨S128x2x4x128x1, .f32⟩
  | 113 => ⟨S128x2x4x128x256, .f32⟩
  | 114 => ⟨S128x2x4x128x256, .f32⟩
  | 115 => ⟨S128x2x4x128x256, .f32⟩
  | 116 => ⟨S_, .f32⟩
  | 117 => ⟨S128x2x4x128, .f32⟩
  | 118 => ⟨S128x2x4x128x1, .f32⟩
  | 119 => ⟨S128x2x4x128x1, .f32⟩
  | 120 => ⟨S128x2x4x128x1, .f32⟩
  | 121 => ⟨S128x2x4x128x1, .f32⟩
  | 122 => ⟨S128x2x4x128x1, .f32⟩
  | 123 => ⟨S128x2x4x128x256, .f32⟩
  | 124 => ⟨S128x2x4x128x256, .f32⟩
  | 125 => ⟨S128x2x64x4x128, .f32⟩
  | 126 => ⟨S128x128x2x4x64, .f32⟩
  | 127 => ⟨S16384x512, .f32⟩
  | _ => ⟨S1x8, .f32⟩

abbrev hbmTy0_1 (i : Nat) : BufTy := match i % 128 with
  | 0 => ⟨S16384x512, .bf16⟩
  | _ => ⟨S1x8, .f32⟩

abbrev hbmTy (i : Nat) : BufTy := match i / 128 with
  | 0 => hbmTy0_0 i
  | 1 => hbmTy0_1 i
  | _ => ⟨S1x8, .f32⟩

abbrev bufTy : (tb : Table) → Fin (tcTables nBuf tb) → BufTy
  | .hbm, ⟨i, _⟩ => hbmTy i
  | _, _ => ⟨S1x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_6 : Ref sig .tc := ⟨.hbm, 53, rfl⟩
abbrev main_v39 : Ref sig .tc := ⟨.hbm, 54, rfl⟩
abbrev main_v40 : Ref sig .tc := ⟨.hbm, 55, rfl⟩
abbrev main_c_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_10 : Ref sig .tc := ⟨.hbm, 71, rfl⟩
abbrev main_v52 : Ref sig .tc := ⟨.hbm, 72, rfl⟩
abbrev main_v53 : Ref sig .tc := ⟨.hbm, 73, rfl⟩
abbrev main_c_11 : Ref sig .tc := ⟨.hbm, 74, rfl⟩
abbrev main_v54 : Ref sig .tc := ⟨.hbm, 75, rfl⟩
abbrev main_v55 : Ref sig .tc := ⟨.hbm, 76, rfl⟩
abbrev main_c_12 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_13 : Ref sig .tc := ⟨.hbm, 81, rfl⟩
abbrev main_v59 : Ref sig .tc := ⟨.hbm, 82, rfl⟩
abbrev main_v60 : Ref sig .tc := ⟨.hbm, 83, rfl⟩
abbrev main_c_14 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_15 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_16 : Ref sig .tc := ⟨.hbm, 101, rfl⟩
abbrev main_call3_v0 : Ref sig .tc := ⟨.hbm, 102, rfl⟩
abbrev main_call3_v1 : Ref sig .tc := ⟨.hbm, 103, rfl⟩
abbrev main_call3_v2 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_17 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_18 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩

abbrev nD : Nat := 1
abbrev τ : Topo := Topo.v7x

variable {F : FTy → Type} [FloatOps F]
-- ==== Kernel2.lean ====
abbrev S1x16384x1024 : Shape := ⟨3, ![1, 16384, 1024]⟩
abbrev S16384x512 : Shape := ⟨2, ![16384, 512]⟩
abbrev S1x1024 : Shape := ⟨2, ![1, 1024]⟩
abbrev S1024x1024 : Shape := ⟨2, ![1024, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S1x512x1024 : Shape := ⟨3, ![1, 512, 1024]⟩
abbrev S512x512 : Shape := ⟨2, ![512, 512]⟩
abbrev S512x1024 : Shape := ⟨2, ![512, 1024]⟩
abbrev S8x576x128 : Shape := ⟨3, ![8, 576, 128]⟩
abbrev S16x5632 : Shape := ⟨2, ![16, 5632]⟩
abbrev S512 : Shape := ⟨1, ![512]⟩
abbrev S512x1 : Shape := ⟨2, ![512, 1]⟩
abbrev S64x128 : Shape := ⟨2, ![64, 128]⟩
abbrev S1x64x128 : Shape := ⟨3, ![1, 64, 128]⟩
abbrev S1x8x128 : Shape := ⟨3, ![1, 8, 128]⟩
abbrev S8x128 : Shape := ⟨2, ![8, 128]⟩
abbrev S512x128 : Shape := ⟨2, ![512, 128]⟩
abbrev S8x256 : Shape := ⟨2, ![8, 256]⟩
abbrev S1024x256 : Shape := ⟨2, ![1024, 256]⟩
abbrev S512x256 : Shape := ⟨2, ![512, 256]⟩
abbrev S16x256 : Shape := ⟨2, ![16, 256]⟩
abbrev S504x256 : Shape := ⟨2, ![504, 256]⟩
abbrev S496x256 : Shape := ⟨2, ![496, 256]⟩
abbrev S1x256 : Shape := ⟨2, ![1, 256]⟩
abbrev S512x2816 : Shape := ⟨2, ![512, 2816]⟩
abbrev S1x512x128 : Shape := ⟨3, ![1, 512, 128]⟩

abbrev nBuf : Space → Nat
  | .hbm => 21
  | .vmem => 23
  | .smem => 0
  | _ => 0

abbrev bufTy : (tb : Table) → Fin (tcTables nBuf tb) → BufTy
  | .hbm, ⟨0, _⟩ => ⟨S1x16384x1024, .f32⟩
  | .hbm, ⟨1, _⟩ => ⟨S16384x512, .f32⟩
  | .hbm, ⟨2, _⟩ => ⟨S16384x512, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1024x1024, .f32⟩
  | .hbm, ⟨11, _⟩ => ⟨S1024x5632, .f32⟩
  | .hbm, ⟨12, _⟩ => ⟨S3x5632, .f32⟩
  | .hbm, ⟨13, _⟩ => ⟨S1x5632, .f32⟩
  | .hbm, ⟨14, _⟩ => ⟨S2816x1024, .f32⟩
  | .hbm, ⟨15, _⟩ => ⟨S16384x512, .bf16⟩
  | .hbm, ⟨16, _⟩ => ⟨S16384x512, .bf16⟩
  | .hbm, ⟨17, _⟩ => ⟨S1024x1024, .bf16⟩
  | .hbm, ⟨18, _⟩ => ⟨S1024x5632, .bf16⟩
  | .hbm, ⟨19, _⟩ => ⟨S2816x1024, .bf16⟩
  | .hbm, ⟨20, _⟩ => ⟨S1x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1024x1024, .bf16⟩
  | .local _ .vmem, ⟨14, _⟩ => ⟨S1024x5632, .bf16⟩
  | .local _ .vmem, ⟨15, _⟩ => ⟨S3x5632, .f32⟩
  | .local _ .vmem, ⟨16, _⟩ => ⟨S1x5632, .f32⟩
  | .local _ .vmem, ⟨17, _⟩ => ⟨S2816x1024, .bf16⟩
  | .local _ .vmem, ⟨18, _⟩ => ⟨S1x512x1024, .f32⟩
  | .local _ .vmem, ⟨19, _⟩ => ⟨S1x512x1024, .f32⟩
  | .local _ .vmem, ⟨20, _⟩ => ⟨S512x1024, .bf16⟩
  | .local _ .vmem, ⟨21, _⟩ => ⟨S8x576x128, .f32⟩
  | .local _ .vmem, ⟨22, _⟩ => ⟨S16x5632, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x5632 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x5632 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel2Ideal.lean ====
variable {F : FTy → Type} [FloatOps F] [Named F]
def κ : String → Option EReal := fun
  | "cubic" => some ((80338380498831 / 2251799813685248 : ℝ) : EReal)
  | _ => none
-- ==== Reference2Ideal.lean ====
abbrev S1x16384x1024 : Shape := ⟨3, ![1, 16384, 1024]⟩
abbrev S16384x512 : Shape := ⟨2, ![16384, 512]⟩
abbrev S1x1024 : Shape := ⟨2, ![1, 1024]⟩
abbrev S1024x1024 : Shape := ⟨2, ![1024, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S16384x1024 : Shape := ⟨2, ![16384, 1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1x16384x5632 : Shape := ⟨3, ![1, 16384, 5632]⟩
abbrev S1x16386x5632 : Shape := ⟨3, ![1, 16386, 5632]⟩
abbrev S5632 : Shape := ⟨1, ![5632]⟩
abbrev S1x1x5632 : Shape := ⟨3, ![1, 1, 5632]⟩
abbrev S1x16384x2816 : Shape := ⟨3, ![1, 16384, 2816]⟩

abbrev nBuf : Space → Nat
  | .hbm => 134
  | .vmem => 0
  | .smem => 0
  | _ => 0

abbrev hbmTy0_0 (i : Nat) : BufTy := match i % 128 with
  | 0 => ⟨S1x16384x1024, .f32⟩
  | 1 => ⟨S16384x512, .f32⟩
  | 2 => ⟨S16384x512, .f32⟩
  | 3 => ⟨S1x1024, .f32⟩
  | 4 => ⟨S1x1024, .f32⟩
  | 5 => ⟨S1x1024, .f32⟩
  | 6 => ⟨S1x1024, .f32⟩
  | 7 => ⟨S1x1024, .f32⟩
  | 8 => ⟨S1x1024, .f32⟩
  | 9 => ⟨S1x1024, .f32⟩
  | 10 => ⟨S1024x1024, .f32⟩
  | 11 => ⟨S1024x5632, .f32⟩
  | 12 => ⟨S3x5632, .f32⟩
  | 13 => ⟨S1x5632, .f32⟩
  | 14 => ⟨S2816x1024, .f32⟩
  | 15 => ⟨S16384x1024, .f32⟩
  | 16 => ⟨S1x16384x1024, .f32⟩
  | 17 => ⟨S1x16384x1024, .f32⟩
  | 18 => ⟨S1x16384x1024, .f32⟩
  | 19 => ⟨S_, .f32⟩
  | 20 => ⟨S1x16384, .f32⟩
  | 21 => ⟨S1x16384x1, .f32⟩
  | 22 => ⟨S_, .f32⟩
  | 23 => ⟨S1x16384x1, .f32⟩
  | 24 => ⟨S1x16384x1, .f32⟩
  | 25 => ⟨S_, .f32⟩
  | 26 => ⟨S1x16384x1, .f32⟩
  | 27 => ⟨S1x16384x1, .f32⟩
  | 28 => ⟨S1x16384x1, .f32⟩
  | 29 => ⟨S1x16384x1024, .f32⟩
  | 30 => ⟨S1x16384x1024, .f32⟩
  | 31 => ⟨S1x1x1024, .f32⟩
  | 32 => ⟨S1x16384x1024, .f32⟩
  | 33 => ⟨S1x16384x1024, .f32⟩
  | 34 => ⟨S1x1x1024, .f32⟩
  | 35 => ⟨S1x16384x1024, .f32⟩
  | 36 => ⟨S1x16384x1024, .f32⟩
  | 37 => ⟨S1x16384x1024, .f32⟩
  | 38 => ⟨S1x16384x1024, .f32⟩
  | 39 => ⟨S_, .f32⟩
  | 40 => ⟨S1x16384, .f32⟩
  | 41 => ⟨S1x16384x1, .f32⟩
  | 42 => ⟨S_, .f32⟩
  | 43 => ⟨S1x16384x1, .f32⟩
  | 44 => ⟨S1x16384x1, .f32⟩
  | 45 => ⟨S_, .f32⟩
  | 46 => ⟨S1x16384x1, .f32⟩
  | 47 => ⟨S1x16384x1, .f32⟩
  | 48 => ⟨S1x16384x1, .f32⟩
  | 49 => ⟨S1x16384x1024, .f32⟩
  | 50 => ⟨S1x16384x1024, .f32⟩
  | 51 => ⟨S1x1x1024, .f32⟩
  | 52 => ⟨S1x16384x1024, .f32⟩
  | 53 => ⟨S1x16384x1024, .f32⟩
  | 54 => ⟨S_, .f32⟩
  | 55 => ⟨S1x1024, .f32⟩
  | 56 => ⟨S1x1024, .f32⟩
  | 57 => ⟨S1x1x1024, .f32⟩
  | 58 => ⟨S1x16384x1024, .f32⟩
  | 59 => ⟨S1x16384x1024, .f32⟩
  | 60 => ⟨S1x1x1024, .f32⟩
  | 61 => ⟨S1x16384x1024, .f32⟩
  | 62 => ⟨S1x16384x1024, .f32⟩
  | 63 => ⟨S1x16384x5632, .f32⟩
  | 64 => ⟨S_, .i32⟩
  | 65 => ⟨S_, .f32⟩
  | 66 => ⟨S1x16386x5632, .f32⟩
  | 67 => ⟨S1x16384x5632, .f32⟩
  | 68 => ⟨S1x5632, .f32⟩
  | 69 => ⟨S5632, .f32⟩
  | 70 => ⟨S1x1x5632, .f32⟩
  | 71 => ⟨S1x16384x5632, .f32⟩
  | 72 => ⟨S1x16384x5632, .f32⟩
  | 73 => ⟨S_, .f32⟩
  | 74 => ⟨S1x16384x5632, .f32⟩
  | 75 => ⟨S1x16384x5632, .f32⟩
  | 76 => ⟨S1x16384x5632, .f32⟩
  | 77 => ⟨S1x5632, .f32⟩
  | 78 => ⟨S5632, .f32⟩
  | 79 => ⟨S1x1x5632, .f32⟩
  | 80 => ⟨S1x16384x5632, .f32⟩
  | 81 => ⟨S1x16384x5632, .f32⟩
  | 82 => ⟨S1x16384x5632, .f32⟩
  | 83 => ⟨S1x16384x5632, .f32⟩
  | 84 => ⟨S1x5632, .f32⟩
  | 85 => ⟨S5632, .f32⟩
  | 86 => ⟨S1x1x5632, .f32⟩
  | 87 => ⟨S1x16384x5632, .f32⟩
  | 88 => ⟨S1x16384x5632, .f32⟩
  | 89 => ⟨S1x16384x5632, .f32⟩
  | 90 => ⟨S1x1x5632, .f32⟩
  | 91 => ⟨S1x16384x5632, .f32⟩
  | 92 => ⟨S1x16384x5632, .f32⟩
  | 93 => ⟨S1x16384x2816, .f32⟩
  | 94 => ⟨S1x16384x2816, .f32⟩
  | 95 => ⟨S1x16384x2816, .f32⟩
  | 96 => ⟨S1x16384x2816, .f32⟩
  | 97 => ⟨S_, .f32⟩
  | 98 => ⟨S1x16384x2816, .f32⟩
  | 99 => ⟨S1x16384x2816, .f32⟩
  | 100 => ⟨S1x16384x2816, .f32⟩
  | 101 => ⟨S_, .f32⟩
  | 102 => ⟨S1x16384x2816, .f32⟩
  | 103 => ⟨S1x16384x2816, .f32⟩
  | 104 => ⟨S1x16384x2816, .f32⟩
  | 105 => ⟨S_, .f32⟩
  | 106 => ⟨S1x16384x2816, .f32⟩
  | 107 => ⟨S1x16384x2816, .f32⟩
  | 108 => ⟨S_, .f32⟩
  | 109 => ⟨S1x16384x2816, .f32⟩
  | 110 => ⟨S1x16384x2816, .f32⟩
  | 111 => ⟨S1x16384x2816, .f32⟩
  | 112 => ⟨S1x16384x2816, .f32⟩
  | 113 => ⟨S1x16384x1024, .f32⟩
  | 114 => ⟨S1x16384x1024, .f32⟩
  | 115 => ⟨S_, .f32⟩
  | 116 => ⟨S1x16384, .f32⟩
  | 117 => ⟨S1x16384x1, .f32⟩
  | 118 => ⟨S_, .f32⟩
  | 119 => ⟨S1x16384x1, .f32⟩
  | 120 => ⟨S1x16384x1, .f32⟩
  | 121 => ⟨S_, .f32⟩
  | 122 => ⟨S1x16384x1, .f32⟩
  | 123 => ⟨S1x16384x1, .f32⟩
  | 124 => ⟨S1x16384x1, .f32⟩
  | 125 => ⟨S1x16384x1024, .f32⟩
  | 126 => ⟨S1x16384x1024, .f32⟩
  | 127 => ⟨S1x1x1024, .f32⟩
  | _ => ⟨S1x16384x1024, .f32⟩

abbrev hbmTy0_1 (i : Nat) : BufTy := match i % 128 with
  | 0 => ⟨S1x16384x1024, .f32⟩
  | 1 => ⟨S1x16384x1024, .f32⟩
  | 2 => ⟨S1x1x1024, .f32⟩
  | 3 => ⟨S1x16384x1024, .f32⟩
  | 4 => ⟨S1x16384x1024, .f32⟩
  | 5 => ⟨S1x16384x1024, .f32⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c : Ref sig .tc := ⟨.hbm, 64, rfl⟩
abbrev main_call0_v0 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_6 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_7 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_8 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_9 : Ref sig .tc := ⟨.hbm, 105, rfl⟩
abbrev main_v78 : Ref sig .tc := ⟨.hbm, 106, rfl⟩
abbrev main_v79 : Ref sig .tc := ⟨.hbm, 107, rfl⟩
abbrev main_cst_10 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_11 : Ref sig .tc := ⟨.hbm, 115, rfl⟩
abbrev main_v86 : Ref sig .tc := ⟨.hbm, 116, rfl⟩
abbrev main_v87 : Ref sig .tc := ⟨.hbm, 117, rfl⟩
abbrev main_cst_12 : Ref sig .tc := ⟨.hbm, 118, rfl⟩
abbrev main_v88 : Ref sig .tc := ⟨.hbm, 119, rfl⟩
abbrev main_v89 : Ref sig .tc := ⟨.hbm, 120, rfl⟩
abbrev main_cst_13 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩

abbrev nD : Nat := 1
abbrev τ : Topo := Topo.v7x

variable {F : FTy → Type} [FloatOps F]
-- ==== Kernel3.lean ====
abbrev S1x1024 : Shape := ⟨2, ![1, 1024]⟩
abbrev S1x1024x6144 : Shape := ⟨3, ![1, 1024, 6144]⟩
abbrev S1x6144 : Shape := ⟨2, ![1, 6144]⟩
abbrev S1024x1 : Shape := ⟨2, ![1024, 1]⟩
abbrev S1x2048 : Shape := ⟨2, ![1, 2048]⟩
abbrev S1x1024x1024 : Shape := ⟨3, ![1, 1024, 1024]⟩
abbrev S1024x1024 : Shape := ⟨2, ![1024, 1024]⟩
abbrev S1024 : Shape := ⟨1, ![1024]⟩

abbrev nBuf : Space → Nat
  | .hbm => 5
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024x6144, .f32⟩
  | .hbm, ⟨2, _⟩ => ⟨S1x6144, .f32⟩
  | .hbm, ⟨3, _⟩ => ⟨S1024x1, .f32⟩
  | .hbm, ⟨4, _⟩ => ⟨S1x2048, .f32⟩
  | .local _ .vmem, ⟨0, _⟩ => ⟨S1024x1, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S1x1024 : Shape := ⟨2, ![1, 1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S6144 : Shape := ⟨1, ![6144]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024x6144, .f32⟩
  | .hbm, ⟨2, _⟩ => ⟨S1x6144, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1024x6144, .f32⟩
  | .hbm, ⟨13, _⟩ => ⟨S1x6144, .f32⟩
  | .hbm, ⟨14, _⟩ => ⟨S6144, .f32⟩
  | .hbm, ⟨15, _⟩ => ⟨S1x6144, .f32⟩
  | .hbm, ⟨16, _⟩ => ⟨S1x6144, .f32⟩
  | .hbm, ⟨17, _⟩ => ⟨S1x2048, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.Att.Unit.lean ====
module

public import proofs.«01_k».proof.Proof.Gen.KernelIdeal.Value

@[expose] public section

set_option maxRecDepth 16384

noncomputable section

namespace Cert.KernelIdeal.Att

open Cert.KernelIdeal Cert.KernelIdeal.Gen Idealize.ShloMosaic Idealize.ShloMosaic.TcCoe Idealize.SL.Sem Idealize.ShloMosaic.Tactic

variable {F : FTy → Type} [FloatOps F] [Named F]

/-! # One attention unit

A unit is one block of 128 query rows against one key/value head: the band of 256 key rows (the block before and the
block itself), two slabs of 128 lanes holding two query heads each. -/

/-- The lanes below 64, on 256 rows. -/
def lanes256 : IVec S256x128 1 := cmpi .slt (iota .tc S256x128 32 [1] iota_S256x128_d1_w32) (broadcast S256x128 64#32)

/-- The lanes below 64, on 128 rows. -/
def lanes128 : IVec S128x128 1 := cmpi .slt (iota .tc S128x128 32 [1] iota_S128x128_d1_w32) (broadcast S128x128 64#32)

/-- The keys of a row's own block the row sees: column at most row. -/
def own : IVec S128x128 1 :=
  cmpi .sle (iota .tc S128x128 32 [1] iota_S128x128_d1_w32) (iota .tc S128x128 32 [0] iota_S128x128_d0_w32)

/-- The band twice, below itself: first with its high lanes zeroed, then with its low lanes zeroed. -/
def diag (x : FVec F S256x128 .bf16) : FVec F S512x128 .bf16 :=
  concatenate S512x128 0
    [⟨S256x128, select lanes256 x (broadcast S256x128 (Scalar.ofBits .bf16 0x0000#16))⟩,
     ⟨S256x128, select lanes256 (broadcast S256x128 (Scalar.ofBits .bf16 0x0000#16)) x⟩]
    concatenates_S256x128_S256x128_S512x128_d0

/-- The scores of two slabs of queries against the doubled band. -/
def scores (k : FVec F S256x128 .bf16) (qa qb : FVec F S128x128 .bf16) : FVec F S256x512 .f32 :=
  matmul dot_S256x128_S512x128_S256x512_1_1_0_0_n_n none
    (concatenate S256x128 0
      [⟨S128x128, shapeCast S128x128 qa shapeCasts_S128x128_S128x128⟩,
       ⟨S128x128, shapeCast S128x128 qb shapeCasts_S128x128_S128x128⟩] concatenates_S128x128_S128x128_S256x128_d0)
    (diag k) (constant S256x512 .f32 0x00000000#32)

/-- A head's shifted logits: the own-block score where the row sees the column, the earlier block's score elsewhere,
    plus the bias. -/
def logits (prev cur : FVec F S128x128 .f32) (bias : Vec F S1x1x128x128 .f32) : FVec F S128x128 .f32 :=
  addf (select own cur prev) (shapeCast S128x128 bias shapeCasts_S1x1x128x128_S128x128)

/-- A head's sink logit in base 2. -/
def sinkOf (s : F .f32) : F .f32 := Scalar.mulf s (Named.named κ "log2e" 0x3FB8AA3B#32)

/-- The row maxima, the sink among them. -/
def rowMax (sh : FVec F S128x128 .f32) (s : F .f32) : FVec F S128x1 .f32 :=
  maximumf (shapeCast S128x1 (multiReduction .maximumf [1] S128 sh 0xFF800000#32 reduces_S128x128_S128 (.inl rfl) rfl)
    shapeCasts_S128_S128x1) (broadcast S128x1 (sinkOf s))

/-- The unnormalised probabilities. -/
def probs (sh : FVec F S128x128 .f32) (s : F .f32) : FVec F S128x128 .f32 :=
  exp2 (subf sh (broadcastTo S128x128 (rowMax sh s) broadcasts_S128x1_S128x128))

/-- The reciprocal of the row sums, the sink's term among them. -/
def recip (sh : FVec F S128x128 .f32) (s : F .f32) : FVec F S128x1 .f32 :=
  divf (broadcast S128x1 (Scalar.ofBits .f32 0x3F800000#32))
    (addf (shapeCast S128x1 (multiReduction .add [1] S128 (probs sh s) 0x00000000#32 reduces_S128x128_S128 (.inl rfl) rfl)
      shapeCasts_S128_S128x1) (exp2 (subf (broadcast S128x1 (sinkOf s)) (rowMax sh s))))

/-- The probabilities of the earlier block's keys. -/
def early (sh : FVec F S128x128 .f32) (s : F .f32) : FVec F S128x128 .bf16 :=
  truncf .bf16 (select own (broadcast S128x128 (Scalar.ofBits .f32 0x00000000#32)) (probs sh s)) bitsLt_bf16_f32

/-- The probabilities of the own block's keys. -/
def late (sh : FVec F S128x128 .f32) (s : F .f32) : FVec F S128x128 .bf16 :=
  truncf .bf16 (select own (probs sh s) (broadcast S128x128 (Scalar.ofBits .f32 0x00000000#32))) bitsLt_bf16_f32

/-- A slab's probabilities: two heads, each its earlier and its own keys. -/
def slabProbs (sh₀ sh₁ : FVec F S128x128 .f32) (s₀ s₁ : F .f32) : FVec F S128x512 .bf16 :=
  concatenate S128x512 1 [⟨S128x128, early sh₀ s₀⟩, ⟨S128x128, late sh₀ s₀⟩, ⟨S128x128, early sh₁ s₁⟩, ⟨S128x128, late sh₁ s₁⟩]
    concatenates_S128x128_S128x128_S128x128_S128x128_S128x512_d1

/-- A slab's scales: the first head's on the low lanes, the second's on the high ones. -/
def slabScale (sh₀ sh₁ : FVec F S128x128 .f32) (s₀ s₁ : F .f32) : FVec F S128x128 .f32 :=
  select lanes128
    (broadcastTo S128x128 (shapeCast S128x1 (recip sh₀ s₀) shapeCasts_S128x1_S128x1) broadcasts_S128x1_S128x128)
    (broadcastTo S128x128 (shapeCast S128x1 (recip sh₁ s₁) shapeCasts_S128x1_S128x1) broadcasts_S128x1_S128x128)

/-- The unit from its four heads' logits. -/
def weigh (v : FVec F S256x128 .bf16) (sh₀ sh₁ sh₂ sh₃ : FVec F S128x128 .f32) (s₀ s₁ s₂ s₃ : F .f32) : FVec F S256x128 .bf16 :=
  truncf .bf16
    (mulf (matmul dot_S256x512_S512x128_S256x128_1_0_0_1_n_n none
        (concatenate S256x512 0 [⟨S128x512, slabProbs sh₀ sh₁ s₀ s₁⟩, ⟨S128x512, slabProbs sh₂ sh₃ s₂ s₃⟩]
          concatenates_S128x512_S128x512_S256x512_d0)
        (diag v) (constant S256x128 .f32 0x00000000#32))
      (concatenate S256x128 0 [⟨S128x128, slabScale sh₀ sh₁ s₀ s₁⟩, ⟨S128x128, slabScale sh₂ sh₃ s₂ s₃⟩]
        concatenates_S128x128_S128x128_S256x128_d0)) bitsLt_bf16_f32

/-- The unit: both slabs, one above the other. -/
def whole (k v : FVec F S256x128 .bf16) (qa qb : FVec F S128x128 .bf16) (b₀ b₁ b₂ b₃ : Vec F S1x1x128x128 .f32)
    (s₀ s₁ s₂ s₃ : F .f32) : FVec F S256x128 .bf16 :=
  weigh v
    (logits (extractStridedSlice S128x128 ![0, 0] (scores k qa qb) slices_S256x512_o0_0_S128x128)
      (extractStridedSlice S128x128 ![0, 128] (scores k qa qb) slices_S256x512_o0_128_S128x128) b₀)
    (logits (extractStridedSlice S128x128 ![0, 256] (scores k qa qb) slices_S256x512_o0_256_S128x128)
      (extractStridedSlice S128x128 ![0, 384] (scores k qa qb) slices_S256x512_o0_384_S128x128) b₁)
    (logits (extractStridedSlice S128x128 ![128, 0] (scores k qa qb) slices_S256x512_o128_0_S128x128)
      (extractStridedSlice S128x128 ![128, 128] (scores k qa qb) slices_S256x512_o128_128_S128x128) b₂)
    (logits (extractStridedSlice S128x128 ![128, 256] (scores k qa qb) slices_S256x512_o128_256_S128x128)
      (extractStridedSlice S128x128 ![128, 384] (scores k qa qb) slices_S256x512_o128_384_S128x128) b₃) s₀ s₁ s₂ s₃

/-- The upper slab. -/
def slabA (o : FVec F S256x128 .bf16) : FVec F S128x128 .bf16 := extractStridedSlice S128x128 ![0, 0] o slices_S256x128_o0_0_S128x128

/-- The lower slab. -/
def slabB (o : FVec F S256x128 .bf16) : FVec F S128x128 .bf16 := extractStridedSlice S128x128 ![128, 0] o slices_S256x128_o128_0_S128x128

end Cert.KernelIdeal.Att

end
-- ==== Proof.Att.Pieces.lean ====
module

public import proofs.«01_k».proof.Proof.Att.Unit
public import Idealize.ShloMosaic.Lib.ValueIdx

@[expose] public section

set_option maxRecDepth 65536

noncomputable section

namespace Cert.KernelIdeal.Att

open Cert.KernelIdeal Cert.KernelIdeal.Gen Idealize.ShloMosaic Idealize.ShloMosaic.TcCoe Idealize.SL.Sem Idealize.ShloMosaic.Tactic

variable {F : FTy → Type} [FloatOps F] [Named F]

/-! # The stores of a grid point

Sixteen blocks of 128 rows by two key/value heads, each unit stored as two slabs. The loads are left as functions of the
offsets they are made at, so that one list serves every point. -/

/-- The band a point works on, as the two stores leave it (the later first): the tile below the block before it. -/
def bandPieces (kv : Vec F S2048x512 .bf16) (kvp : Vec F S128x512 .bf16) : List (View.Piece (Elt F) S2176x512 .bf16) :=
  [⟨Rect.unit ![128, 0] S2048x512.size inb_S2176x512_S2048x512_128_0,
      shapeCast S2048x512 (shapeCast S2048x512 kv shapeCasts_S2048x512_S2048x512) shapeCasts_S2048x512_S2048x512⟩,
   ⟨Rect.unit ![0, 0] S128x512.size inb_S2176x512_S128x512_0_0,
      shapeCast S128x512 (shapeCast S128x512 kvp shapeCasts_S128x512_S128x512) shapeCasts_S128x512_S128x512⟩]

/-- Loads of 256 band rows, by offset. -/
abbrev BandLd (F : FTy → Type) : Type :=
  ∀ off : Fin 2 → ℕ, (∀ a, off a + S256x128.size a ≤ S2176x512.size a) → Vec F S256x128 .bf16
/-- Loads of a slab of queries, by offset. -/
abbrev QueryLd (F : FTy → Type) : Type :=
  ∀ off : Fin 2 → ℕ, (∀ a, off a + S128x128.size a ≤ S2048x512.size a) → Vec F S128x128 .bf16
/-- Loads of a head's biases, by offset. -/
abbrev BiasLd (F : FTy → Type) : Type :=
  ∀ off : Fin 4 → ℕ, (∀ a, off a + S1x1x128x128.size a ≤ S2x2x256x256.size a) → Vec F S1x1x128x128 .f32
/-- Loads of a head's sink logit, by offset. -/
abbrev SinkLd (F : FTy → Type) : Type :=
  ∀ off : Fin 2 → ℕ, (∀ a, off a + S1x1.size a ≤ S1x8.size a) → F .f32

/-- The band loads stay inside the band. -/
theorem inbBand {r c : ℕ} (hr : r + 256 ≤ 2176) (hc : c + 128 ≤ 512) :
    ∀ a, (![r, c] : Fin 2 → ℕ) a + S256x128.size a ≤ S2176x512.size a := fun a => match a with
  | ⟨0, _⟩ => hr
  | ⟨1, _⟩ => hc
/-- The query loads and the stores stay inside the tile. -/
theorem inbTile {r c : ℕ} (hr : r + 128 ≤ 2048) (hc : c + 128 ≤ 512) :
    ∀ a, (![r, c] : Fin 2 → ℕ) a + S128x128.size a ≤ S2048x512.size a := fun a => match a with
  | ⟨0, _⟩ => hr
  | ⟨1, _⟩ => hc
/-- The bias loads stay inside the table. -/
theorem inbBias {t h r c : ℕ} (ht : t + 1 ≤ 2) (hh : h + 1 ≤ 2) (hr : r + 128 ≤ 256) (hc : c + 128 ≤ 256) :
    ∀ a, (![t, h, r, c] : Fin 4 → ℕ) a + S1x1x128x128.size a ≤ S2x2x256x256.size a := fun a => match a with
  | ⟨0, _⟩ => ht
  | ⟨1, _⟩ => hh
  | ⟨2, _⟩ => hr
  | ⟨3, _⟩ => hc
/-- The sink loads stay inside the row of sinks. -/
theorem inbSink {h : ℕ} (hh : h + 1 ≤ 8) :
    ∀ a, (![0, h] : Fin 2 → ℕ) a + S1x1.size a ≤ S1x8.size a := fun a => match a with
  | ⟨0, _⟩ => Nat.le_refl 1
  | ⟨1, _⟩ => hh

section
variable (B : BandLd F) (Q : QueryLd F) (T : BiasLd F) (S : SinkLd F)

/-- The unit of block `b` and key/value head `h`, with the bias table `tb`. -/
def unitAt (tb b h : ℕ) (ht : tb < 2) (hb : b < 16) (hh : h < 2) : FVec F S256x128 .bf16 :=
  whole (B ![128 * b, 128 * h] (inbBand (by omega) (by omega))) (B ![128 * b, 128 * h + 256] (inbBand (by omega) (by omega)))
    (Q ![128 * b, 256 * h] (inbTile (by omega) (by omega))) (Q ![128 * b, 256 * h + 128] (inbTile (by omega) (by omega)))
    (T ![tb, h, 0, 0] (inbBias (by omega) (by omega) (by omega) (by omega)))
    (T ![tb, h, 0, 128] (inbBias (by omega) (by omega) (by omega) (by omega)))
    (T ![tb, h, 128, 0] (inbBias (by omega) (by omega) (by omega) (by omega)))
    (T ![tb, h, 128, 128] (inbBias (by omega) (by omega) (by omega) (by omega)))
    (S ![0, 4 * h] (inbSink (by omega))) (S ![0, 4 * h + 1] (inbSink (by omega)))
    (S ![0, 4 * h + 2] (inbSink (by omega))) (S ![0, 4 * h + 3] (inbSink (by omega)))

/-- The store of the unit's upper slab. -/
def storeA (tb b h : ℕ) (ht : tb < 2) (hb : b < 16) (hh : h < 2) : View.Piece (Elt F) S2048x512 .bf16 :=
  ⟨Rect.unit ![128 * b, 256 * h] S128x128.size (inbTile (by omega) (by omega)), slabA (unitAt B Q T S tb b h ht hb hh)⟩

/-- The store of the unit's lower slab. -/
def storeB (tb b h : ℕ) (ht : tb < 2) (hb : b < 16) (hh : h < 2) : View.Piece (Elt F) S2048x512 .bf16 :=
  ⟨Rect.unit ![128 * b, 256 * h + 128] S128x128.size (inbTile (by omega) (by omega)), slabB (unitAt B Q T S tb b h ht hb hh)⟩

/-- The four stores of a block, the last first. -/
def blockStores (tb b : ℕ) (ht : tb < 2) (hb : b < 16) (L : List (View.Piece (Elt F) S2048x512 .bf16)) :
    List (View.Piece (Elt F) S2048x512 .bf16) :=
  storeB B Q T S tb b 1 ht hb (by omega) :: storeA B Q T S tb b 1 ht hb (by omega) ::
    storeB B Q T S tb b 0 ht hb (by omega) :: storeA B Q T S tb b 0 ht hb (by omega) :: L

/-- Where the first block's biases lie in the table: the masked half at the first point. -/
def table0 (i : grid0.Coords) : ℕ :=
  (Scalar.indexCast (Scalar.select (Scalar.cmpi .eq (BitVec.ofNat 32 (i 0).val) 0#32) 0#32 1#32)).toNat

theorem table0_lt (i : grid0.Coords) : table0 i < 2 := by
  unfold table0
  by_cases h : Scalar.cmpi .eq (BitVec.ofNat 32 (i 0).val) 0#32 = 1#1
  · rw [h]; decide
  · rw [ValueIdx.eq_zero_of_ne_one h]; decide

/-- A point's stores, the last first. -/
def pointStores (i : grid0.Coords) : List (View.Piece (Elt F) S2048x512 .bf16) :=
  blockStores B Q T S 1 15 (by omega) (by omega) <|
  blockStores B Q T S 1 14 (by omega) (by omega) <|
  blockStores B Q T S 1 13 (by omega) (by omega) <|
  blockStores B Q T S 1 12 (by omega) (by omega) <|
  blockStores B Q T S 1 11 (by omega) (by omega) <|
  blockStores B Q T S 1 10 (by omega) (by omega) <|
  blockStores B Q T S 1 9 (by omega) (by omega) <|
  blockStores B Q T S 1 8 (by omega) (by omega) <|
  blockStores B Q T S 1 7 (by omega) (by omega) <|
  blockStores B Q T S 1 6 (by omega) (by omega) <|
  blockStores B Q T S 1 5 (by omega) (by omega) <|
  blockStores B Q T S 1 4 (by omega) (by omega) <|
  blockStores B Q T S 1 3 (by omega) (by omega) <|
  blockStores B Q T S 1 2 (by omega) (by omega) <|
  blockStores B Q T S 1 1 (by omega) (by omega) <|
  blockStores B Q T S (table0 i) 0 (table0_lt i) (by omega) []

end

set_option maxHeartbeats 4000000 in
/-- A later point's stores are the sixteen blocks', over the loads it makes. -/
theorem stores_B (c : Dev nD) (i : grid0.Coords) (arg1 : Memref sig .tc .smem S1x8 .f32) (harg1 : arg1.IsWhole) (arg2 : Memref sig .tc .smem S32x8 .f32) (harg2 : arg2.IsWhole) (arg3 : Memref sig .tc .vmem S128x256 .i32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S128x512 .bf16) (harg6 : arg6.IsWhole) (arg7 : Memref sig .tc .vmem S2048x512 .bf16) (harg7 : arg7.IsWhole) (arg8 : Memref sig .tc .vmem S2176x512 .bf16) (harg8 : arg8.IsWhole) (arg9 : Memref sig .tc .vmem S2x2x256x256 .f32) (harg9 : arg9.IsWhole) (hc0 : ¬cond0_0 i)
    (x0 : Vec F S1x8 .f32) (x1 : Vec F S32x8 .f32) (x2 : Vec F S128x256 .i32) (x3 : Vec F S2048x512 .bf16) (x4 : Vec F S2048x512 .bf16) (x5 : Vec F S128x512 .bf16) (xs1 : Vec F S2x2x256x256 .f32) :
    (kernelRun0_B c i arg1 harg1 arg2 harg2 arg3 harg3 arg4 harg4 arg5 harg5 arg6 harg6 arg7 harg7 arg8 harg8 arg9 harg9 hc0 x0 x1 x2 x3 x4 x5 xs1).1 = pointStores
      (fun off inb => arg8.view.readCov (bandPieces
          (View.readAt (Elt F) arg5.view (Rect.unit (s := S2048x512) ![0, 0] S2048x512.size inb_S2048x512_S2048x512_0_0).toLoadRect (harg5.unread x4))
          (View.readAt (Elt F) arg6.view (Rect.unit (s := S128x512) ![0, 0] S128x512.size inb_S128x512_S128x512_0_0).toLoadRect (harg6.unread x5)))
        (Rect.unit (s := S2176x512) off S256x128.size inb).toLoadRect)
      (fun off inb => View.readAt (Elt F) arg4.view (Rect.unit (s := S2048x512) off S128x128.size inb).toLoadRect (harg4.unread x3))
      (fun off inb => View.readAt (Elt F) arg9.view (Rect.unit (s := S2x2x256x256) off S1x1x128x128.size inb).toLoadRect (harg9.unread xs1))
      (fun off inb => View.readAt (Elt F) arg1.view (Rect.unit (s := S1x8) off S1x1.size inb).toLoadRect (harg1.unread x0) (Shape.Idx.first (numel1_S1x1.symm ▸ Nat.one_pos))) i := rfl

set_option maxHeartbeats 4000000 in
/-- The first point's stores likewise, the biases read off what it has just stored. -/
theorem stores_A (c : Dev nD) (i : grid0.Coords) (arg1 : Memref sig .tc .smem S1x8 .f32) (harg1 : arg1.IsWhole) (arg2 : Memref sig .tc .smem S32x8 .f32) (harg2 : arg2.IsWhole) (arg3 : Memref sig .tc .vmem S128x256 .i32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S128x512 .bf16) (harg6 : arg6.IsWhole) (arg7 : Memref sig .tc .vmem S2048x512 .bf16) (harg7 : arg7.IsWhole) (arg8 : Memref sig .tc .vmem S2176x512 .bf16) (harg8 : arg8.IsWhole) (arg9 : Memref sig .tc .vmem S2x2x256x256 .f32) (harg9 : arg9.IsWhole) (hc0 : cond0_0 i)
    (x0 : Vec F S1x8 .f32) (x1 : Vec F S32x8 .f32) (x2 : Vec F S128x256 .i32) (x3 : Vec F S2048x512 .bf16) (x4 : Vec F S2048x512 .bf16) (x5 : Vec F S128x512 .bf16) :
    (kernelRun0_A c i arg1 harg1 arg2 harg2 arg3 harg3 arg4 harg4 arg5 harg5 arg6 harg6 arg7 harg7 arg8 harg8 arg9 harg9 hc0 x0 x1 x2 x3 x4 x5).1 = pointStores
      (fun off inb => arg8.view.readCov (bandPieces
          (View.readAt (Elt F) arg5.view (Rect.unit (s := S2048x512) ![0, 0] S2048x512.size inb_S2048x512_S2048x512_0_0).toLoadRect (harg5.unread x4))
          (View.readAt (Elt F) arg6.view (Rect.unit (s := S128x512) ![0, 0] S128x512.size inb_S128x512_S128x512_0_0).toLoadRect (harg6.unread x5)))
        (Rect.unit (s := S2176x512) off S256x128.size inb).toLoadRect)
      (fun off inb => View.readAt (Elt F) arg4.view (Rect.unit (s := S2048x512) off S128x128.size inb).toLoadRect (harg4.unread x3))
      (fun off inb => arg9.view.readCov (kernelRun0_A c i arg1 harg1 arg2 harg2 arg3 harg3 arg4 harg4 arg5 harg5 arg6 harg6 arg7 harg7 arg8 harg8 arg9 harg9 hc0 x0 x1 x2 x3 x4 x5).2.1
        (Rect.unit (s := S2x2x256x256) off S1x1x128x128.size inb).toLoadRect)
      (fun off inb => View.readAt (Elt F) arg1.view (Rect.unit (s := S1x8) off S1x1.size inb).toLoadRect (harg1.unread x0) (Shape.Idx.first (numel1_S1x1.symm ▸ Nat.one_pos))) i := rfl

end Cert.KernelIdeal.Att

end
-- ==== Proof.Att.Table.lean ====
module

public import proofs.«01_k».proof.Proof.Att.Pieces

@[expose] public section

set_option maxRecDepth 65536

noncomputable section

namespace Cert.KernelIdeal.Att

open Cert.KernelIdeal Cert.KernelIdeal.Gen Idealize.ShloMosaic Idealize.ShloMosaic.TcCoe Idealize.SL.Sem Idealize.ShloMosaic.Tactic

variable {F : FTy → Type} [FloatOps F] [Named F]

/-! # The bias table the first point stores -/

/-- Loads of a relative bias, by offset. -/
abbrev RelLd (F : FTy → Type) : Type :=
  ∀ off : Fin 2 → ℕ, (∀ a, off a + S1x1.size a ≤ S32x8.size a) → F .f32

/-- The loads of relative biases stay inside their table. -/
theorem inbRel {n h : ℕ} (hn : n + 1 ≤ 32) (hh : h + 1 ≤ 8) :
    ∀ a, (![n, h] : Fin 2 → ℕ) a + S1x1.size a ≤ S32x8.size a := fun a => match a with
  | ⟨0, _⟩ => hn
  | ⟨1, _⟩ => hh

/-- Head `h`'s biases over the buckets below `n`: the selects, the last bucket outermost. -/
def gathered (bk : Vec F S128x256 .i32) (R : RelLd F) (h : ℕ) (hh : h < 8) : ∀ n : ℕ, n ≤ 32 → FVec F S128x256 .f32
  | 0, _ => broadcast S128x256 (Scalar.ofBits .f32 0x00000000#32)
  | n + 1, hn => select (cmpi .eq (show IVec S128x256 32 from bk) (broadcast S128x256 (BitVec.ofNat 32 n)))
      (broadcast S128x256 (Scalar.mulf (R ![n, h] (inbRel (by omega) (by omega))) (Named.named κ "log2e" 0x3FB8AA3B#32)))
      (gathered bk R h hh n (by omega))

/-- Head `h`'s biases folded onto the own block's columns. -/
def folded (bk : Vec F S128x256 .i32) (R : RelLd F) (h : ℕ) (hh : h < 8) : FVec F S128x128 .f32 :=
  select own (extractStridedSlice S128x128 ![0, 128] (gathered bk R h hh 32 (Nat.le_refl 32)) slices_S128x256_o0_128_S128x128)
    (extractStridedSlice S128x128 ![0, 0] (gathered bk R h hh 32 (Nat.le_refl 32)) slices_S128x256_o0_0_S128x128)

/-- The same with the earlier block's keys masked. -/
def foldedMasked (bk : Vec F S128x256 .i32) (R : RelLd F) (h : ℕ) (hh : h < 8) : FVec F S128x128 .f32 :=
  select own (folded bk R h hh) (broadcast S128x128 (Named.named κ "mask" 0xF149F2CA#32))

/-- The two stores of key/value head `k`, slab row `r` and column `c`, for head `h`: the masked biases and before them the
    plain ones. -/
def headStores (bk : Vec F S128x256 .i32) (R : RelLd F) (h k r c : ℕ) (hh : h < 8) (hk : k < 2) (hr : r + 128 ≤ 256)
    (hc : c + 128 ≤ 256) (L : List (View.Piece (Elt F) S2x2x256x256 .f32)) : List (View.Piece (Elt F) S2x2x256x256 .f32) :=
  ⟨Rect.unit ![0, k, r, c] S1x1x128x128.size (inbBias (by omega) (by omega) hr hc),
      shapeCast S1x1x128x128 (foldedMasked bk R h hh) shapeCasts_S128x128_S1x1x128x128⟩ ::
    ⟨Rect.unit ![1, k, r, c] S1x1x128x128.size (inbBias (by omega) (by omega) hr hc),
      shapeCast S1x1x128x128 (folded bk R h hh) shapeCasts_S128x128_S1x1x128x128⟩ :: L

/-- The first point's stores into the bias table, the last first. -/
def tableStores (bk : Vec F S128x256 .i32) (R : RelLd F) : List (View.Piece (Elt F) S2x2x256x256 .f32) :=
  headStores bk R 7 1 128 128 (by omega) (by omega) (by omega) (by omega) <|
  headStores bk R 6 1 128 0 (by omega) (by omega) (by omega) (by omega) <|
  headStores bk R 5 1 0 128 (by omega) (by omega) (by omega) (by omega) <|
  headStores bk R 4 1 0 0 (by omega) (by omega) (by omega) (by omega) <|
  headStores bk R 3 0 128 128 (by omega) (by omega) (by omega) (by omega) <|
  headStores bk R 2 0 128 0 (by omega) (by omega) (by omega) (by omega) <|
  headStores bk R 1 0 0 128 (by omega) (by omega) (by omega) (by omega) <|
  headStores bk R 0 0 0 0 (by omega) (by omega) (by omega) (by omega) []

set_option maxHeartbeats 4000000 in
/-- The first point's stores into the carried scratch are the bias table's. -/
theorem stores_table (c : Dev nD) (i : grid0.Coords) (arg1 : Memref sig .tc .smem S1x8 .f32) (harg1 : arg1.IsWhole) (arg2 : Memref sig .tc .smem S32x8 .f32) (harg2 : arg2.IsWhole) (arg3 : Memref sig .tc .vmem S128x256 .i32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S128x512 .bf16) (harg6 : arg6.IsWhole) (arg7 : Memref sig .tc .vmem S2048x512 .bf16) (harg7 : arg7.IsWhole) (arg8 : Memref sig .tc .vmem S2176x512 .bf16) (harg8 : arg8.IsWhole) (arg9 : Memref sig .tc .vmem S2x2x256x256 .f32) (harg9 : arg9.IsWhole) (hc0 : cond0_0 i)
    (x0 : Vec F S1x8 .f32) (x1 : Vec F S32x8 .f32) (x2 : Vec F S128x256 .i32) (x3 : Vec F S2048x512 .bf16) (x4 : Vec F S2048x512 .bf16) (x5 : Vec F S128x512 .bf16) :
    (kernelRun0_A c i arg1 harg1 arg2 harg2 arg3 harg3 arg4 harg4 arg5 harg5 arg6 harg6 arg7 harg7 arg8 harg8 arg9 harg9 hc0 x0 x1 x2 x3 x4 x5).2.1 = tableStores
      (View.readAt (Elt F) arg3.view (Rect.unit (s := S128x256) ![0, 0] S128x256.size inb_S128x256_S128x256_0_0).toLoadRect (harg3.unread x2))
      (fun off inb => View.readAt (Elt F) arg2.view (Rect.unit (s := S32x8) off S1x1.size inb).toLoadRect (harg2.unread x1) (Shape.Idx.first (numel1_S1x1.symm ▸ Nat.one_pos))) := rfl

end Cert.KernelIdeal.Att

end
-- ==== Proof.Att.UnitValue.lean ====
module

public import proofs.«01_k».proof.Proof.Att.Unit
public import Idealize.ShloMosaic.Lib.ValueIdx
public import Idealize.ShloMosaic.Lib.ValueLayoutCasts
public import Idealize.ShloMosaic.Lib.MatmulPlain
public import Idealize.ShloMosaic.Lib.WordCmp

@[expose] public section

set_option maxRecDepth 16384

noncomputable section

namespace Cert.KernelIdeal.Att

open Cert.KernelIdeal Cert.KernelIdeal.Gen Idealize.ShloMosaic Idealize.ShloMosaic.TcCoe Idealize.SL.Sem Idealize.ShloMosaic.Tactic
open Idealize.ShloMosaic.ValueIdx Idealize.ShloMosaic.WordCmp
open scoped BigOperators

/-! # An attention unit at an index, over the extended reals -/

/-- The base-2 logarithm of e, as the extended real the named constant is. -/
def log2e : EReal := (((Real.log 2)⁻¹ : ℝ) : EReal)

/-- The largest of a row's logits and the sink's. -/
def rowTop (b : Fin 128 → EReal) (σ : EReal) : EReal := max (Finset.univ.fold max ⊥ b) σ

/-- A query row `r` with folded base-2 logits `b` (column `c` at most `r` is a key of the own block, a later one a key of
    the earlier block), sink logit `σ` and band values `v`: the softmax-weighted sum, the reciprocal multiplied last. -/
def attend (r : Fin 128) (b : Fin 128 → EReal) (σ : EReal) (v : Fin 256 → EReal) : EReal :=
  ((∑ c : Fin 128, (if c ≤ r then 0 else Ideal.exp2 (b c - rowTop b σ)) * v ⟨c, by omega⟩)
    + ∑ c : Fin 128, (if c ≤ r then Ideal.exp2 (b c - rowTop b σ) else 0) * v ⟨128 + c, by omega⟩)
  * Ideal.div 1 ((∑ c : Fin 128, Ideal.exp2 (b c - rowTop b σ)) + Ideal.exp2 (σ - rowTop b σ))

theorem zero_word : Ideal.ofBits .f32 0x00000000#32 = 0 := by simp [Ideal.ofBits, Ideal.ieee]
theorem zero_half_word : Ideal.ofBits .bf16 0x0000#16 = 0 := by simp [Ideal.ofBits, Ideal.ieee]
theorem one_word : Ideal.ofBits .f32 0x3F800000#32 = 1 := by
  simp [Ideal.ofBits, Ideal.ieee, -EReal.coe_mul]; norm_num
theorem bot_word : Ideal.ofBits .f32 0xFF800000#32 = ⊥ := by simp [Ideal.ofBits, Ideal.ieee]

/-- The own-block mask at an index. -/
theorem own_apply (r c : Fin 128) : own (ix2 r c) = 1#1 ↔ c ≤ r := by
  show IntOp.cmpi .sle _ _ = 1#1 ↔ _
  rw [iota_single_apply, iota_single_apply]
  show IntOp.cmpi .sle (BitVec.ofNat 32 c.val) (BitVec.ofNat 32 r.val) = 1#1 ↔ _
  rw [cmpi_sle_ofNat_eq_one_iff (by omega) (by omega)]
  rfl

theorem lanes128_apply (r c : Fin 128) : lanes128 (ix2 r c) = 1#1 ↔ c.val < 64 := by
  show IntOp.cmpi .slt _ _ = 1#1 ↔ _
  rw [iota_single_apply]
  show IntOp.cmpi .slt (BitVec.ofNat 32 c.val) (BitVec.ofNat 32 64) = 1#1 ↔ _
  rw [cmpi_slt_ofNat_eq_one_iff (by omega) (by omega)]

theorem lanes256_apply (r : Fin 256) (c : Fin 128) : lanes256 (ix2 r c) = 1#1 ↔ c.val < 64 := by
  show IntOp.cmpi .slt _ _ = 1#1 ↔ _
  rw [iota_single_apply]
  show IntOp.cmpi .slt (BitVec.ofNat 32 c.val) (BitVec.ofNat 32 64) = 1#1 ↔ _
  rw [cmpi_slt_ofNat_eq_one_iff (by omega) (by omega)]

/-- A vector select at an index, its mask's bit known as a proposition. -/
theorem select_of_iff {s : Shape} {α : Type} (m : IVec s 1) (x y : s.Idx → α) (i : s.Idx) {p : Prop} [Decidable p]
    (h : m i = 1#1 ↔ p) : select m x y i = if p then x i else y i := by
  show (if m i = 1#1 then x i else y i) = _
  by_cases hp : p
  · rw [if_pos hp, if_pos (h.2 hp)]
  · rw [if_neg hp, if_neg (fun e => hp (h.1 e))]

/-- Two vectors one above the other. -/
theorem stack_apply {α : Type} {n m k t : ℕ} (x : (⟨2, ![n, k]⟩ : Shape).Idx → α) (y : (⟨2, ![m, k]⟩ : Shape).Idx → α)
    (h : Shape.Concatenates [(⟨2, ![n, k]⟩ : Shape), ⟨2, ![m, k]⟩] ⟨2, ![t, k]⟩ 0) (ht : t = n + m) (r : Fin t) (c : Fin k) :
    concatenate (⟨2, ![t, k]⟩ : Shape) 0 [⟨⟨2, ![n, k]⟩, x⟩, ⟨⟨2, ![m, k]⟩, y⟩] h (ix2 r c)
      = if hr : r.val < n then x (ix2 ⟨r.val, hr⟩ c) else y (ix2 ⟨r.val - n, by omega⟩ c) := by
  by_cases hr : r.val < n
  · rw [dif_pos hr]
    refine concatenate_pair_apply_left (t := ⟨2, ![t, k]⟩) (s₁ := ⟨2, ![n, k]⟩) (s₂ := ⟨2, ![m, k]⟩) 0 x y h _ rfl _ ?_
    intro b
    match b with
    | ⟨0, _⟩ => rfl
    | ⟨1, _⟩ => rfl
  · rw [dif_neg hr]
    refine concatenate_pair_apply_right (t := ⟨2, ![t, k]⟩) (s₁ := ⟨2, ![n, k]⟩) (s₂ := ⟨2, ![m, k]⟩) 0 x y h _ rfl rfl _ ?_ ?_
    · intro b hb
      match b, hb with
      | ⟨0, _⟩, hb => exact absurd rfl hb
      | ⟨1, _⟩, _ => rfl
    · show r.val - n + n = r.val
      omega

/-- Two slabs of 128 lanes, one above the other. -/
theorem stack_slabs {α : Type} (x y : S128x128.Idx → α) (h : Shape.Concatenates [S128x128, S128x128] S256x128 0) (r : Fin 256) (c : Fin 128) :
    concatenate S256x128 0 [⟨S128x128, x⟩, ⟨S128x128, y⟩] h (ix2 r c)
      = if hr : r.val < 128 then x (ix2 ⟨r.val, hr⟩ c) else y (ix2 ⟨r.val - 128, by omega⟩ c) :=
  stack_apply (n := 128) (m := 128) x y h rfl r c

/-- Two bands, one above the other. -/
theorem stack_bands {α : Type} (x y : S256x128.Idx → α) (h : Shape.Concatenates [S256x128, S256x128] S512x128 0) (r : Fin 512) (c : Fin 128) :
    concatenate S512x128 0 [⟨S256x128, x⟩, ⟨S256x128, y⟩] h (ix2 r c)
      = if hr : r.val < 256 then x (ix2 ⟨r.val, hr⟩ c) else y (ix2 ⟨r.val - 256, by omega⟩ c) :=
  stack_apply (n := 256) (m := 256) x y h rfl r c

/-- Two slabs' probabilities, one above the other. -/
theorem stack_probs {α : Type} (x y : S128x512.Idx → α) (h : Shape.Concatenates [S128x512, S128x512] S256x512 0) (r : Fin 256) (c : Fin 512) :
    concatenate S256x512 0 [⟨S128x512, x⟩, ⟨S128x512, y⟩] h (ix2 r c)
      = if hr : r.val < 128 then x (ix2 ⟨r.val, hr⟩ c) else y (ix2 ⟨r.val - 128, by omega⟩ c) :=
  stack_apply (n := 128) (m := 128) x y h rfl r c

/-- The doubled band at an index. -/
theorem diag_apply (x : FVec Ideal S256x128 .bf16) (j : Fin 512) (d : Fin 128) :
    diag x (ix2 j d) = if hj : j.val < 256 then (if d.val < 64 then x (ix2 ⟨j.val, hj⟩ d) else 0)
      else (if d.val < 64 then 0 else x (ix2 ⟨j.val - 256, by omega⟩ d)) := by
  unfold diag
  rw [stack_bands]
  by_cases hj : j.val < 256
  · rw [dif_pos hj, dif_pos hj, select_of_iff _ _ _ _ (lanes256_apply _ d)]
    exact if_congr Iff.rfl rfl zero_half_word
  · rw [dif_neg hj, dif_neg hj, select_of_iff _ _ _ _ (lanes256_apply _ d)]
    exact if_congr Iff.rfl zero_half_word rfl

/-- A sum over 128 lanes in two halves. -/
theorem sum_halves (f : Fin 128 → EReal) :
    ∑ d, f d = (∑ e : Fin 64, f ⟨e, by omega⟩) + ∑ e : Fin 64, f ⟨64 + e, by omega⟩ :=
  Fin.sum_univ_add (a := 64) (b := 64) f

/-- A sum over 256 keys in two halves. -/
theorem sum_blocks (f : Fin 256 → EReal) :
    ∑ d, f d = (∑ e : Fin 128, f ⟨e, by omega⟩) + ∑ e : Fin 128, f ⟨128 + e, by omega⟩ :=
  Fin.sum_univ_add (a := 128) (b := 128) f

/-- A sum over 512 keys in two halves of two. -/
theorem sum_quarters (f : Fin 512 → EReal) :
    ∑ d, f d = ((∑ e : Fin 128, f ⟨e, by omega⟩) + ∑ e : Fin 128, f ⟨128 + e, by omega⟩)
      + ((∑ e : Fin 128, f ⟨256 + e, by omega⟩) + ∑ e : Fin 128, f ⟨384 + e, by omega⟩) := by
  rw [show (∑ d, f d) = _ from Fin.sum_univ_add (a := 256) (b := 256) f, sum_blocks, sum_blocks]
  refine congrArg₂ _ rfl (congrArg₂ _ rfl (Finset.sum_congr rfl fun e _ => congrArg f (Fin.ext ?_)))
  show 256 + (128 + e.val) = 384 + e.val
  omega

/-- The scores at an index: row `r` of the upper or lower slab against key `j` on the low lanes or the high ones. -/
theorem scores_apply (k : FVec Ideal S256x128 .bf16) (qa qb : FVec Ideal S128x128 .bf16) (r : Fin 256) (c : Fin 512) :
    scores k qa qb (ix2 r c) = ∑ e : Fin 64,
      (if hr : r.val < 128 then qa (ix2 ⟨r.val, hr⟩ ⟨64 * (c.val / 256) + e.val, by omega⟩)
        else qb (ix2 ⟨r.val - 128, by omega⟩ ⟨64 * (c.val / 256) + e.val, by omega⟩))
      * k (ix2 ⟨c.val % 256, by omega⟩ ⟨64 * (c.val / 256) + e.val, by omega⟩) := by
  have hm : scores k qa qb (ix2 r c) = Ideal.ofBits .f32 0x00000000#32 + ∑ d : Fin 128,
      (concatenate S256x128 0
      [⟨S128x128, shapeCast S128x128 qa shapeCasts_S128x128_S128x128⟩,
       ⟨S128x128, shapeCast S128x128 qb shapeCasts_S128x128_S128x128⟩] concatenates_S128x128_S128x128_S256x128_d0 : S256x128.Idx → EReal) (ix2 r d) * diag k (ix2 c d) :=
    Ideal.matmul_transposedRhs_apply (M := 256) (K := 128) (N := 512) none _ _ _ r c
  have hs : ∀ d : Fin 128, (concatenate S256x128 0
      [⟨S128x128, shapeCast S128x128 qa shapeCasts_S128x128_S128x128⟩,
       ⟨S128x128, shapeCast S128x128 qb shapeCasts_S128x128_S128x128⟩] concatenates_S128x128_S128x128_S256x128_d0 : S256x128.Idx → EReal) (ix2 r d)
      = if hr : r.val < 128 then qa (ix2 ⟨r.val, hr⟩ d) else qb (ix2 ⟨r.val - 128, by omega⟩ d) := fun d => by
    rw [stack_slabs, shapeCast_self, shapeCast_self]
  rw [hm, zero_word, zero_add]
  simp only [hs, diag_apply]
  rw [sum_halves]
  by_cases hc : c.val < 256
  · have hz : c.val / 256 = 0 := by omega
    refine (congrArg₂ (· + ·) (Finset.sum_congr rfl fun e _ => ?_) (Finset.sum_eq_zero fun e _ => ?_)).trans (add_zero _)
    · rw [dif_pos hc, if_pos (by exact e.isLt)]
      have h1 : (⟨e.val, by omega⟩ : Fin 128) = ⟨64 * (c.val / 256) + e.val, by omega⟩ := Fin.ext (by simp [hz])
      have h2 : (⟨c.val, hc⟩ : Fin 256) = ⟨c.val % 256, by omega⟩ := Fin.ext (Nat.mod_eq_of_lt hc).symm
      rw [h1, h2]
    · rw [dif_pos hc, if_neg (by simp), mul_zero]
  · have hz : c.val / 256 = 1 := by omega
    refine (congrArg₂ (· + ·) (Finset.sum_eq_zero fun e _ => ?_) (Finset.sum_congr rfl fun e _ => ?_)).trans (zero_add _)
    · rw [dif_neg hc, if_pos (by exact e.isLt), mul_zero]
    · rw [dif_neg hc, if_neg (by simp)]
      have h1 : (⟨64 + e.val, by omega⟩ : Fin 128) = ⟨64 * (c.val / 256) + e.val, by omega⟩ := Fin.ext (by simp [hz])
      have h2 : (⟨c.val - 256, by omega⟩ : Fin 256) = ⟨c.val % 256, by omega⟩ := Fin.ext (by show c.val - 256 = c.val % 256; omega)
      rw [h1, h2]

/-- A head's logits at an index. -/
theorem logits_apply (prev cur : FVec Ideal S128x128 .f32) (bias : Vec Ideal S1x1x128x128 .f32) (r c : Fin 128) :
    logits prev cur bias (ix2 r c)
      = (if c ≤ r then cur (ix2 r c) else prev (ix2 r c)) + bias (ix4 0 0 r c) := by
  unfold logits
  rw [addf_apply, select_of_iff _ _ _ _ (own_apply r c)]
  refine congrArg _ (shapeCast_apply _ _ _ _ ?_)
  rw [Shape.rowMajor_val_two, Shape.rowMajor_val_four]
  show ((0 * 1 + 0) * 128 + r.val) * 128 + c.val = r.val * 128 + c.val
  omega

/-- A head's sink logit. -/
theorem sinkOf_eq (s : EReal) : sinkOf (F := Ideal) s = s * log2e :=
  congrArg (s * ·) (IdealRules.named_const.ideal_named_scalar _ _ _ _ rfl)

/-- The row maximum at an index. -/
theorem rowMax_apply (sh : FVec Ideal S128x128 .f32) (s : EReal) (r : Fin 128) :
    rowMax (F := Ideal) sh s (ix2 r 0) = rowTop (fun c => sh (ix2 r c)) (s * log2e) := by
  unfold rowMax rowTop
  rw [maximumf_apply, broadcast_apply, sinkOf_eq]
  refine congrArg (fun t : EReal => max t (s * log2e)) ((shapeCast_a_a1_apply _ _ r 0).trans ((Ideal.multiReduction_maximumf_single _ _ _ _ _ _).trans ?_))
  rw [show FloatOps.ofBits (F := Ideal) .f32 0xFF800000#32 = ⊥ from bot_word]
  refine congrArg (fun f => Finset.univ.fold max (⊥ : EReal) f) (funext fun c => congrArg sh ?_)
  funext a
  apply Fin.ext
  match a with
  | ⟨0, _⟩ => rfl
  | ⟨1, _⟩ => rfl

/-- A column spread over the lanes. -/
theorem spread_apply (x : S128x1.Idx → EReal) (r c : Fin 128) :
    broadcastTo S128x128 x broadcasts_S128x1_S128x128 (ix2 r c) = x (ix2 r 0) :=
  broadcastTo_apply _ _ _ _ fun a => by
    match a with
    | ⟨0, _⟩ => rfl
    | ⟨1, _⟩ => rfl

/-- The unnormalised probability at an index. -/
theorem probs_apply (sh : FVec Ideal S128x128 .f32) (s : EReal) (r c : Fin 128) :
    probs (F := Ideal) sh s (ix2 r c) = Ideal.exp2 (sh (ix2 r c) - rowTop (fun c => sh (ix2 r c)) (s * log2e)) := by
  unfold probs
  show Ideal.exp2 (sh (ix2 r c) - _) = _
  rw [spread_apply, rowMax_apply]

/-- The reciprocal at an index. -/
theorem recip_apply (sh : FVec Ideal S128x128 .f32) (s : EReal) (r : Fin 128) :
    recip (F := Ideal) sh s (ix2 r 0) = Ideal.div 1
      ((∑ c : Fin 128, Ideal.exp2 (sh (ix2 r c) - rowTop (fun c => sh (ix2 r c)) (s * log2e)))
        + Ideal.exp2 (s * log2e - rowTop (fun c => sh (ix2 r c)) (s * log2e))) := by
  unfold recip
  rw [divf_apply, addf_apply]
  refine congrArg₂ Ideal.div one_word (congrArg₂ (· + ·) ((shapeCast_a_a1_apply _ _ r 0).trans
    ((Ideal.multiReduction_add_single _ _ _ _ _ _).trans (Finset.sum_congr rfl fun c _ => ?_))) ?_)
  · refine Eq.trans (congrArg (probs (F := Ideal) sh s) ?_) (probs_apply sh s r c)
    funext a
    apply Fin.ext
    match a with
    | ⟨0, _⟩ => rfl
    | ⟨1, _⟩ => rfl
  · show Ideal.exp2 (sinkOf (F := Ideal) s - _) = _
    rw [rowMax_apply, sinkOf_eq]

theorem early_apply (sh : FVec Ideal S128x128 .f32) (s : EReal) (r c : Fin 128) :
    early (F := Ideal) sh s (ix2 r c) = if c ≤ r then 0 else
      Ideal.exp2 (sh (ix2 r c) - rowTop (fun c => sh (ix2 r c)) (s * log2e)) := by
  unfold early
  rw [truncf_apply, select_of_iff _ _ _ _ (own_apply r c), probs_apply]
  exact if_congr Iff.rfl zero_word rfl

theorem late_apply (sh : FVec Ideal S128x128 .f32) (s : EReal) (r c : Fin 128) :
    late (F := Ideal) sh s (ix2 r c) = if c ≤ r then
      Ideal.exp2 (sh (ix2 r c) - rowTop (fun c => sh (ix2 r c)) (s * log2e)) else 0 := by
  unfold late
  rw [truncf_apply, select_of_iff _ _ _ _ (own_apply r c), probs_apply]
  exact if_congr Iff.rfl rfl zero_word

/-- Four blocks side by side at an index of block `n`. -/
theorem four_apply {α : Type} (f : Fin 4 → (S128x128.Idx → α)) (h : Shape.Concatenates [S128x128, S128x128, S128x128, S128x128] S128x512 1)
    (r : Fin 128) (n : Fin 4) (c : Fin 128) :
    concatenate S128x512 1 [⟨S128x128, f 0⟩, ⟨S128x128, f 1⟩, ⟨S128x128, f 2⟩, ⟨S128x128, f 3⟩] h
      (ix2 r ⟨128 * n.val + c.val, by omega⟩) = f n (ix2 r c) := by
  refine concatenate_ofFn_apply (t := S128x512) (s₁ := S128x128) 1 f h rfl 128 rfl _ n ?_ _ ?_ ?_
  · show (128 * n.val + c.val) / 128 = n.val
    omega
  · show c.val = (128 * n.val + c.val) % 128
    omega
  · intro b hb
    match b, hb with
    | ⟨0, _⟩, _ => rfl
    | ⟨1, _⟩, hb => exact absurd rfl hb

/-- A slab's probabilities against the doubled band of values: each lane meets its own head's keys alone. -/
theorem slab_sum (v : FVec Ideal S256x128 .bf16) (sh₀ sh₁ : FVec Ideal S128x128 .f32) (s₀ s₁ : EReal) (r d : Fin 128) :
    ∑ k : Fin 512, slabProbs (F := Ideal) sh₀ sh₁ s₀ s₁ (ix2 r k) * diag v (ix2 k d)
      = (∑ c : Fin 128, (if d.val < 64 then early (F := Ideal) sh₀ s₀ (ix2 r c) else early (F := Ideal) sh₁ s₁ (ix2 r c)) * v (ix2 ⟨c, by omega⟩ d))
        + ∑ c : Fin 128, (if d.val < 64 then late (F := Ideal) sh₀ s₀ (ix2 r c) else late (F := Ideal) sh₁ s₁ (ix2 r c)) * v (ix2 ⟨128 + c, by omega⟩ d) := by
  have hp : ∀ (n : Fin 4) (c : Fin 128), slabProbs (F := Ideal) sh₀ sh₁ s₀ s₁ (ix2 r ⟨128 * n.val + c.val, by omega⟩)
      = (![early (F := Ideal) sh₀ s₀, late (F := Ideal) sh₀ s₀, early (F := Ideal) sh₁ s₁, late (F := Ideal) sh₁ s₁] n : S128x128.Idx → EReal) (ix2 r c) :=
    fun n c => four_apply (![early (F := Ideal) sh₀ s₀, late (F := Ideal) sh₀ s₀, early (F := Ideal) sh₁ s₁, late (F := Ideal) sh₁ s₁] : Fin 4 → (S128x128.Idx → EReal)) _ r n c
  have h0 : ∀ c : Fin 128, slabProbs (F := Ideal) sh₀ sh₁ s₀ s₁ (ix2 r ⟨c.val, by omega⟩) = early (F := Ideal) sh₀ s₀ (ix2 r c) := fun c => by
    have e : (⟨c.val, by omega⟩ : Fin 512) = ⟨128 * (0 : Fin 4).val + c.val, by show 128 * 0 + c.val < 512; omega⟩ := Fin.ext (by show c.val = 128 * 0 + c.val; omega)
    rw [e]; exact hp 0 c
  have h1 : ∀ c : Fin 128, slabProbs (F := Ideal) sh₀ sh₁ s₀ s₁ (ix2 r ⟨128 + c.val, by omega⟩) = late (F := Ideal) sh₀ s₀ (ix2 r c) := fun c => hp 1 c
  have h2 : ∀ c : Fin 128, slabProbs (F := Ideal) sh₀ sh₁ s₀ s₁ (ix2 r ⟨256 + c.val, by omega⟩) = early (F := Ideal) sh₁ s₁ (ix2 r c) := fun c => hp 2 c
  have h3 : ∀ c : Fin 128, slabProbs (F := Ideal) sh₀ sh₁ s₀ s₁ (ix2 r ⟨384 + c.val, by omega⟩) = late (F := Ideal) sh₁ s₁ (ix2 r c) := fun c => hp 3 c
  rw [sum_quarters]
  simp only [h0, h1, h2, h3, diag_apply]
  by_cases hd : d.val < 64
  · simp only [hd, if_true]
    rw [show (∑ c : Fin 128, early (F := Ideal) sh₁ s₁ (ix2 r c) * _) = (0 : EReal) from Finset.sum_eq_zero fun c _ => by
        rw [dif_neg (by simp), mul_zero],
      show (∑ c : Fin 128, late (F := Ideal) sh₁ s₁ (ix2 r c) * _) = (0 : EReal) from Finset.sum_eq_zero fun c _ => by
        rw [dif_neg (by show ¬(384 + c.val < 256); omega), mul_zero], add_zero, add_zero]
    refine congrArg₂ _ (Finset.sum_congr rfl fun c _ => ?_) (Finset.sum_congr rfl fun c _ => ?_)
    · rw [dif_pos (by show c.val < 256; omega)]
    · rw [dif_pos (by show 128 + c.val < 256; omega)]
  · simp only [hd, if_false]
    rw [show (∑ c : Fin 128, early (F := Ideal) sh₀ s₀ (ix2 r c) * _) = (0 : EReal) from Finset.sum_eq_zero fun c _ => by
        rw [dif_pos (by show c.val < 256; omega), mul_zero],
      show (∑ c : Fin 128, late (F := Ideal) sh₀ s₀ (ix2 r c) * _) = (0 : EReal) from Finset.sum_eq_zero fun c _ => by
        rw [dif_pos (by show 128 + c.val < 256; omega), mul_zero], zero_add, zero_add]
    refine congrArg₂ _ (Finset.sum_congr rfl fun c _ => ?_) (Finset.sum_congr rfl fun c _ => ?_)
    · rw [dif_neg (by show ¬(256 + c.val < 256); omega)]
      refine congrArg (_ * v ·) (congrArg (ix2 · d) (Fin.ext ?_))
      show 256 + c.val - 256 = c.val
      omega
    · rw [dif_neg (by show ¬(384 + c.val < 256); omega)]
      refine congrArg (_ * v ·) (congrArg (ix2 · d) (Fin.ext ?_))
      show 384 + c.val - 256 = 128 + c.val
      omega

/-- A slab's scale at an index. -/
theorem slabScale_apply (sh₀ sh₁ : FVec Ideal S128x128 .f32) (s₀ s₁ : EReal) (r d : Fin 128) :
    slabScale (F := Ideal) sh₀ sh₁ s₀ s₁ (ix2 r d)
      = if d.val < 64 then recip (F := Ideal) sh₀ s₀ (ix2 r 0) else recip (F := Ideal) sh₁ s₁ (ix2 r 0) := by
  unfold slabScale
  rw [select_of_iff _ _ _ _ (lanes128_apply r d), spread_apply, spread_apply, shapeCast_self, shapeCast_self]

/-- One row of a slab: the head's attention. -/
theorem slab_row (v : FVec Ideal S256x128 .bf16) (sh₀ sh₁ : FVec Ideal S128x128 .f32) (s₀ s₁ : EReal) (r d : Fin 128) :
    (∑ k : Fin 512, slabProbs (F := Ideal) sh₀ sh₁ s₀ s₁ (ix2 r k) * diag v (ix2 k d)) * slabScale (F := Ideal) sh₀ sh₁ s₀ s₁ (ix2 r d)
      = if d.val < 64 then attend r (fun c => sh₀ (ix2 r c)) (s₀ * log2e) (fun j => v (ix2 j d))
        else attend r (fun c => sh₁ (ix2 r c)) (s₁ * log2e) (fun j => v (ix2 j d)) := by
  rw [slab_sum, slabScale_apply]
  by_cases hd : d.val < 64
  · simp only [hd, if_true, early_apply, late_apply, recip_apply]
    rfl
  · simp only [hd, if_false, early_apply, late_apply, recip_apply]
    rfl

/-- The unit's product at an index, before the slabs are told apart. -/
theorem weigh_apply (v : FVec Ideal S256x128 .bf16) (sh₀ sh₁ sh₂ sh₃ : FVec Ideal S128x128 .f32) (s₀ s₁ s₂ s₃ : EReal)
    (r : Fin 256) (d : Fin 128) :
    weigh (F := Ideal) v sh₀ sh₁ sh₂ sh₃ s₀ s₁ s₂ s₃ (ix2 r d)
      = if hr : r.val < 128 then
          (if d.val < 64 then attend ⟨r, hr⟩ (fun c => sh₀ (ix2 ⟨r, hr⟩ c)) (s₀ * log2e) (fun j => v (ix2 j d))
            else attend ⟨r, hr⟩ (fun c => sh₁ (ix2 ⟨r, hr⟩ c)) (s₁ * log2e) (fun j => v (ix2 j d)))
        else
          (if d.val < 64 then attend ⟨r - 128, by omega⟩ (fun c => sh₂ (ix2 ⟨r - 128, by omega⟩ c)) (s₂ * log2e) (fun j => v (ix2 j d))
            else attend ⟨r - 128, by omega⟩ (fun c => sh₃ (ix2 ⟨r - 128, by omega⟩ c)) (s₃ * log2e) (fun j => v (ix2 j d))) := by
  unfold weigh
  rw [truncf_apply, mulf_apply]
  rw [show matmul (F := Ideal) dot_S256x512_S512x128_S256x128_1_0_0_1_n_n none _ _ _ (ix2 r d) = _ from
    Ideal.matmul_plain_apply (M := 256) (K := 512) (N := 128) none _ _ _ r d]
  rw [show constant (F := Ideal) S256x128 .f32 0x00000000#32 (ix2 r d) = (0 : EReal) from zero_word, zero_add]
  simp only [stack_probs, stack_slabs]
  by_cases hr : r.val < 128
  · simp only [dif_pos hr]
    exact slab_row v sh₀ sh₁ s₀ s₁ ⟨r, hr⟩ d
  · simp only [dif_neg hr]
    exact slab_row v sh₂ sh₃ s₂ s₃ ⟨r - 128, by omega⟩ d

/-- A score block cut out of the scores. -/
theorem block_apply (x : S256x512.Idx → EReal) (o p : ℕ) (h : S256x512.Slices ![o, p] S128x128) (ho : o + 128 ≤ 256) (hp : p + 128 ≤ 512)
    (r c : Fin 128) : extractStridedSlice S128x128 ![o, p] x h (ix2 r c) = x (ix2 ⟨o + r.val, by omega⟩ ⟨p + c.val, by omega⟩) :=
  extractStridedSlice_apply _ _ _ _ _ fun a => by
    match a with
    | ⟨0, _⟩ => rfl
    | ⟨1, _⟩ => rfl

/-- The folded base-2 logits of row `r` and head half `h` (0 or 1): queries `q` against the own block's key where the row
    sees the column, against the earlier block's elsewhere, plus the bias. -/
def foldedLogit (k : FVec Ideal S256x128 .bf16) (q : FVec Ideal S128x128 .bf16) (b : Vec Ideal S1x1x128x128 .f32) (h : Fin 2)
    (r c : Fin 128) : EReal :=
  (∑ e : Fin 64, q (ix2 r ⟨64 * h.val + e.val, by omega⟩)
      * k (ix2 ⟨(if c ≤ r then 128 else 0) + c.val, by split <;> omega⟩ ⟨64 * h.val + e.val, by omega⟩)) + b (ix4 0 0 r c)

/-- A head's logits cut out of the scores are its folded logits. -/
theorem head_logits (k : FVec Ideal S256x128 .bf16) (qa qb : FVec Ideal S128x128 .bf16) (b : Vec Ideal S1x1x128x128 .f32)
    (s h : Fin 2) (hp : S256x512.Slices ![128 * s.val, 256 * h.val] S128x128) (hc : S256x512.Slices ![128 * s.val, 256 * h.val + 128] S128x128)
    (r c : Fin 128) :
    logits (extractStridedSlice S128x128 ![128 * s.val, 256 * h.val] (scores k qa qb) hp)
      (extractStridedSlice S128x128 ![128 * s.val, 256 * h.val + 128] (scores k qa qb) hc) b (ix2 r c)
      = foldedLogit k (if s = 0 then qa else qb) b h r c := by
  rw [logits_apply, block_apply _ _ _ _ (by omega) (by omega), block_apply _ _ _ _ (by omega) (by omega), scores_apply, scores_apply]
  unfold foldedLogit
  refine congrArg (· + _) ?_
  have e1 : ∀ e : Fin 64, (⟨64 * ((256 * h.val + 128 + c.val) / 256) + e.val, by omega⟩ : Fin 128) = ⟨64 * h.val + e.val, by omega⟩ :=
    fun e => Fin.ext (by show 64 * ((256 * h.val + 128 + c.val) / 256) + e.val = 64 * h.val + e.val; omega)
  have e2 : ∀ e : Fin 64, (⟨64 * ((256 * h.val + c.val) / 256) + e.val, by omega⟩ : Fin 128) = ⟨64 * h.val + e.val, by omega⟩ :=
    fun e => Fin.ext (by show 64 * ((256 * h.val + c.val) / 256) + e.val = 64 * h.val + e.val; omega)
  have hq : ∀ d : Fin 128, (if hr : 128 * s.val + r.val < 128 then qa (ix2 ⟨128 * s.val + r.val, hr⟩ d)
      else qb (ix2 ⟨128 * s.val + r.val - 128, by omega⟩ d)) = (if s = 0 then qa else qb) (ix2 r d) := fun d => by
    by_cases hs : s = 0
    · rw [dif_pos (by subst hs; show 128 * 0 + r.val < 128; omega), if_pos hs]
      subst hs
      exact congrArg (fun r => qa (ix2 r d)) (Fin.ext (by show 128 * 0 + r.val = r.val; omega))
    · have hs' : s.val = 1 := by have := Fin.val_ne_of_ne hs; simp at this; omega
      rw [dif_neg (by omega), if_neg hs]
      exact congrArg (fun r => qb (ix2 r d)) (Fin.ext (by show 128 * s.val + r.val - 128 = r.val; omega))
  by_cases hcr : c ≤ r
  · rw [if_pos hcr]
    refine Finset.sum_congr rfl fun e _ => ?_
    rw [hq, e1]
    refine congrArg (_ * k ·) (congrArg (ix2 · _) (Fin.ext ?_))
    show (256 * h.val + 128 + c.val) % 256 = (if c ≤ r then 128 else 0) + c.val
    rw [if_pos hcr]; omega
  · rw [if_neg hcr]
    refine Finset.sum_congr rfl fun e _ => ?_
    rw [hq, e2]
    refine congrArg (_ * k ·) (congrArg (ix2 · _) (Fin.ext ?_))
    show (256 * h.val + c.val) % 256 = (if c ≤ r then 128 else 0) + c.val
    rw [if_neg hcr]; omega

/-- The upper slab's two heads, and the lower's, cut out of the scores. -/
theorem head00 (k : FVec Ideal S256x128 .bf16) (qa qb : FVec Ideal S128x128 .bf16) (b : Vec Ideal S1x1x128x128 .f32) (r : Fin 128) :
    (fun c => logits (extractStridedSlice S128x128 ![0, 0] (scores k qa qb) slices_S256x512_o0_0_S128x128)
      (extractStridedSlice S128x128 ![0, 128] (scores k qa qb) slices_S256x512_o0_128_S128x128) b (ix2 r c)) = foldedLogit k qa b 0 r :=
  funext fun c => head_logits k qa qb b 0 0 slices_S256x512_o0_0_S128x128 slices_S256x512_o0_128_S128x128 r c
theorem head01 (k : FVec Ideal S256x128 .bf16) (qa qb : FVec Ideal S128x128 .bf16) (b : Vec Ideal S1x1x128x128 .f32) (r : Fin 128) :
    (fun c => logits (extractStridedSlice S128x128 ![0, 256] (scores k qa qb) slices_S256x512_o0_256_S128x128)
      (extractStridedSlice S128x128 ![0, 384] (scores k qa qb) slices_S256x512_o0_384_S128x128) b (ix2 r c)) = foldedLogit k qa b 1 r :=
  funext fun c => head_logits k qa qb b 0 1 slices_S256x512_o0_256_S128x128 slices_S256x512_o0_384_S128x128 r c
theorem head10 (k : FVec Ideal S256x128 .bf16) (qa qb : FVec Ideal S128x128 .bf16) (b : Vec Ideal S1x1x128x128 .f32) (r : Fin 128) :
    (fun c => logits (extractStridedSlice S128x128 ![128, 0] (scores k qa qb) slices_S256x512_o128_0_S128x128)
      (extractStridedSlice S128x128 ![128, 128] (scores k qa qb) slices_S256x512_o128_128_S128x128) b (ix2 r c)) = foldedLogit k qb b 0 r :=
  funext fun c => head_logits k qa qb b 1 0 slices_S256x512_o128_0_S128x128 slices_S256x512_o128_128_S128x128 r c
theorem head11 (k : FVec Ideal S256x128 .bf16) (qa qb : FVec Ideal S128x128 .bf16) (b : Vec Ideal S1x1x128x128 .f32) (r : Fin 128) :
    (fun c => logits (extractStridedSlice S128x128 ![128, 256] (scores k qa qb) slices_S256x512_o128_256_S128x128)
      (extractStridedSlice S128x128 ![128, 384] (scores k qa qb) slices_S256x512_o128_384_S128x128) b (ix2 r c)) = foldedLogit k qb b 1 r :=
  funext fun c => head_logits k qa qb b 1 1 slices_S256x512_o128_256_S128x128 slices_S256x512_o128_384_S128x128 r c

/-- The two slabs cut out of a unit. -/
theorem slabA_apply (o : FVec Ideal S256x128 .bf16) (r d : Fin 128) : slabA (F := Ideal) o (ix2 r d) = o (ix2 ⟨r.val, by omega⟩ d) :=
  extractStridedSlice_apply _ _ _ (ix2 r d) (ix2 ⟨r.val, by omega⟩ d) (fun a => by
    match a with
    | ⟨0, _⟩ => exact (Nat.zero_add _).symm
    | ⟨1, _⟩ => exact (Nat.zero_add _).symm)
theorem slabB_apply (o : FVec Ideal S256x128 .bf16) (r d : Fin 128) : slabB (F := Ideal) o (ix2 r d) = o (ix2 ⟨128 + r.val, by omega⟩ d) :=
  extractStridedSlice_apply _ _ _ (ix2 r d) (ix2 ⟨128 + r.val, by omega⟩ d) (fun a => by
    match a with
    | ⟨0, _⟩ => rfl
    | ⟨1, _⟩ => exact (Nat.zero_add _).symm)

/-- **The upper slab at an index**: its low lanes attend with the first head's logits, its high ones with the second's. -/
theorem slabA_whole (k v : FVec Ideal S256x128 .bf16) (qa qb : FVec Ideal S128x128 .bf16) (b₀ b₁ b₂ b₃ : Vec Ideal S1x1x128x128 .f32)
    (s₀ s₁ s₂ s₃ : EReal) (r d : Fin 128) :
    slabA (whole (F := Ideal) k v qa qb b₀ b₁ b₂ b₃ s₀ s₁ s₂ s₃) (ix2 r d)
      = if d.val < 64 then attend r (foldedLogit k qa b₀ 0 r) (s₀ * log2e) (fun j => v (ix2 j d))
        else attend r (foldedLogit k qa b₁ 1 r) (s₁ * log2e) (fun j => v (ix2 j d)) := by
  unfold whole
  rw [slabA_apply, weigh_apply, dif_pos (show r.val < 128 from r.isLt)]
  rw [show (⟨(⟨r.val, by omega⟩ : Fin 256).val, r.isLt⟩ : Fin 128) = r from rfl, head00, head01]

/-- **The lower slab at an index**, likewise with the third and fourth heads. -/
theorem slabB_whole (k v : FVec Ideal S256x128 .bf16) (qa qb : FVec Ideal S128x128 .bf16) (b₀ b₁ b₂ b₃ : Vec Ideal S1x1x128x128 .f32)
    (s₀ s₁ s₂ s₃ : EReal) (r d : Fin 128) :
    slabB (whole (F := Ideal) k v qa qb b₀ b₁ b₂ b₃ s₀ s₁ s₂ s₃) (ix2 r d)
      = if d.val < 64 then attend r (foldedLogit k qb b₂ 0 r) (s₂ * log2e) (fun j => v (ix2 j d))
        else attend r (foldedLogit k qb b₃ 1 r) (s₃ * log2e) (fun j => v (ix2 j d)) := by
  unfold whole
  rw [slabB_apply, weigh_apply, dif_neg (show ¬(128 + r.val < 128) by omega)]
  have hr : ∀ h' h, (⟨(⟨128 + r.val, h'⟩ : Fin 256).val - 128, h⟩ : Fin 128) = r := fun _ _ => Fin.ext (by show 128 + r.val - 128 = r.val; omega)
  rw [hr, head10, head11]

end Cert.KernelIdeal.Att

end
-- ==== Proof.Att.Stores.lean ====
module

public import proofs.«01_k».proof.Proof.Att.Table
public import proofs.«01_k».proof.Proof.Att.UnitValue

@[expose] public section

set_option maxRecDepth 65536

noncomputable section

namespace Cert.KernelIdeal.Att

open Cert.KernelIdeal Cert.KernelIdeal.Gen Idealize.ShloMosaic Idealize.ShloMosaic.TcCoe Idealize.SL.Sem Idealize.ShloMosaic.Tactic
open Idealize.ShloMosaic.ValueIdx
open scoped BigOperators

/-! # What a point's stores leave, at an index -/

section
variable (B : BandLd Ideal) (Q : QueryLd Ideal) (T : BiasLd Ideal) (S : SinkLd Ideal)

/-- Row `r`, lane `d` of block `b`, key/value head `h`, slab `s`, half `f` of the slab: the attention of head
    `4h + 2s + f`, with the bias table `tb`. -/
def headRow (tb : Fin 2) (b : Fin 16) (h s f : Fin 2) (r d : Fin 128) : EReal :=
  attend r
    (foldedLogit (B ![128 * b.val, 128 * h.val] (inbBand (by omega) (by omega)))
      (Q ![128 * b.val, 256 * h.val + 128 * s.val] (inbTile (by omega) (by omega)))
      (T ![tb.val, h.val, 128 * s.val, 128 * f.val] (inbBias (by omega) (by omega) (by omega) (by omega))) f r)
    (S ![0, 4 * h.val + 2 * s.val + f.val] (inbSink (by omega)) * log2e)
    (fun j => B ![128 * b.val, 128 * h.val + 256] (inbBand (by omega) (by omega)) (ix2 j d))

/-- The bias table a block reads: the masked one in the first block of the first point. -/
def tableOf (t0 : Fin 2) (b : Fin 16) : Fin 2 := if b = 0 then t0 else 1

/-- The value a point leaves at an index of its tile. -/
def tileValue (t0 : Fin 2) (y : S2048x512.Idx) : EReal :=
  headRow B Q T S (tableOf t0 ⟨(y 0).val / 128, by have : (y 0).val < 2048 := (y 0).isLt; omega⟩)
    ⟨(y 0).val / 128, by have : (y 0).val < 2048 := (y 0).isLt; omega⟩
    ⟨(y 1).val / 256, by have : (y 1).val < 512 := (y 1).isLt; omega⟩
    ⟨(y 1).val % 256 / 128, by omega⟩ ⟨(y 1).val % 128 / 64, by omega⟩
    ⟨(y 0).val % 128, by omega⟩ ⟨(y 1).val % 128, by omega⟩

/-- The tile's value at the place of row `r` and lane `d` of a slab. -/
theorem tileValue_at (t0 : Fin 2) (b : Fin 16) (h s : Fin 2) (r d : Fin 128) (y : S2048x512.Idx)
    (h0 : (y 0).val = 128 * b.val + r.val) (h1 : (y 1).val = 256 * h.val + 128 * s.val + d.val) :
    tileValue B Q T S t0 y = headRow B Q T S (tableOf t0 b) b h s ⟨d.val / 64, by omega⟩ r d := by
  have e1 : ∀ p, (⟨(y 0).val / 128, p⟩ : Fin 16) = b := fun _ => Fin.ext (by show (y 0).val / 128 = b.val; omega)
  have e2 : ∀ p, (⟨(y 1).val / 256, p⟩ : Fin 2) = h := fun _ => Fin.ext (by show (y 1).val / 256 = h.val; omega)
  have e3 : ∀ p, (⟨(y 1).val % 256 / 128, p⟩ : Fin 2) = s := fun _ => Fin.ext (by show (y 1).val % 256 / 128 = s.val; omega)
  have e4 : ∀ p, (⟨(y 1).val % 128 / 64, p⟩ : Fin 2) = ⟨d.val / 64, by omega⟩ :=
    fun _ => Fin.ext (by show (y 1).val % 128 / 64 = d.val / 64; omega)
  have e5 : ∀ p, (⟨(y 0).val % 128, p⟩ : Fin 128) = r := fun _ => Fin.ext (by show (y 0).val % 128 = r.val; omega)
  have e6 : ∀ p, (⟨(y 1).val % 128, p⟩ : Fin 128) = d := fun _ => Fin.ext (by show (y 1).val % 128 = d.val; omega)
  unfold tileValue
  rw [e1, e2, e3, e4, e5, e6]

/-- A piece agrees with the tile's value wherever it stores. -/
def Agrees (t0 : Fin 2) (p : View.Piece (Elt Ideal) S2048x512 .bf16) : Prop := ∀ x, p.2 x = tileValue B Q T S t0 (p.1.emb x)

theorem half_of_lane {d : Fin 128} : (⟨d.val / 64, by omega⟩ : Fin 2) = if d.val < 64 then 0 else 1 := by
  split
  · exact Fin.ext (by show d.val / 64 = 0; omega)
  · exact Fin.ext (by show d.val / 64 = 1; omega)

theorem agrees_storeA (t0 : Fin 2) (b : Fin 16) (h : Fin 2) :
    Agrees B Q T S t0 (storeA B Q T S (tableOf t0 b).val b.val h.val (tableOf t0 b).isLt b.isLt h.isLt) := by
  intro x
  obtain ⟨r, d, rfl⟩ : ∃ (r d : Fin 128), x = ix2 r d := ⟨x 0, x 1, eq_ix2 x⟩
  rw [tileValue_at B Q T S t0 b h 0 r d _ (by show 128 * b.val + 1 * r.val = _; omega) (by show 256 * h.val + 1 * d.val = 256 * h.val + 128 * 0 + d.val; omega),
    half_of_lane]
  refine (slabA_whole _ _ _ _ _ _ _ _ _ _ _ _ r d).trans ?_
  split
  · rfl
  · rfl

theorem agrees_storeB (t0 : Fin 2) (b : Fin 16) (h : Fin 2) :
    Agrees B Q T S t0 (storeB B Q T S (tableOf t0 b).val b.val h.val (tableOf t0 b).isLt b.isLt h.isLt) := by
  intro x
  obtain ⟨r, d, rfl⟩ : ∃ (r d : Fin 128), x = ix2 r d := ⟨x 0, x 1, eq_ix2 x⟩
  rw [tileValue_at B Q T S t0 b h 1 r d _ (by show 128 * b.val + 1 * r.val = _; omega) (by show 256 * h.val + 128 + 1 * d.val = 256 * h.val + 128 * 1 + d.val; omega),
    half_of_lane]
  refine (slabB_whole _ _ _ _ _ _ _ _ _ _ _ _ r d).trans ?_
  split
  · rfl
  · rfl

/-- A block's stores agree if the earlier ones do. -/
theorem agrees_block (t0 : Fin 2) (b tb : Nat) (hb : b < 16) (ht : tb < 2) (e : tb = (tableOf t0 ⟨b, hb⟩).val)
    (L : List (View.Piece (Elt Ideal) S2048x512 .bf16)) (hL : ∀ p ∈ L, Agrees B Q T S t0 p) :
    ∀ p ∈ blockStores B Q T S tb b ht hb L, Agrees B Q T S t0 p := by
  subst e
  intro p hp
  rcases List.mem_cons.1 hp with rfl | hp
  · exact agrees_storeB B Q T S t0 ⟨b, hb⟩ 1
  rcases List.mem_cons.1 hp with rfl | hp
  · exact agrees_storeA B Q T S t0 ⟨b, hb⟩ 1
  rcases List.mem_cons.1 hp with rfl | hp
  · exact agrees_storeB B Q T S t0 ⟨b, hb⟩ 0
  rcases List.mem_cons.1 hp with rfl | hp
  · exact agrees_storeA B Q T S t0 ⟨b, hb⟩ 0
  · exact hL p hp

/-- The same for a block after the first, which reads the plain table. -/
theorem agrees_later (t0 : Fin 2) (b : Nat) (hb : b < 16) (hb0 : b ≠ 0) (ht : 1 < 2)
    (L : List (View.Piece (Elt Ideal) S2048x512 .bf16)) (hL : ∀ p ∈ L, Agrees B Q T S t0 p) :
    ∀ p ∈ blockStores B Q T S 1 b ht hb L, Agrees B Q T S t0 p :=
  agrees_block B Q T S t0 b 1 hb ht (by unfold tableOf; rw [if_neg fun h => hb0 (congrArg Fin.val h)]; rfl) L hL

/-- **A point's stores agree with the tile's value.** -/
theorem agrees_point (i : grid0.Coords) : ∀ p ∈ pointStores B Q T S i, Agrees B Q T S ⟨table0 i, table0_lt i⟩ p := by
  unfold pointStores
  iterate 15 refine agrees_later B Q T S _ _ _ (by decide) _ _ ?_
  exact agrees_block B Q T S _ 0 (table0 i) _ _ rfl _ (fun _ h => absurd h List.not_mem_nil)

end

/-! ## The band -/

/-- The band at an index: the block before, then the tile. -/
def bandValue (kv : Vec Ideal S2048x512 .bf16) (kvp : Vec Ideal S128x512 .bf16) (y : S2176x512.Idx) : EReal :=
  if h : (y 0).val < 128 then kvp (ix2 ⟨(y 0).val, h⟩ ⟨(y 1).val, (y 1).isLt⟩)
  else kv (ix2 ⟨(y 0).val - 128, by have : (y 0).val < 2176 := (y 0).isLt; omega⟩ ⟨(y 1).val, (y 1).isLt⟩)

theorem bandPieces_agree (kv : Vec Ideal S2048x512 .bf16) (kvp : Vec Ideal S128x512 .bf16) :
    ∀ p ∈ bandPieces (F := Ideal) kv kvp, ∀ x, p.2 x = bandValue kv kvp (p.1.emb x) := by
  intro p hp
  rcases List.mem_cons.1 hp with rfl | hp
  · intro x
    show shapeCast S2048x512 (shapeCast S2048x512 kv _) _ x = _
    rw [shapeCast_self, shapeCast_self]
    unfold bandValue
    rw [dif_neg (by show ¬(128 + 1 * (x 0).val < 128); omega)]
    refine congrArg kv ((eq_ix2 x).trans ?_)
    refine congrArg₂ ix2 (Fin.ext ?_) (Fin.ext ?_)
    · show (x 0).val = 128 + 1 * (x 0).val - 128; omega
    · show (x 1).val = 0 + 1 * (x 1).val; omega
  rcases List.mem_cons.1 hp with rfl | hp
  · intro x
    show shapeCast S128x512 (shapeCast S128x512 kvp _) _ x = _
    rw [shapeCast_self, shapeCast_self]
    have hx : (x 0).val < 128 := (x 0).isLt
    unfold bandValue
    rw [dif_pos (by show 0 + 1 * (x 0).val < 128; omega)]
    refine congrArg kvp ((eq_ix2 x).trans ?_)
    refine congrArg₂ ix2 (Fin.ext ?_) (Fin.ext ?_)
    · show (x 0).val = 0 + 1 * (x 0).val; omega
    · show (x 1).val = 0 + 1 * (x 1).val; omega
  · exact absurd hp List.not_mem_nil

/-- The two stores cover the band. -/
theorem bandPieces_cover (kv : Vec Ideal S2048x512 .bf16) (kvp : Vec Ideal S128x512 .bf16) (y : S2176x512.Idx) :
    ∃ p ∈ bandPieces (F := Ideal) kv kvp, y ∈ p.1.set := by
  have h0 : (y 0).val < 2176 := (y 0).isLt
  have h1 : (y 1).val < 512 := (y 1).isLt
  by_cases h : (y 0).val < 128
  · refine ⟨_, List.mem_cons_of_mem _ (List.mem_cons_self), ?_⟩
    rw [Rect.mem_set_unit]
    intro a
    match a with
    | ⟨0, _⟩ => exact ⟨Nat.zero_le _, by show (y 0).val < 0 + 128; omega⟩
    | ⟨1, _⟩ => exact ⟨Nat.zero_le _, by show (y 1).val < 0 + 512; omega⟩
  · refine ⟨_, List.mem_cons_self, ?_⟩
    rw [Rect.mem_set_unit]
    intro a
    match a with
    | ⟨0, _⟩ => exact ⟨by show 128 ≤ (y 0).val; omega, by show (y 0).val < 128 + 2048; omega⟩
    | ⟨1, _⟩ => exact ⟨Nat.zero_le _, by show (y 1).val < 0 + 512; omega⟩

/-- A load of the band reads the band's value. -/
theorem band_load {sig' : RefSig} {κ' : Kind} {sp : Space} (v : View sig' κ' sp S2176x512 .bf16) (kv : Vec Ideal S2048x512 .bf16)
    (kvp : Vec Ideal S128x512 .bf16) (R : LoadRect S2176x512) :
    v.readCov (bandPieces (F := Ideal) kv kvp) R = fun j => bandValue kv kvp (R.idx j) := by
  rw [View.readCov_eq_canon v _ _ fun j => bandPieces_cover kv kvp _]
  funext j
  exact View.canon_apply_of_pieces (bandValue kv kvp) _ (bandPieces_agree kv kvp) _ (bandPieces_cover kv kvp _)

/-! ## The bias table -/

section
variable (bk : Vec Ideal S128x256 .i32) (R : RelLd Ideal)

/-- Head `h`'s bias, in base 2, at row `r` and folded column `c`. -/
def biasValue (h : Fin 8) (r c : Fin 128) : EReal :=
  gathered (F := Ideal) bk R h.val h.isLt 32 (Nat.le_refl 32) (ix2 r ⟨(if c ≤ r then 128 else 0) + c.val, by split <;> omega⟩)

/-- The table's entry for table `t` (0 the masked one), head `h`, row `r` and column `c`. -/
def tableEntry (t : Fin 2) (h : Fin 8) (r c : Fin 128) : EReal :=
  if t = 0 then (if c ≤ r then biasValue bk R h r c else ⊥) else biasValue bk R h r c

/-- The bias table at an index. -/
def tableValue (y : S2x2x256x256.Idx) : EReal :=
  tableEntry bk R ⟨(y 0).val, (y 0).isLt⟩
    ⟨4 * (y 1).val + 2 * ((y 2).val / 128) + (y 3).val / 128, by
      have h1 : (y 1).val < 2 := (y 1).isLt
      have h2 : (y 2).val < 256 := (y 2).isLt
      have h3 : (y 3).val < 256 := (y 3).isLt
      omega⟩
    ⟨(y 2).val % 128, by omega⟩ ⟨(y 3).val % 128, by omega⟩

theorem tableValue_at (t k s f : Fin 2) (r c : Fin 128) (y : S2x2x256x256.Idx) (h0 : (y 0).val = t.val) (h1 : (y 1).val = k.val)
    (h2 : (y 2).val = 128 * s.val + r.val) (h3 : (y 3).val = 128 * f.val + c.val) :
    tableValue bk R y = tableEntry bk R t ⟨4 * k.val + 2 * s.val + f.val, by omega⟩ r c := by
  have e0 : (⟨(y 0).val, (y 0).isLt⟩ : Fin 2) = t := Fin.ext h0
  have e1 : ∀ p, (⟨4 * (y 1).val + 2 * ((y 2).val / 128) + (y 3).val / 128, p⟩ : Fin 8) = ⟨4 * k.val + 2 * s.val + f.val, by omega⟩ :=
    fun _ => Fin.ext (by show 4 * (y 1).val + 2 * ((y 2).val / 128) + (y 3).val / 128 = 4 * k.val + 2 * s.val + f.val; omega)
  have e2 : ∀ p, (⟨(y 2).val % 128, p⟩ : Fin 128) = r := fun _ => Fin.ext (by show (y 2).val % 128 = r.val; omega)
  have e3 : ∀ p, (⟨(y 3).val % 128, p⟩ : Fin 128) = c := fun _ => Fin.ext (by show (y 3).val % 128 = c.val; omega)
  exact congr (congr (congr (congrArg (tableEntry bk R) e0) (e1 _)) (e2 _)) (e3 _)

theorem folded_apply (h : Fin 8) (r c : Fin 128) : folded (F := Ideal) bk R h.val h.isLt (ix2 r c) = biasValue bk R h r c := by
  unfold folded biasValue
  rw [select_of_iff _ _ _ _ (own_apply r c)]
  by_cases hcr : c ≤ r
  · rw [if_pos hcr]
    refine extractStridedSlice_apply _ _ _ _ _ fun a => ?_
    match a with
    | ⟨0, _⟩ => exact (Nat.zero_add _).symm
    | ⟨1, _⟩ => show (if c ≤ r then 128 else 0) + c.val = 128 + c.val; rw [if_pos hcr]
  · rw [if_neg hcr]
    refine extractStridedSlice_apply _ _ _ _ _ fun a => ?_
    match a with
    | ⟨0, _⟩ => exact (Nat.zero_add _).symm
    | ⟨1, _⟩ => show (if c ≤ r then 128 else 0) + c.val = 0 + c.val; rw [if_neg hcr]

theorem mask_eq : Named.named (F := Ideal) κ "mask" (φ := .f32) 0xF149F2CA#32 = (⊥ : EReal) :=
  IdealRules.named_const.ideal_named_scalar _ _ _ _ rfl

theorem foldedMasked_apply (h : Fin 8) (r c : Fin 128) :
    foldedMasked (F := Ideal) bk R h.val h.isLt (ix2 r c) = if c ≤ r then biasValue bk R h r c else ⊥ := by
  unfold foldedMasked
  rw [select_of_iff _ _ _ _ (own_apply r c), folded_apply]
  exact if_congr Iff.rfl rfl mask_eq

/-- A block of the table cast to the stored shape. -/
theorem stored_apply (x : S128x128.Idx → EReal) (a b : Fin 1) (r c : Fin 128) :
    shapeCast S1x1x128x128 x shapeCasts_S128x128_S1x1x128x128 (ix4 a b r c) = x (ix2 r c) :=
  shapeCast_apply _ _ _ _ (by
    rw [Shape.rowMajor_val_two, Shape.rowMajor_val_four]
    show r.val * 128 + c.val = ((a.val * 1 + b.val) * 128 + r.val) * 128 + c.val
    omega)

/-- A head's two stores agree with the table if the earlier ones do. -/
theorem agrees_head (k s f : Fin 2) (L : List (View.Piece (Elt Ideal) S2x2x256x256 .f32))
    (hL : ∀ p ∈ L, ∀ x, p.2 x = tableValue bk R (p.1.emb x)) :
    ∀ p ∈ headStores (F := Ideal) bk R (4 * k.val + 2 * s.val + f.val) k.val (128 * s.val) (128 * f.val) (by omega) k.isLt (by omega) (by omega) L,
      ∀ x, p.2 x = tableValue bk R (p.1.emb x) := by
  intro p hp
  rcases List.mem_cons.1 hp with rfl | hp
  · intro x
    obtain ⟨a, b, r, c, rfl⟩ : ∃ (a b : Fin 1) (r c : Fin 128), x = ix4 a b r c := ⟨x 0, x 1, x 2, x 3, eq_ix4 x⟩
    rw [tableValue_at bk R 0 k s f r c _ (by show 0 + 1 * a.val = 0; omega) (by show k.val + 1 * b.val = k.val; omega)
      (by show 128 * s.val + 1 * r.val = _; omega) (by show 128 * f.val + 1 * c.val = _; omega)]
    refine (stored_apply _ a b r c).trans ((foldedMasked_apply bk R ⟨_, by omega⟩ r c).trans ?_)
    unfold tableEntry
    rw [if_pos rfl]
  rcases List.mem_cons.1 hp with rfl | hp
  · intro x
    obtain ⟨a, b, r, c, rfl⟩ : ∃ (a b : Fin 1) (r c : Fin 128), x = ix4 a b r c := ⟨x 0, x 1, x 2, x 3, eq_ix4 x⟩
    rw [tableValue_at bk R 1 k s f r c _ (by show 1 + 1 * a.val = 1; omega) (by show k.val + 1 * b.val = k.val; omega)
      (by show 128 * s.val + 1 * r.val = _; omega) (by show 128 * f.val + 1 * c.val = _; omega)]
    refine (stored_apply _ a b r c).trans ((folded_apply bk R ⟨_, by omega⟩ r c).trans ?_)
    unfold tableEntry
    rw [if_neg (by decide)]
  · exact hL p hp

/-- The first point's stores agree with the table. -/
theorem agrees_table : ∀ p ∈ tableStores (F := Ideal) bk R, ∀ x, p.2 x = tableValue bk R (p.1.emb x) :=
  agrees_head bk R 1 1 1 _ <| agrees_head bk R 1 1 0 _ <| agrees_head bk R 1 0 1 _ <| agrees_head bk R 1 0 0 _ <|
  agrees_head bk R 0 1 1 _ <| agrees_head bk R 0 1 0 _ <| agrees_head bk R 0 0 1 _ <| agrees_head bk R 0 0 0 _
    (fun _ h => absurd h List.not_mem_nil)

end

end Cert.KernelIdeal.Att

end
-- ==== Proof.Att.Points.lean ====
module

public import proofs.«01_k».proof.Proof.Att.Stores
public import proofs.«01_k».proof.Proof.Gen.KernelIdeal.Frame

@[expose] public section

set_option maxRecDepth 65536

noncomputable section

namespace Cert.KernelIdeal.Att

open Cert.KernelIdeal Cert.KernelIdeal.Gen Idealize.ShloMosaic Idealize.ShloMosaic.TcCoe Idealize.SL.Sem Idealize.ShloMosaic.Tactic
open Idealize.ShloMosaic.ValueIdx
open scoped BigOperators

/-! # What a grid point leaves, from its blocks -/

/-- Loads of the band over its two sources. -/
def bandOf (kv : Vec Ideal S2048x512 .bf16) (kvp : Vec Ideal S128x512 .bf16) : BandLd Ideal := fun off inb j =>
  bandValue kv kvp ((Rect.unit (s := S2176x512) off S256x128.size inb).toLoadRect.idx j)
/-- Loads of the queries from their block. -/
def queryOf (x : Vec Ideal S2048x512 .bf16) : QueryLd Ideal := fun off inb j =>
  x ((Rect.unit (s := S2048x512) off S128x128.size inb).toLoadRect.idx j)
/-- Loads of the biases from their table. -/
def biasOf (x : Vec Ideal S2x2x256x256 .f32) : BiasLd Ideal := fun off inb j =>
  x ((Rect.unit (s := S2x2x256x256) off S1x1x128x128.size inb).toLoadRect.idx j)
/-- Loads of the sink logits. -/
def sinkFrom (x : Vec Ideal S1x8 .f32) : SinkLd Ideal := fun off inb =>
  x ((Rect.unit (s := S1x8) off S1x1.size inb).toLoadRect.idx (Shape.Idx.first (numel1_S1x1.symm ▸ Nat.one_pos)))
/-- Loads of the relative biases. -/
def relOf (x : Vec Ideal S32x8 .f32) : RelLd Ideal := fun off inb =>
  x ((Rect.unit (s := S32x8) off S1x1.size inb).toLoadRect.idx (Shape.Idx.first (numel1_S1x1.symm ▸ Nat.one_pos)))

section
variable {sig' : RefSig} {k' : Kind} {sp : Space}

/-- A load of a whole block that holds `x`. -/
theorem load_of_whole {s : Shape} {e : EltTy} (a : Memref sig' k' sp s e) (ha : a.IsWhole) (x : Vec Ideal s e) (R : LoadRect s) :
    View.readAt (Elt Ideal) a.view R (ha.unread x) = fun j => x (R.idx j) := by
  show (fun j => a.view.read (Elt Ideal) (ha.unread x) (R.idx j)) = _
  rw [ha.read_unread]

/-- A load of the whole of such a block. -/
theorem load_all {s : Shape} {e : EltTy} (a : Memref sig' k' sp s e) (ha : a.IsWhole) (x : Vec Ideal s e) (off : Fin s.rank → ℕ)
    (h0 : ∀ d, off d = 0) (inb : ∀ d, off d + s.size d ≤ s.size d) :
    View.readAt (Elt Ideal) a.view (Rect.unit (s := s) off s.size inb).toLoadRect (ha.unread x) = x := by
  refine (load_of_whole a ha x _).trans (funext fun j => congrArg x (funext fun d => Fin.ext ?_))
  show off d + 1 * (j d).val = (j d).val
  rw [h0 d]; omega

theorem zero_two : ∀ d : Fin 2, (![0, 0] : Fin 2 → ℕ) d = 0 := fun d => match d with | ⟨0, _⟩ => rfl | ⟨1, _⟩ => rfl

end

/-- What the first point stores into the bias table, at an index. -/
theorem table_canon (c : Dev nD) (i : grid0.Coords) (arg1 : Memref sig .tc .smem S1x8 .f32) (harg1 : arg1.IsWhole) (arg2 : Memref sig .tc .smem S32x8 .f32) (harg2 : arg2.IsWhole) (arg3 : Memref sig .tc .vmem S128x256 .i32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S128x512 .bf16) (harg6 : arg6.IsWhole) (arg7 : Memref sig .tc .vmem S2048x512 .bf16) (harg7 : arg7.IsWhole) (arg8 : Memref sig .tc .vmem S2176x512 .bf16) (harg8 : arg8.IsWhole) (arg9 : Memref sig .tc .vmem S2x2x256x256 .f32) (harg9 : arg9.IsWhole) (hc0 : cond0_0 i) (x0 : Vec Ideal S1x8 .f32) (x1 : Vec Ideal S32x8 .f32) (x2 : Vec Ideal S128x256 .i32) (x3 : Vec Ideal S2048x512 .bf16) (x4 : Vec Ideal S2048x512 .bf16) (x5 : Vec Ideal S128x512 .bf16) (y : S2x2x256x256.Idx) :
    View.canon (kernelRun0_A (F := Ideal) c i arg1 harg1 arg2 harg2 arg3 harg3 arg4 harg4 arg5 harg5 arg6 harg6 arg7 harg7 arg8 harg8 arg9 harg9 hc0 x0 x1 x2 x3 x4 x5).2.1 y = tableValue x2 (relOf x1) y := by
  refine View.canon_apply_of_pieces (tableValue x2 (relOf x1)) _ ?_ y (scover0_A_1 c i arg1 harg1 arg2 harg2 arg3 harg3 arg4 harg4 arg5 harg5 arg6 harg6 arg7 harg7 arg8 harg8 arg9 harg9 hc0 x0 x1 x2 x3 x4 x5 y)
  rw [stores_table, load_all arg3 harg3 x2 _ zero_two]
  have eR : (fun off inb => View.readAt (Elt Ideal) arg2.view (Rect.unit (s := S32x8) off S1x1.size inb).toLoadRect (harg2.unread x1) (Shape.Idx.first (numel1_S1x1.symm ▸ Nat.one_pos)) : RelLd Ideal) = relOf x1 :=
    funext fun off => funext fun inb => congrFun (load_of_whole arg2 harg2 x1 _) _
  rw [eR]
  exact agrees_table x2 (relOf x1)

/-- The scratch the first point leaves is the bias table. -/
theorem scratch_A (c : Dev nD) (i : grid0.Coords) (arg1 : Memref sig .tc .smem S1x8 .f32) (harg1 : arg1.IsWhole) (arg2 : Memref sig .tc .smem S32x8 .f32) (harg2 : arg2.IsWhole) (arg3 : Memref sig .tc .vmem S128x256 .i32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S128x512 .bf16) (harg6 : arg6.IsWhole) (arg7 : Memref sig .tc .vmem S2048x512 .bf16) (harg7 : arg7.IsWhole) (arg8 : Memref sig .tc .vmem S2176x512 .bf16) (harg8 : arg8.IsWhole) (arg9 : Memref sig .tc .vmem S2x2x256x256 .f32) (harg9 : arg9.IsWhole) (hc0 : cond0_0 i) (x0 : Vec Ideal S1x8 .f32) (x1 : Vec Ideal S32x8 .f32) (x2 : Vec Ideal S128x256 .i32) (x3 : Vec Ideal S2048x512 .bf16) (x4 : Vec Ideal S2048x512 .bf16) (x5 : Vec Ideal S128x512 .bf16) :
    sout0_A_1 (F := Ideal) c i arg1 harg1 arg2 harg2 arg3 harg3 arg4 harg4 arg5 harg5 arg6 harg6 arg7 harg7 arg8 harg8 arg9 harg9 hc0 x0 x1 x2 x3 x4 x5 = tableValue x2 (relOf x1) := by
  funext y
  show VS0_1.read (Elt Ideal) (VS0_1.writes (Elt Ideal) VS0_1.junk (kernelRun0_A (F := Ideal) c i arg1 harg1 arg2 harg2 arg3 harg3 arg4 harg4 arg5 harg5 arg6 harg6 arg7 harg7 arg8 harg8 arg9 harg9 hc0 x0 x1 x2 x3 x4 x5).2.1) y = _
  rw [View.read_writes_eq_canon VS0_1 _ _ (scover0_A_1 c i arg1 harg1 arg2 harg2 arg3 harg3 arg4 harg4 arg5 harg5 arg6 harg6 arg7 harg7 arg8 harg8 arg9 harg9 hc0 x0 x1 x2 x3 x4 x5)]
  exact table_canon c i arg1 harg1 arg2 harg2 arg3 harg3 arg4 harg4 arg5 harg5 arg6 harg6 arg7 harg7 arg8 harg8 arg9 harg9 hc0 x0 x1 x2 x3 x4 x5 y

set_option maxHeartbeats 1000000 in
/-- **The first point leaves the tile's value.** -/
theorem out_A (c : Dev nD) (i : grid0.Coords) (arg1 : Memref sig .tc .smem S1x8 .f32) (harg1 : arg1.IsWhole) (arg2 : Memref sig .tc .smem S32x8 .f32) (harg2 : arg2.IsWhole) (arg3 : Memref sig .tc .vmem S128x256 .i32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S128x512 .bf16) (harg6 : arg6.IsWhole) (arg7 : Memref sig .tc .vmem S2048x512 .bf16) (harg7 : arg7.IsWhole) (arg8 : Memref sig .tc .vmem S2176x512 .bf16) (harg8 : arg8.IsWhole) (arg9 : Memref sig .tc .vmem S2x2x256x256 .f32) (harg9 : arg9.IsWhole) (hc0 : cond0_0 i) (x0 : Vec Ideal S1x8 .f32) (x1 : Vec Ideal S32x8 .f32) (x2 : Vec Ideal S128x256 .i32) (x3 : Vec Ideal S2048x512 .bf16) (x4 : Vec Ideal S2048x512 .bf16) (x5 : Vec Ideal S128x512 .bf16) :
    out0_A_6 (F := Ideal) c i arg1 harg1 arg2 harg2 arg3 harg3 arg4 harg4 arg5 harg5 arg6 harg6 arg7 harg7 arg8 harg8 arg9 harg9 hc0 x0 x1 x2 x3 x4 x5 = tileValue (bandOf x4 x5) (queryOf x3) (biasOf (tableValue x2 (relOf x1))) (sinkFrom x0) ⟨table0 i, table0_lt i⟩ := by
  funext y
  have hp : ∀ p ∈ (kernelRun0_A (F := Ideal) c i arg1 harg1 arg2 harg2 arg3 harg3 arg4 harg4 arg5 harg5 arg6 harg6 arg7 harg7 arg8 harg8 arg9 harg9 hc0 x0 x1 x2 x3 x4 x5).1,
      Agrees (bandOf x4 x5) (queryOf x3) (biasOf (tableValue x2 (relOf x1))) (sinkFrom x0) ⟨table0 i, table0_lt i⟩ p := by
    rw [stores_A]
    have eB : (fun off inb => arg8.view.readCov (bandPieces
          (View.readAt (Elt Ideal) arg5.view (Rect.unit (s := S2048x512) ![0, 0] S2048x512.size inb_S2048x512_S2048x512_0_0).toLoadRect (harg5.unread x4))
          (View.readAt (Elt Ideal) arg6.view (Rect.unit (s := S128x512) ![0, 0] S128x512.size inb_S128x512_S128x512_0_0).toLoadRect (harg6.unread x5)))
        (Rect.unit (s := S2176x512) off S256x128.size inb).toLoadRect : BandLd Ideal) = bandOf x4 x5 := by
      rw [load_all arg5 harg5 x4 _ zero_two, load_all arg6 harg6 x5 _ zero_two]
      exact funext fun off => funext fun inb => band_load arg8.view x4 x5 _
    have eQ : (fun off inb => View.readAt (Elt Ideal) arg4.view (Rect.unit (s := S2048x512) off S128x128.size inb).toLoadRect (harg4.unread x3) : QueryLd Ideal) = queryOf x3 :=
      funext fun off => funext fun inb => load_of_whole arg4 harg4 x3 _
    have eS : (fun off inb => View.readAt (Elt Ideal) arg1.view (Rect.unit (s := S1x8) off S1x1.size inb).toLoadRect (harg1.unread x0) (Shape.Idx.first (numel1_S1x1.symm ▸ Nat.one_pos)) : SinkLd Ideal) = sinkFrom x0 :=
      funext fun off => funext fun inb => congrFun (load_of_whole arg1 harg1 x0 _) _
    have eT : (fun off inb => arg9.view.readCov (kernelRun0_A (F := Ideal) c i arg1 harg1 arg2 harg2 arg3 harg3 arg4 harg4 arg5 harg5 arg6 harg6 arg7 harg7 arg8 harg8 arg9 harg9 hc0 x0 x1 x2 x3 x4 x5).2.1
        (Rect.unit (s := S2x2x256x256) off S1x1x128x128.size inb).toLoadRect : BiasLd Ideal) = biasOf (tableValue x2 (relOf x1)) := by
      funext off inb j
      have h := View.readCov_eq_canon arg9.view (kernelRun0_A (F := Ideal) c i arg1 harg1 arg2 harg2 arg3 harg3 arg4 harg4 arg5 harg5 arg6 harg6 arg7 harg7 arg8 harg8 arg9 harg9 hc0 x0 x1 x2 x3 x4 x5).2.1
        (Rect.unit (s := S2x2x256x256) off S1x1x128x128.size inb).toLoadRect (fun j => scover0_A_1 c i arg1 harg1 arg2 harg2 arg3 harg3 arg4 harg4 arg5 harg5 arg6 harg6 arg7 harg7 arg8 harg8 arg9 harg9 hc0 x0 x1 x2 x3 x4 x5 _)
      refine (congrFun h j).trans ?_
      exact table_canon c i arg1 harg1 arg2 harg2 arg3 harg3 arg4 harg4 arg5 harg5 arg6 harg6 arg7 harg7 arg8 harg8 arg9 harg9 hc0 x0 x1 x2 x3 x4 x5 _
    rw [eB, eQ, eT, eS]
    exact agrees_point _ _ _ _ i
  show VO0_6.read (Elt Ideal) (VO0_6.writes (Elt Ideal) VO0_6.junk (kernelRun0_A (F := Ideal) c i arg1 harg1 arg2 harg2 arg3 harg3 arg4 harg4 arg5 harg5 arg6 harg6 arg7 harg7 arg8 harg8 arg9 harg9 hc0 x0 x1 x2 x3 x4 x5).1) y = _
  rw [View.read_writes_eq_canon VO0_6 _ _ (cover0_A_6 c i arg1 harg1 arg2 harg2 arg3 harg3 arg4 harg4 arg5 harg5 arg6 harg6 arg7 harg7 arg8 harg8 arg9 harg9 hc0 x0 x1 x2 x3 x4 x5)]
  exact View.canon_apply_of_pieces _ _ hp y (cover0_A_6 c i arg1 harg1 arg2 harg2 arg3 harg3 arg4 harg4 arg5 harg5 arg6 harg6 arg7 harg7 arg8 harg8 arg9 harg9 hc0 x0 x1 x2 x3 x4 x5 y)

set_option maxHeartbeats 1000000 in
/-- **A later point leaves the tile's value.** -/
theorem out_B (c : Dev nD) (i : grid0.Coords) (arg1 : Memref sig .tc .smem S1x8 .f32) (harg1 : arg1.IsWhole) (arg2 : Memref sig .tc .smem S32x8 .f32) (harg2 : arg2.IsWhole) (arg3 : Memref sig .tc .vmem S128x256 .i32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S128x512 .bf16) (harg6 : arg6.IsWhole) (arg7 : Memref sig .tc .vmem S2048x512 .bf16) (harg7 : arg7.IsWhole) (arg8 : Memref sig .tc .vmem S2176x512 .bf16) (harg8 : arg8.IsWhole) (arg9 : Memref sig .tc .vmem S2x2x256x256 .f32) (harg9 : arg9.IsWhole) (hc0 : ¬cond0_0 i) (x0 : Vec Ideal S1x8 .f32) (x1 : Vec Ideal S32x8 .f32) (x2 : Vec Ideal S128x256 .i32) (x3 : Vec Ideal S2048x512 .bf16) (x4 : Vec Ideal S2048x512 .bf16) (x5 : Vec Ideal S128x512 .bf16) (xs1 : Vec Ideal S2x2x256x256 .f32) :
    out0_B_6 (F := Ideal) c i arg1 harg1 arg2 harg2 arg3 harg3 arg4 harg4 arg5 harg5 arg6 harg6 arg7 harg7 arg8 harg8 arg9 harg9 hc0 x0 x1 x2 x3 x4 x5 xs1 = tileValue (bandOf x4 x5) (queryOf x3) (biasOf xs1) (sinkFrom x0) ⟨table0 i, table0_lt i⟩ := by
  funext y
  have hp : ∀ p ∈ (kernelRun0_B (F := Ideal) c i arg1 harg1 arg2 harg2 arg3 harg3 arg4 harg4 arg5 harg5 arg6 harg6 arg7 harg7 arg8 harg8 arg9 harg9 hc0 x0 x1 x2 x3 x4 x5 xs1).1,
      Agrees (bandOf x4 x5) (queryOf x3) (biasOf xs1) (sinkFrom x0) ⟨table0 i, table0_lt i⟩ p := by
    rw [stores_B]
    have eB : (fun off inb => arg8.view.readCov (bandPieces
          (View.readAt (Elt Ideal) arg5.view (Rect.unit (s := S2048x512) ![0, 0] S2048x512.size inb_S2048x512_S2048x512_0_0).toLoadRect (harg5.unread x4))
          (View.readAt (Elt Ideal) arg6.view (Rect.unit (s := S128x512) ![0, 0] S128x512.size inb_S128x512_S128x512_0_0).toLoadRect (harg6.unread x5)))
        (Rect.unit (s := S2176x512) off S256x128.size inb).toLoadRect : BandLd Ideal) = bandOf x4 x5 := by
      rw [load_all arg5 harg5 x4 _ zero_two, load_all arg6 harg6 x5 _ zero_two]
      exact funext fun off => funext fun inb => band_load arg8.view x4 x5 _
    have eQ : (fun off inb => View.readAt (Elt Ideal) arg4.view (Rect.unit (s := S2048x512) off S128x128.size inb).toLoadRect (harg4.unread x3) : QueryLd Ideal) = queryOf x3 :=
      funext fun off => funext fun inb => load_of_whole arg4 harg4 x3 _
    have eS : (fun off inb => View.readAt (Elt Ideal) arg1.view (Rect.unit (s := S1x8) off S1x1.size inb).toLoadRect (harg1.unread x0) (Shape.Idx.first (numel1_S1x1.symm ▸ Nat.one_pos)) : SinkLd Ideal) = sinkFrom x0 :=
      funext fun off => funext fun inb => congrFun (load_of_whole arg1 harg1 x0 _) _
    have eT : (fun off inb => View.readAt (Elt Ideal) arg9.view (Rect.unit (s := S2x2x256x256) off S1x1x128x128.size inb).toLoadRect (harg9.unread xs1) : BiasLd Ideal) = biasOf xs1 :=
      funext fun off => funext fun inb => load_of_whole arg9 harg9 xs1 _
    rw [eB, eQ, eT, eS]
    exact agrees_point _ _ _ _ i
  show VO0_6.read (Elt Ideal) (VO0_6.writes (Elt Ideal) VO0_6.junk (kernelRun0_B (F := Ideal) c i arg1 harg1 arg2 harg2 arg3 harg3 arg4 harg4 arg5 harg5 arg6 harg6 arg7 harg7 arg8 harg8 arg9 harg9 hc0 x0 x1 x2 x3 x4 x5 xs1).1) y = _
  rw [View.read_writes_eq_canon VO0_6 _ _ (cover0_B_6 c i arg1 harg1 arg2 harg2 arg3 harg3 arg4 harg4 arg5 harg5 arg6 harg6 arg7 harg7 arg8 harg8 arg9 harg9 hc0 x0 x1 x2 x3 x4 x5 xs1)]
  exact View.canon_apply_of_pieces _ _ hp y (cover0_B_6 c i arg1 harg1 arg2 harg2 arg3 harg3 arg4 harg4 arg5 harg5 arg6 harg6 arg7 harg7 arg8 harg8 arg9 harg9 hc0 x0 x1 x2 x3 x4 x5 xs1 y)

/-! ## The points in turn -/

variable (m : (ℓ : Loc nD τ sig) → Buf (Elt Ideal) ℓ)

/-- The bias table every point finds after the first. -/
def theTable (c : Dev nD) : Vec Ideal S2x2x256x256 .f32 :=
  tableValue (iblk m c 2 ⟨0, by rw [show cfg0.N = 8 from N_0]; omega⟩) (relOf (iblk m c 1 ⟨0, by rw [show cfg0.N = 8 from N_0]; omega⟩))

set_option maxHeartbeats 2000000 in
/-- The first point leaves it in the scratch. -/
theorem scratch_first (c : Dev nD) (t : Fin cfg0.N) (h0 : t.val % 8 = 0) :
    (outsAt0 m c t.val t.isLt).2 = tableValue (iblk m c 2 t) (relOf (iblk m c 1 t)) :=
  (congrArg Prod.snd (outsAt0_A m c t h0)).trans
    (scratch_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t))

/-- A later point leaves what it found. -/
theorem scratch_later (c : Dev nD) (t : Fin cfg0.N) (h0 : ¬t.val % 8 = 0) :
    (outsAt0 m c t.val t.isLt).2 = (outsAt0 m c (t.val - 1) (Nat.lt_of_le_of_lt (Nat.sub_le _ _) t.isLt)).2 :=
  (congrArg Prod.snd (outsAt0_B m c t h0)).trans rfl

/-- Every point leaves the bias table in the scratch. -/
theorem scratch_table (c : Dev nD) : ∀ n hn, (outsAt0 m c n hn).2 = theTable m c := by
  intro n
  induction n with
  | zero => exact fun hn => scratch_first m c ⟨0, hn⟩ rfl
  | succ n ih =>
    intro hn
    have h8 : n + 1 < 8 := lt_of_lt_of_eq hn N_0
    exact (scratch_later m c ⟨n + 1, hn⟩ (by show ¬(n + 1) % 8 = 0; omega)).trans (ih _)

/-- **A point's tile**, from the blocks it reads and the bias table. -/
theorem point_value (c : Dev nD) (t : Fin cfg0.N) :
    (outsAt0 m c t.val t.isLt).1 = tileValue (bandOf (iblk m c 4 t) (iblk m c 5 t)) (queryOf (iblk m c 3 t)) (biasOf (theTable m c))
      (sinkFrom (iblk m c 0 t)) ⟨table0 (grid0.coords t), table0_lt _⟩ := by
  by_cases h0 : t.val % 8 = 0
  · refine ((congrArg Prod.fst (outsAt0_A m c t h0)).trans
      (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t))).trans ?_
    rw [← scratch_first m c t h0, scratch_table]
  · refine ((congrArg Prod.fst (outsAt0_B m c t h0)).trans
      (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) _)).trans ?_
    rw [scratch_table]

end Cert.KernelIdeal.Att

end
-- ==== Proof.Att.Equation.lean ====
module

public import proofs.«01_k».proof.Proof.Att.UnitValue

@[expose] public section

set_option maxRecDepth 16384

noncomputable section

namespace Cert.KernelIdeal.Att

open Idealize.ShloMosaic
open scoped BigOperators

/-! # The softmax in base 2 with the reciprocal last is the softmax -/

/-- The largest of the 256 logits and the sink's. -/
def bandTop (x : Fin 256 → EReal) (σ : EReal) : EReal := max (Finset.univ.fold max ⊥ x) σ

/-- The textbook row: each probability divided, then weighed. -/
def textbook (x : Fin 256 → EReal) (σ : EReal) (v : Fin 256 → EReal) : EReal :=
  ∑ j : Fin 256, Ideal.div (Ideal.exp (x j - bandTop x σ))
    ((∑ j : Fin 256, Ideal.exp (x j - bandTop x σ)) + Ideal.exp (σ - bandTop x σ)) * v j

/-- The 256 logits a folded row of 128 stands for: the earlier block's where the column is after the row, the own block's
    where it is not, none elsewhere. -/
def unfolded (r : Fin 128) (a : Fin 128 → EReal) (j : Fin 256) : EReal :=
  if h : j.val < 128 then (if (⟨j.val, h⟩ : Fin 128) ≤ r then ⊥ else a ⟨j.val, h⟩)
  else (if (⟨j.val - 128, by omega⟩ : Fin 128) ≤ r then a ⟨j.val - 128, by omega⟩ else ⊥)

theorem unfolded_low (r : Fin 128) (a : Fin 128 → EReal) (c : Fin 128) :
    unfolded r a ⟨c.val, by omega⟩ = if c ≤ r then ⊥ else a c := dif_pos c.isLt

theorem unfolded_high (r : Fin 128) (a : Fin 128 → EReal) (c : Fin 128) :
    unfolded r a ⟨128 + c.val, by omega⟩ = if c ≤ r then a c else ⊥ := by
  unfold unfolded
  rw [dif_neg (by show ¬(128 + c.val < 128); omega)]
  have e : ∀ h, (⟨128 + c.val - 128, h⟩ : Fin 128) = c := fun _ => Fin.ext (by show 128 + c.val - 128 = c.val; omega)
  simp only [e]

/-- Folding a finite maximum is the supremum. -/
theorem fold_max_eq {ι : Type} [Fintype ι] (f : ι → EReal) : Finset.univ.fold max ⊥ f = Finset.univ.sup f := rfl

/-- The largest of the unfolded logits is the largest of the folded ones. -/
theorem sup_unfolded (r : Fin 128) (a : Fin 128 → EReal) : Finset.univ.sup (unfolded r a) = Finset.univ.sup a := by
  apply le_antisymm
  · refine Finset.sup_le fun j _ => ?_
    unfold unfolded
    split
    · split
      · exact bot_le
      · exact Finset.le_sup (f := a) (Finset.mem_univ _)
    · split
      · exact Finset.le_sup (f := a) (Finset.mem_univ _)
      · exact bot_le
  · refine Finset.sup_le fun c _ => ?_
    by_cases h : c ≤ r
    · have := Finset.le_sup (f := unfolded r a) (Finset.mem_univ (⟨128 + c.val, by omega⟩ : Fin 256))
      rwa [unfolded_high, if_pos h] at this
    · have := Finset.le_sup (f := unfolded r a) (Finset.mem_univ (⟨c.val, by omega⟩ : Fin 256))
      rwa [unfolded_low, if_neg h] at this

theorem log2_inv_pos : 0 < (Real.log 2)⁻¹ := inv_pos.2 (Real.log_pos (by norm_num))

theorem mul_log2e_mono : Monotone (fun y : EReal => y * log2e) := fun _ _ h =>
  mul_le_mul_of_nonneg_right h (EReal.coe_nonneg.2 log2_inv_pos.le)

theorem bot_mul_log2e : (⊥ : EReal) * log2e = ⊥ := EReal.bot_mul_coe_of_pos log2_inv_pos

/-- The largest base-2 logit is the largest logit's. -/
theorem rowTop_log2e (a : Fin 128 → EReal) (σ : EReal) :
    rowTop (fun c => a c * log2e) (σ * log2e) = rowTop a σ * log2e := by
  unfold rowTop
  rw [fold_max_eq, fold_max_eq]
  rw [show (Finset.univ.sup fun c => a c * log2e) = Finset.univ.sup a * log2e from
    (Finset.comp_sup_eq_sup_comp_of_is_total (fun y : EReal => y * log2e) mul_log2e_mono bot_mul_log2e).symm]
  exact (mul_log2e_mono.map_max).symm

/-- The base-2 exponential of base-2 logits is the exponential of the logits. -/
theorem exp2_log2e (y : EReal) (hy : y ≠ ⊤) (M : ℝ) : Ideal.exp2 (y * log2e - (M : EReal) * log2e) = Ideal.exp (y - M) := by
  induction y using EReal.rec with
  | bot =>
    rw [bot_mul_log2e]
    rfl
  | top => exact absurd rfl hy
  | coe y =>
    show Ideal.exp2 ((y : EReal) * (((Real.log 2)⁻¹ : ℝ) : EReal) - (M : EReal) * (((Real.log 2)⁻¹ : ℝ) : EReal)) = _
    rw [← EReal.coe_mul, ← EReal.coe_mul, ← EReal.coe_sub, ← EReal.coe_sub]
    show ((Real.rpow 2 (y * (Real.log 2)⁻¹ - M * (Real.log 2)⁻¹) : ℝ) : EReal) = ((Real.exp (y - M) : ℝ) : EReal)
    refine congrArg _ ?_
    have hl : Real.log 2 ≠ 0 := (Real.log_pos (by norm_num)).ne'
    show (2 : ℝ) ^ (y * (Real.log 2)⁻¹ - M * (Real.log 2)⁻¹) = _
    rw [Real.rpow_def_of_pos (by norm_num)]
    refine congrArg _ ?_
    field_simp

/-- A sum times a nonnegative real, term by term. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert i s hi ih =>
    rw [Finset.sum_insert hi, Finset.sum_insert hi, ← ih]
    exact EReal.right_distrib_of_nonneg_of_ne_top (EReal.coe_nonneg.2 hc) (EReal.coe_ne_top c) _ _

/-- A real sum, as extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert i s hi ih => rw [Finset.sum_insert hi, Finset.sum_insert hi, EReal.coe_add, ih]

/-- The exponential is a nonnegative real below infinity. -/
theorem exp_real (y : EReal) (hy : y ≠ ⊤) : ∃ p : ℝ, 0 ≤ p ∧ Ideal.exp y = (p : EReal) := by
  induction y using EReal.rec with
  | bot => exact ⟨0, le_refl _, rfl⟩
  | top => exact absurd rfl hy
  | coe y => exact ⟨Real.exp y, (Real.exp_pos y).le, rfl⟩

/-- **The equation.** For a folded row of logits below infinity and a finite sink logit, whatever the values. -/
theorem attend_eq (r : Fin 128) (a : Fin 128 → EReal) (ha : ∀ c, a c ≠ ⊤) (σ : ℝ) (v : Fin 256 → EReal) :
    attend r (fun c => a c * log2e) ((σ : EReal) * log2e) v = textbook (unfolded r a) σ v := by
  obtain ⟨M, hM⟩ : ∃ M : ℝ, rowTop a σ = (M : EReal) := by
    have h1 : rowTop a σ ≠ ⊤ := by
      unfold rowTop
      rw [fold_max_eq]
      refine ne_of_lt (max_lt ?_ (EReal.coe_lt_top σ))
      exact (Finset.sup_lt_iff (by exact bot_lt_top)).2 fun c _ => lt_top_iff_ne_top.2 (ha c)
    have h2 : rowTop a σ ≠ ⊥ := ne_of_gt (lt_of_lt_of_le (EReal.bot_lt_coe σ) (le_max_right _ _))
    exact ⟨(rowTop a σ).toReal, (EReal.coe_toReal h1 h2).symm⟩
  have hB : bandTop (unfolded r a) σ = (M : EReal) := by
    rw [← hM]
    unfold bandTop rowTop
    rw [fold_max_eq, fold_max_eq, sup_unfolded]
  have hsub : ∀ y : EReal, y ≠ ⊤ → y - (M : EReal) ≠ ⊤ := fun y hy => by
    induction y using EReal.rec with
    | bot => exact bot_ne_top
    | top => exact absurd rfl hy
    | coe y => rw [← EReal.coe_sub]; exact EReal.coe_ne_top _
  choose p hp0 hp using fun c => exp_real (a c - M) (hsub _ (ha c))
  have hs : Ideal.exp ((σ : EReal) - M) = ((Real.exp (σ - M) : ℝ) : EReal) := by rw [← EReal.coe_sub]; rfl
  have hb : Ideal.exp ((⊥ : EReal) - M) = 0 := rfl
  set D : ℝ := (∑ c, p c) + Real.exp (σ - M) with hD
  have hDpos : 0 < D := add_pos_of_nonneg_of_pos (Finset.sum_nonneg fun c _ => hp0 c) (Real.exp_pos _)
  have hdiv : ∀ y : EReal, Ideal.div y (D : EReal) = y * ((D⁻¹ : ℝ) : EReal) := fun y => by
    unfold Ideal.div
    rw [if_neg (by exact_mod_cast hDpos.ne'), EReal.coe_inv]
  have hDinv : 0 ≤ D⁻¹ := (inv_pos.2 hDpos).le
  have hlow : ∀ c : Fin 128, Ideal.exp (unfolded r a ⟨c.val, by omega⟩ - M) = if c ≤ r then 0 else ((p c : ℝ) : EReal) := fun c => by
    rw [unfolded_low]; split
    · exact hb
    · exact hp c
  have hhigh : ∀ c : Fin 128, Ideal.exp (unfolded r a ⟨128 + c.val, by omega⟩ - M) = if c ≤ r then ((p c : ℝ) : EReal) else 0 := fun c => by
    rw [unfolded_high]; split
    · exact hp c
    · exact hb
  have hDk : (∑ c : Fin 128, ((p c : ℝ) : EReal)) + ((Real.exp (σ - M) : ℝ) : EReal) = (D : EReal) := by
    rw [hD, EReal.coe_add, coe_sum]
  have hDr : (∑ j : Fin 256, Ideal.exp (unfolded r a j - M)) = ∑ c : Fin 128, ((p c : ℝ) : EReal) := by
    rw [sum_blocks]
    simp only [hlow, hhigh]
    rw [← Finset.sum_add_distrib]
    refine Finset.sum_congr rfl fun c _ => ?_
    split <;> simp
  unfold attend textbook
  rw [rowTop_log2e, hM, hB]
  simp only [exp2_log2e _ (ha _), exp2_log2e _ (EReal.coe_ne_top σ), hp, hs, hDr, hDk, hdiv, one_mul]
  rw [sum_blocks]
  simp only [hlow, hhigh]
  rw [EReal.right_distrib_of_nonneg_of_ne_top (EReal.coe_nonneg.2 hDinv) (EReal.coe_ne_top _), sum_mul_real _ _ _ hDinv, sum_mul_real _ _ _ hDinv]
  refine congrArg₂ (· + ·) (Finset.sum_congr rfl fun c _ => ?_) (Finset.sum_congr rfl fun c _ => ?_)
  · exact mul_right_comm _ _ _
  · exact mul_right_comm _ _ _

end Cert.KernelIdeal.Att

end
-- ==== Proof.Att.Bucket.lean ====
module

public import proofs.«01_k».proof.KernelIdeal
public import Idealize.ShloMosaic.Lib.ValueIdx
public import Idealize.ShloMosaic.PureOps.Ideal
public import Mathlib.Analysis.SpecialFunctions.Log.Basic

@[expose] public section

set_option maxRecDepth 65536

noncomputable section

namespace Cert.KernelIdeal.Att

open Cert.KernelIdeal Idealize.ShloMosaic

/-! # The buckets of distances -/

/-- How many of the powers `16 * 8^(1/16), 16 * 8^(2/16), …`, rounded up to whole distances, a distance reaches. -/
def steps (d : ℕ) : ℕ :=
  ([19, 21, 24, 27, 31, 35, 40, 46, 52, 59, 67, 77, 87, 99, 113].filter fun p => Nat.ble p d).length

/-- The bucket of a distance: its own below 16, then logarithmic. -/
def bucketOf (d : ℕ) : ℕ := if d < 16 then d else 16 + steps d

theorem bucketOf_lt : ∀ d : Fin 128, bucketOf d.val < 32 := by decide +kernel

/-- The integer comparisons that place a distance between two powers, with room for the rounded constant. -/
theorem steps_bounds : ∀ d : Fin 128, 16 ≤ d.val → steps d.val ≤ 15 ∧
    (steps d.val = 0 ∨ 8 ^ steps d.val * 16 ^ 16 * 102 ≤ d.val ^ 16 * 100) ∧
    d.val ^ 16 * 102 ≤ 8 ^ (steps d.val + 1) * 16 ^ 16 * 100 := by decide +kernel

/-- The rounded logarithm of 8. -/
def log8 : ℝ := 8721810 / 4194304

theorem log8_word : Ideal.ofBits .f32 0x40051592#32 = ((log8 : ℝ) : EReal) := by
  unfold log8
  simp [Ideal.ofBits, Ideal.ieee, -EReal.coe_mul]; norm_num

theorem log8_pos : 0 < log8 := by unfold log8; norm_num

/-- The powers of 10001/10000 next to 2. -/
theorem powers_near_two : 10001 ^ 6931 ≤ 2 * 10000 ^ 6931 ∧ 2 * 10000 ^ 6932 ≤ 10001 ^ 6932 := by decide +kernel

/-- The natural logarithm of 2, to three places. -/
theorem log2_near : 6930 / 10000 < Real.log 2 ∧ Real.log 2 ≤ 6932 / 10000 := by
  obtain ⟨h1, h2⟩ := powers_near_two
  have hx : (0 : ℝ) < 10001 / 10000 := by norm_num
  have l1 := Real.one_sub_inv_le_log_of_pos hx
  have l2 := Real.log_le_sub_one_of_pos hx
  have c1 : ((10001 : ℝ) / 10000) ^ 6931 ≤ 2 := by
    rw [div_pow, div_le_iff₀ (by positivity)]
    exact_mod_cast h1
  have c2 : (2 : ℝ) ≤ ((10001 : ℝ) / 10000) ^ 6932 := by
    rw [div_pow, le_div_iff₀ (by positivity)]
    exact_mod_cast h2
  have e1 := Real.log_le_log (by positivity) c1
  have e2 := Real.log_le_log (by norm_num) c2
  rw [Real.log_pow] at e1 e2
  constructor
  · refine lt_of_lt_of_le ?_ e1
    norm_num at l1 ⊢
    linarith
  · refine e2.trans ?_
    norm_num at l2 ⊢
    linarith

theorem log8_near : log8 - Real.log 8 < 1 / 1000 ∧ Real.log 8 - log8 < 1 / 1000 := by
  have h8 : Real.log 8 = 3 * Real.log 2 := by
    rw [show (8 : ℝ) = 2 ^ (3 : ℕ) by norm_num, Real.log_pow]; norm_num
  obtain ⟨h1, h2⟩ := log2_near
  unfold log8
  rw [h8]
  constructor
  · linarith
  · linarith

theorem log_room : 1 / 52 ≤ Real.log (102 / 100) := by
  have h := Real.one_sub_inv_le_log_of_pos (show (0 : ℝ) < 102 / 100 by norm_num)
  refine le_trans ?_ h
  norm_num

/-- A product comparison of naturals, in logarithms. -/
theorem log_powers (d k : ℕ) (hd : 0 < d) :
    Real.log ((8 : ℝ) ^ k * 16 ^ 16) = k * Real.log 8 + 16 * Real.log 16 ∧ Real.log ((d : ℝ) ^ 16) = 16 * Real.log d := by
  constructor
  · rw [Real.log_mul (by positivity) (by positivity), Real.log_pow, Real.log_pow]; norm_num
  · rw [Real.log_pow]; norm_num

/-- **The reference's logarithmic bucket, truncated, counts the steps.** -/
theorem floor_steps (d : ℕ) (h16 : 16 ≤ d) (hlt : d < 128) :
    (steps d : ℝ) ≤ Real.log ((d : ℝ) / 16) / log8 * 16 ∧ Real.log ((d : ℝ) / 16) / log8 * 16 < steps d + 1 := by
  obtain ⟨hk, hlo, hhi⟩ := steps_bounds ⟨d, hlt⟩ h16
  simp only at hk hlo hhi
  generalize steps d = k at hk hlo hhi
  have hd0 : (0 : ℝ) < d := by exact_mod_cast (show 0 < d by omega)
  obtain ⟨n1, n2⟩ := log8_near
  have room := log_room
  have hk' : (k : ℝ) ≤ 15 := by exact_mod_cast hk
  have hk0 : (0 : ℝ) ≤ k := Nat.cast_nonneg k
  have hlog : Real.log ((d : ℝ) / 16) = Real.log d - Real.log 16 := Real.log_div hd0.ne' (by norm_num)
  obtain ⟨p1, p2⟩ := log_powers d k (by omega)
  obtain ⟨p3, _⟩ := log_powers d (k + 1) (by omega)
  rw [div_mul_eq_mul_div, le_div_iff₀ log8_pos, div_lt_iff₀ log8_pos, hlog]
  constructor
  · rcases hlo with h0 | hlo
    · have : Real.log 16 ≤ Real.log d := Real.log_le_log (by norm_num) (by exact_mod_cast h16)
      rw [h0]; push_cast; linarith
    · have hc : (8 : ℝ) ^ k * 16 ^ 16 * (102 / 100) ≤ (d : ℝ) ^ 16 := by
        have : (8 : ℝ) ^ k * 16 ^ 16 * 102 ≤ (d : ℝ) ^ 16 * 100 := by exact_mod_cast hlo
        linarith
      have := Real.log_le_log (by positivity) hc
      rw [Real.log_mul (by positivity) (by norm_num), p1, p2] at this
      nlinarith
  · have hc : (d : ℝ) ^ 16 * (102 / 100) ≤ (8 : ℝ) ^ (k + 1) * 16 ^ 16 := by
      have : (d : ℝ) ^ 16 * 102 ≤ (8 : ℝ) ^ (k + 1) * 16 ^ 16 * 100 := by exact_mod_cast hhi
      linarith
    have := Real.log_le_log (by positivity) hc
    rw [Real.log_mul (by positivity) (by norm_num), p2, p3] at this
    push_cast at this ⊢
    nlinarith

/-- The same, as the word the conversion gives. -/
theorem steps_word (d : ℕ) (h16 : 16 ≤ d) (hlt : d < 128) :
    Ideal.fptosi 32 (Ideal.div (Ideal.log (Ideal.div ((d : ℝ) : EReal) ((16 : ℝ) : EReal))) ((log8 : ℝ) : EReal) * ((16 : ℝ) : EReal))
      = BitVec.ofNat 32 (steps d) := by
  have hdiv : ∀ (x y : ℝ), y ≠ 0 → Ideal.div (x : EReal) (y : EReal) = ((x / y : ℝ) : EReal) := fun x y hy => by
    unfold Ideal.div
    rw [if_neg (by exact_mod_cast hy), ← EReal.coe_inv, ← EReal.coe_mul, div_eq_mul_inv]
  have hd0 : (0 : ℝ) < (d : ℝ) / 16 := by
    have : (0 : ℝ) < d := by exact_mod_cast (show 0 < d by omega)
    positivity
  have hlog : Ideal.log (((d : ℝ) / 16 : ℝ) : EReal) = ((Real.log ((d : ℝ) / 16) : ℝ) : EReal) := if_neg (not_le.2 hd0)
  rw [hdiv _ _ (by norm_num), hlog, hdiv _ _ log8_pos.ne', ← EReal.coe_mul, Ideal.fptosi, Ideal.toIntClamped_coe]
  obtain ⟨h1, h2⟩ := floor_steps d h16 hlt
  have hk := (steps_bounds ⟨d, hlt⟩ h16).1
  simp only at hk
  have hf : ⌊Real.log ((d : ℝ) / 16) / log8 * 16⌋ = (steps d : ℤ) := Int.floor_eq_iff.2 ⟨by exact_mod_cast h1, by exact_mod_cast h2⟩
  rw [if_pos (le_trans (Nat.cast_nonneg _) h1), hf, min_eq_right (by norm_num; omega), max_eq_right (by norm_num)]
  exact BitVec.ofInt_natCast _ _

/-- What the reference selects of a distance word and a logarithmic bucket word, the index wrapped. -/
def pick (x w : BitVec 32) : BitVec 32 :=
  let b := Scalar.select (IntOp.cmpi .slt x 16#32) x (IntOp.minsi (IntOp.addi 16#32 w) 31#32)
  Scalar.select (IntOp.cmpi .slt b 0#32) (IntOp.addi b 32#32) b

/-- It is the bucket of the distance. -/
theorem pick_large : ∀ d : Fin 128, 16 ≤ d.val →
    pick (BitVec.ofNat 32 d.val) (BitVec.ofNat 32 (steps d.val)) = BitVec.ofNat 32 (bucketOf d.val) := by decide +kernel

theorem pick_small (d : ℕ) (h : d < 16) (w : BitVec 32) : pick (BitVec.ofNat 32 d) w = BitVec.ofNat 32 (bucketOf d) := by
  have h1 : ∀ d : Fin 16, IntOp.cmpi .slt (BitVec.ofNat 32 d.val) 16#32 = 1#1 := by decide
  have h2 : ∀ d : Fin 16, Scalar.select (IntOp.cmpi .slt (BitVec.ofNat 32 d.val) 0#32) (IntOp.addi (BitVec.ofNat 32 d.val) 32#32) (BitVec.ofNat 32 d.val) = BitVec.ofNat 32 d.val := by decide
  unfold pick bucketOf
  rw [h1 ⟨d, h⟩, if_pos h]
  exact h2 ⟨d, h⟩

end Cert.KernelIdeal.Att

end
-- ==== Proof.Att.BucketTable.lean ====
module

public import proofs.«01_k».proof.Proof.Att.Bucket

@[expose] public section

set_option maxRecDepth 65536

noncomputable section

namespace Cert.KernelIdeal.Att

open Cert.KernelIdeal Idealize.ShloMosaic

/-! # The kernel's table of buckets -/

/-- The band column a folded column stands for: the own block's at most the row, the earlier block's after it. -/
def unfoldCol (r c : ℕ) : ℕ := bif Nat.ble c r then 128 + c else c

theorem unfoldCol_lt {r c : ℕ} (h : c < 128) : unfoldCol r c < 256 := by
  unfold unfoldCol
  cases Nat.ble c r
  · show c < 256; omega
  · show 128 + c < 256; omega

/-- **The kernel's table holds the bucket of every distance inside the window.** -/
theorem table_bucket : ∀ r c : Fin 128, lit0 ⟨256 * r.val + unfoldCol r.val c.val, by
      have := unfoldCol_lt (r := r.val) c.isLt; show _ < 32768; omega⟩
    = BitVec.ofNat 32 (bucketOf (r.val + 128 - unfoldCol r.val c.val)) := by decide +kernel

end Cert.KernelIdeal.Att

end
-- ==== Proof.Att.Spec.lean ====
module

public import proofs.«01_k».proof.Proof.Att.Equation
public import proofs.«01_k».proof.Proof.Att.BucketTable

@[expose] public section

set_option maxRecDepth 65536

noncomputable section

namespace Cert.KernelIdeal.Att

open Cert.KernelIdeal Idealize.ShloMosaic Idealize.ShloMosaic.TcCoe
open Idealize.ShloMosaic.ValueIdx
open scoped BigOperators

/-! # The attention, on plain functions

Queries, keys, values, relative biases and sink logits are finite: reals. Block `n` of 128 rows, head `h` of 8 over the
key/value heads `h / 4`, row `r` of the block, band column `j` of 256 (the block before, then the block itself). -/

/-- The row of the keys and values at column `j` of block `n`'s band. Before the first block there is none; a row inside
    the arrays stands for it. -/
def keyRow (n : Fin 128) (j : Fin 256) : Fin 16384 :=
  ⟨if n.val = 0 ∧ j.val < 128 then j.val else 128 * n.val + j.val - 128, by split <;> omega⟩

/-- The band column a folded column stands for. -/
def bandCol (r c : Fin 128) : Fin 256 := ⟨(if c ≤ r then 128 else 0) + c.val, by split <;> omega⟩

theorem bandCol_val (r c : Fin 128) : (bandCol r c).val = unfoldCol r.val c.val := by
  show (if c.val ≤ r.val then 128 else 0) + c.val = bif Nat.ble c.val r.val then 128 + c.val else c.val
  by_cases h : c.val ≤ r.val
  · rw [if_pos h, show Nat.ble c.val r.val = true from Nat.ble_eq_true_of_le h]; rfl
  · rw [if_neg h, show Nat.ble c.val r.val = false from Bool.eq_false_iff.2 fun e => h (Nat.le_of_ble_eq_true e)]
    exact Nat.zero_add _

/-- How far back a folded column's key lies. -/
def distance (r c : Fin 128) : Fin 128 := ⟨r.val + 128 - (bandCol r c).val, by
  show r.val + 128 - ((if c.val ≤ r.val then 128 else 0) + c.val) < 128
  split <;> omega⟩

section
variable (q : Fin 16384 → Fin 512 → ℝ) (k : Fin 16384 → Fin 128 → ℝ) (rb : Fin 32 → Fin 8 → ℝ)

/-- The real logit of a folded column: the scaled product plus the bias of the distance's bucket. -/
def realLogit (n : Fin 128) (h : Fin 8) (r c : Fin 128) : ℝ :=
  (∑ e : Fin 64, q ⟨128 * n.val + r.val, by omega⟩ ⟨64 * h.val + e.val, by omega⟩
      * k (keyRow n (bandCol r c)) ⟨64 * (h.val / 4) + e.val, by omega⟩) * (1 / 8)
    + rb ⟨bucketOf (distance r c).val, bucketOf_lt _⟩ h

/-- The logit of a folded column: none before the first block. -/
def logit (n : Fin 128) (h : Fin 8) (r c : Fin 128) : EReal :=
  if c ≤ r ∨ n ≠ 0 then (realLogit q k rb n h r c : EReal) else ⊥

theorem logit_ne_top (n : Fin 128) (h : Fin 8) (r c : Fin 128) : logit q k rb n h r c ≠ ⊤ := by
  unfold logit
  split
  · exact EReal.coe_ne_top _
  · exact bot_ne_top

/-- The result at row `128 n + r` and lane `64 h + e`. -/
def result (v : Fin 16384 → Fin 128 → EReal) (sk : Fin 8 → ℝ) (n : Fin 128) (h : Fin 8) (r : Fin 128) (e : Fin 64) : EReal :=
  textbook (unfolded r (logit q k rb n h r)) (sk h) (fun j => v (keyRow n j) ⟨64 * (h.val / 4) + e.val, by omega⟩)

end

/-- A product scaled by `s / log 2` on the query's side and a bias in base 2 make a logit in base 2. -/
theorem scaled_logit (x y : Fin 64 → ℝ) (s t b : ℝ) :
    (∑ e : Fin 64, ((x e : ℝ) : EReal) * ((s * t : ℝ) : EReal) * ((y e : ℝ) : EReal)) + ((b : ℝ) : EReal) * ((t : ℝ) : EReal)
      = ((((∑ e : Fin 64, x e * y e) * s + b : ℝ)) : EReal) * ((t : ℝ) : EReal) := by
  have h1 : ∀ e, ((x e : ℝ) : EReal) * ((s * t : ℝ) : EReal) * ((y e : ℝ) : EReal) = ((x e * (s * t) * y e : ℝ) : EReal) := fun e => by
    rw [EReal.coe_mul (x e * (s * t)), EReal.coe_mul (x e) (s * t)]
  simp only [h1]
  rw [← coe_sum, ← EReal.coe_mul, ← EReal.coe_add, ← EReal.coe_mul]
  refine congrArg _ ?_
  rw [add_mul, Finset.sum_mul, Finset.sum_mul]
  exact congrArg (· + _) (Finset.sum_congr rfl fun e _ => by ring)

/-- A row's value only meets the values whose logit is not absent, once one logit or the sink is a real. -/
theorem textbook_congr (x : Fin 256 → EReal) (hx : ∀ j, x j ≠ ⊤) (σ : ℝ) (v w : Fin 256 → EReal) (h : ∀ j, x j ≠ ⊥ → v j = w j) :
    textbook x σ v = textbook x σ w := by
  unfold textbook
  refine Finset.sum_congr rfl fun j _ => ?_
  by_cases hj : x j = ⊥
  · have hT : bandTop x (σ : EReal) ≠ ⊤ := by
      unfold bandTop
      rw [fold_max_eq]
      refine ne_of_lt (max_lt ?_ (EReal.coe_lt_top σ))
      exact (Finset.sup_lt_iff (by exact bot_lt_top)).2 fun i _ => lt_top_iff_ne_top.2 (hx i)
    have hB : bandTop x (σ : EReal) ≠ ⊥ := by
      unfold bandTop
      exact ne_of_gt (lt_of_lt_of_le (EReal.bot_lt_coe σ) (le_max_right _ _))
    obtain ⟨M, hM⟩ : ∃ M : ℝ, bandTop x (σ : EReal) = (M : EReal) := ⟨_, (EReal.coe_toReal hT hB).symm⟩
    have hD : ∃ D : ℝ, 0 < D ∧ (∑ j : Fin 256, Ideal.exp (x j - bandTop x σ)) + Ideal.exp (σ - bandTop x σ) = (D : EReal) := by
      rw [hM]
      have hr : ∀ j, ∃ p : ℝ, 0 ≤ p ∧ Ideal.exp (x j - (M : EReal)) = (p : EReal) := fun j => exp_real _ (by
        have := hx j
        induction hxj : x j using EReal.rec with
        | bot => exact bot_ne_top
        | top => exact absurd hxj this
        | coe y => rw [← EReal.coe_sub]; exact EReal.coe_ne_top _)
      choose p hp0 hp using hr
      refine ⟨(∑ j, p j) + Real.exp (σ - M), add_pos_of_nonneg_of_pos (Finset.sum_nonneg fun j _ => hp0 j) (Real.exp_pos _), ?_⟩
      simp only [hp]
      rw [← coe_sum, ← EReal.coe_sub, EReal.coe_add]
      rfl
    obtain ⟨D, hD0, hD⟩ := hD
    rw [hD, hj, hM]
    have hz : Ideal.exp ((⊥ : EReal) - (M : EReal)) = 0 := rfl
    have hd : Ideal.div (0 : EReal) (D : EReal) = 0 := by
      unfold Ideal.div
      rw [if_neg (by exact_mod_cast hD0.ne'), zero_mul]
    rw [hz, hd, zero_mul, zero_mul]
  · rw [h j hj]

end Cert.KernelIdeal.Att

end
-- ==== Proof.Att.Arrays.lean ====
module

public import proofs.«01_k».proof.Proof.Att.Points
public import proofs.«01_k».proof.Proof.Att.Spec

@[expose] public section

set_option maxRecDepth 65536

noncomputable section

namespace Cert.KernelIdeal.Att

open Cert.KernelIdeal Cert.KernelIdeal.Gen Idealize.ShloMosaic Idealize.ShloMosaic.TcCoe Idealize.SL.Sem Idealize.ShloMosaic.Tactic
open Idealize.ShloMosaic.ValueIdx
open scoped BigOperators

/-! # What the arrays before the call hold, and the blocks a point reads of them -/

/-- The queries times the scale over the logarithm of two. -/
def qScaled (q : Vec Ideal S16384x512 .f32) : Vec Ideal S16384x512 .bf16 :=
  truncf .bf16 (mulf q (broadcastInDim S16384x512 ![] bcast_S_S16384x512
    (Host.divf (constant (F := Ideal) S_ .f32 0x3E000000#32) (Host.log (constant S_ .f32 0x40000000#32))))) bitsLt_bf16_f32

theorem eighth_word : Ideal.ofBits .f32 0x3E000000#32 = ((1 / 8 : ℝ) : EReal) := by
  simp [Ideal.ofBits, Ideal.ieee, -EReal.coe_mul]; norm_num
theorem two_word : Ideal.ofBits .f32 0x40000000#32 = ((2 : ℝ) : EReal) := by
  simp [Ideal.ofBits, Ideal.ieee, -EReal.coe_mul]; norm_num

theorem qScaled_apply (q : Vec Ideal S16384x512 .f32) (i : S16384x512.Idx) :
    qScaled q i = q i * ((1 / 8 * (Real.log 2)⁻¹ : ℝ) : EReal) := by
  show q i * Ideal.div (Ideal.ofBits .f32 0x3E000000#32) (Ideal.log (Ideal.ofBits .f32 0x40000000#32)) = _
  rw [eighth_word, two_word]
  refine congrArg (q i * ·) ?_
  have h2 : Ideal.log ((2 : ℝ) : EReal) = ((Real.log 2 : ℝ) : EReal) := by
    show (if (2 : ℝ) ≤ 0 then (⊥ : EReal) else ((Real.log 2 : ℝ) : EReal)) = _
    rw [if_neg (by norm_num)]
  rw [h2]
  unfold Ideal.div
  rw [if_neg (by exact_mod_cast (Real.log_pos (by norm_num : (1:ℝ) < 2)).ne'), ← EReal.coe_inv, ← EReal.coe_mul]

/-- The first and the second key/value head's columns. -/
def lowCols (x : FVec Ideal S16384x128 .f32) : FVec Ideal S16384x64 .bf16 :=
  truncf .bf16 (extractStridedSlice S16384x64 ![0, 0] x slices_S16384x128_S16384x64_0_0) bitsLt_bf16_f32
def highCols (x : FVec Ideal S16384x128 .f32) : FVec Ideal S16384x64 .bf16 :=
  truncf .bf16 (extractStridedSlice S16384x64 ![0, 64] x slices_S16384x128_S16384x64_0_64) bitsLt_bf16_f32

theorem lowCols_apply (x : FVec Ideal S16384x128 .f32) (i : Fin 16384) (e : Fin 64) :
    lowCols x (ix2 i e) = x (ix2 i ⟨64 * 0 + e.val, by omega⟩) :=
  extractStridedSlice_apply _ _ slices_S16384x128_S16384x64_0_0 (ix2 i e) (ix2 i ⟨64 * 0 + e.val, by omega⟩) (fun a => by
    match a with
    | ⟨0, _⟩ => exact (Nat.zero_add _).symm
    | ⟨1, _⟩ => show 64 * 0 + e.val = 0 + e.val; omega)
theorem highCols_apply (x : FVec Ideal S16384x128 .f32) (i : Fin 16384) (e : Fin 64) :
    highCols x (ix2 i e) = x (ix2 i ⟨64 * 1 + e.val, by omega⟩) :=
  extractStridedSlice_apply _ _ slices_S16384x128_S16384x64_0_64 (ix2 i e) (ix2 i ⟨64 * 1 + e.val, by omega⟩) (fun a => by
    match a with
    | ⟨0, _⟩ => exact (Nat.zero_add _).symm
    | ⟨1, _⟩ => show 64 * 1 + e.val = 64 + e.val; omega)

/-- The eight pieces of the packed array: each head's keys twice, each head's values twice. -/
def packed (k v : FVec Ideal S16384x128 .f32) : Fin 8 → (S16384x64.Idx → EReal) :=
  ![lowCols k, lowCols k, highCols k, highCols k, lowCols v, lowCols v, highCols v, highCols v]

theorem packed_apply (k v : FVec Ideal S16384x128 .f32) (p : Fin 8) (i : Fin 16384) (e : Fin 64) :
    packed k v p (ix2 i e) = (if p.val < 4 then k else v) (ix2 i ⟨64 * (p.val / 2 % 2) + e.val, by omega⟩) := by
  match p with
  | 0 | 1 => exact lowCols_apply k i e
  | 2 | 3 => exact highCols_apply k i e
  | 4 | 5 => exact lowCols_apply v i e
  | 6 | 7 => exact highCols_apply v i e

/-- The packed keys and values. -/
def kvPacked (k v : FVec Ideal S16384x128 .f32) : Vec Ideal S16384x512 .bf16 :=
  concatenate S16384x512 1 [⟨S16384x64, packed k v 0⟩, ⟨S16384x64, packed k v 1⟩, ⟨S16384x64, packed k v 2⟩, ⟨S16384x64, packed k v 3⟩,
    ⟨S16384x64, packed k v 4⟩, ⟨S16384x64, packed k v 5⟩, ⟨S16384x64, packed k v 6⟩, ⟨S16384x64, packed k v 7⟩]
    concatenates_S16384x64_S16384x64_S16384x64_S16384x64_S16384x64_S16384x64_S16384x64_S16384x64_S16384x512_d1

theorem kvPacked_apply (k v : FVec Ideal S16384x128 .f32) (i : Fin 16384) (p : Fin 8) (e : Fin 64) (y : S16384x512.Idx)
    (h0 : (y 0).val = i.val) (h1 : (y 1).val = 64 * p.val + e.val) :
    kvPacked k v y = (if p.val < 4 then k else v) (ix2 i ⟨64 * (p.val / 2 % 2) + e.val, by omega⟩) := by
  refine (concatenate_ofFn_apply (t := S16384x512) (s₁ := S16384x64) 1 (packed k v)
    concatenates_S16384x64_S16384x64_S16384x64_S16384x64_S16384x64_S16384x64_S16384x64_S16384x64_S16384x512_d1 rfl 64 rfl y p ?_ (ix2 i e) ?_ ?_).trans
    (packed_apply k v p i e)
  · show (y 1).val / 64 = p.val
    omega
  · show e.val = (y 1).val % 64
    omega
  · intro b hb
    match b, hb with
    | ⟨0, _⟩, _ => exact h0.symm
    | ⟨1, _⟩, hb => exact absurd rfl hb

section
variable (m : (ℓ : Loc nD τ sig) → Buf (Elt Ideal) ℓ) (c : Dev nD)

theorem V_q : V m c main_v5 = qScaled (V m c main_arg2) := (rfl)
theorem V_low_k : V m c main_v7 = lowCols (V m c main_arg3) := (rfl)
theorem V_high_k : V m c main_v9 = highCols (V m c main_arg3) := (rfl)
theorem V_low_v : V m c main_v11 = lowCols (V m c main_arg4) := (rfl)
theorem V_high_v : V m c main_v13 = highCols (V m c main_arg4) := (rfl)
set_option maxHeartbeats 4000000 in
theorem V_pieces : V m c main_v14 = concatenate S16384x512 1 [⟨S16384x64, V m c main_v7⟩, ⟨S16384x64, V m c main_v7⟩, ⟨S16384x64, V m c main_v9⟩,
    ⟨S16384x64, V m c main_v9⟩, ⟨S16384x64, V m c main_v11⟩, ⟨S16384x64, V m c main_v11⟩, ⟨S16384x64, V m c main_v13⟩, ⟨S16384x64, V m c main_v13⟩]
    concatenates_S16384x64_S16384x64_S16384x64_S16384x64_S16384x64_S16384x64_S16384x64_S16384x64_S16384x512_d1 := (rfl)
theorem V_kv : V m c main_v14 = kvPacked (V m c main_arg3) (V m c main_arg4) := by
  rw [V_pieces, V_low_k, V_high_k, V_low_v, V_high_v]
  rfl
theorem V_bk : V m c main_c = (fun i => lit0 (S128x256.rowMajor i) : Vec Ideal S128x256 .i32) := (rfl)

theorem pos3 : ∀ t : Fin grid0.N, cc0_transform_3 (grid0.coords t) 0 = t.val := by decide +kernel
theorem pos4 : ∀ t : Fin grid0.N, cc0_transform_4 (grid0.coords t) 0 = t.val := by decide +kernel
theorem pos5 : ∀ t : Fin grid0.N, cc0_transform_5 (grid0.coords t) 0 = 16 * t.val - 1 := by decide +kernel
theorem table0_at : ∀ t : Fin grid0.N, table0 (grid0.coords t) = if t.val = 0 then 0 else 1 := by decide +kernel

/-- The block of queries. -/
theorem block_q (t : Fin cfg0.N) (j : S2048x512.Idx) (y : S16384x512.Idx) (h0 : (y 0).val = 2048 * t.val + (j 0).val) (h1 : (y 1).val = (j 1).val) :
    iblk m c 3 t j = V m c main_v5 y := by
  show V m c main_v5 (((cfg0.win 3).blk t).view.emb j) = _
  refine congrArg _ (funext fun a => Fin.ext ?_)
  match a with
  | ⟨0, _⟩ => show cc0_transform_3 (grid0.coords t) 0 * 2048 + 1 * (j 0).val = (y 0).val; rw [pos3 t]; omega
  | ⟨1, _⟩ => show 0 * 512 + 1 * (j 1).val = (y 1).val; omega

/-- The block of packed keys and values. -/
theorem block_kv (t : Fin cfg0.N) (j : S2048x512.Idx) (y : S16384x512.Idx) (h0 : (y 0).val = 2048 * t.val + (j 0).val) (h1 : (y 1).val = (j 1).val) :
    iblk m c 4 t j = V m c main_v14 y := by
  show V m c main_v14 (((cfg0.win 4).blk t).view.emb j) = _
  refine congrArg _ (funext fun a => Fin.ext ?_)
  match a with
  | ⟨0, _⟩ => show cc0_transform_4 (grid0.coords t) 0 * 2048 + 1 * (j 0).val = (y 0).val; rw [pos4 t]; omega
  | ⟨1, _⟩ => show 0 * 512 + 1 * (j 1).val = (y 1).val; omega

/-- The block of packed keys and values before a point's first row. -/
theorem block_before (t : Fin cfg0.N) (j : S128x512.Idx) (y : S16384x512.Idx) (h0 : (y 0).val = 128 * (16 * t.val - 1) + (j 0).val) (h1 : (y 1).val = (j 1).val) :
    iblk m c 5 t j = V m c main_v14 y := by
  show V m c main_v14 (((cfg0.win 5).blk t).view.emb j) = _
  refine congrArg _ (funext fun a => Fin.ext ?_)
  match a with
  | ⟨0, _⟩ => show cc0_transform_5 (grid0.coords t) 0 * 128 + 1 * (j 0).val = (y 0).val; rw [pos5 t]; omega
  | ⟨1, _⟩ => show 0 * 512 + 1 * (j 1).val = (y 1).val; omega

/-- The sink logits, the relative biases and the bucket table, each one block. -/
theorem block_sinks (t : Fin cfg0.N) (j : S1x8.Idx) : iblk m c 0 t j = V m c main_arg0 j := by
  show V m c main_arg0 (((cfg0.win 0).blk t).view.emb j) = _
  refine congrArg _ (funext fun a => Fin.ext ?_)
  match a with
  | ⟨0, _⟩ => show 0 * 1 + 1 * (j 0).val = (j 0).val; omega
  | ⟨1, _⟩ => show 0 * 8 + 1 * (j 1).val = (j 1).val; omega
theorem block_rel (t : Fin cfg0.N) (j : S32x8.Idx) : iblk m c 1 t j = V m c main_arg1 j := by
  show V m c main_arg1 (((cfg0.win 1).blk t).view.emb j) = _
  refine congrArg _ (funext fun a => Fin.ext ?_)
  match a with
  | ⟨0, _⟩ => show 0 * 32 + 1 * (j 0).val = (j 0).val; omega
  | ⟨1, _⟩ => show 0 * 8 + 1 * (j 1).val = (j 1).val; omega
theorem block_bucket (t : Fin cfg0.N) (j : S128x256.Idx) : iblk m c 2 t j = V m c main_c j := by
  show V m c main_c (((cfg0.win 2).blk t).view.emb j) = _
  refine congrArg _ (funext fun a => Fin.ext ?_)
  match a with
  | ⟨0, _⟩ => show 0 * 128 + 1 * (j 0).val = (j 0).val; omega
  | ⟨1, _⟩ => show 0 * 256 + 1 * (j 1).val = (j 1).val; omega

/-- The table's word at row `r` and folded column `c'`. -/
theorem bucket_word (r c' : Fin 128) : V m c main_c (ix2 r (bandCol r c')) = BitVec.ofNat 32 (bucketOf (distance r c').val) := by
  rw [V_bk]
  have e := table_bucket r c'
  rw [show (distance r c').val = r.val + 128 - unfoldCol r.val c'.val from by rw [← bandCol_val]; rfl, ← e]
  refine congrArg lit0 (Fin.ext ?_)
  rw [Shape.rowMajor_val_two]
  show r.val * 256 + (bandCol r c').val = 256 * r.val + unfoldCol r.val c'.val
  rw [bandCol_val]; omega

end

/-- The selects over the buckets read the bucket's bias. -/
theorem gathered_apply (bk : Vec Ideal S128x256 .i32) (R : RelLd Ideal) (h : ℕ) (hh : h < 8) (i : S128x256.Idx) (b : ℕ) (hb : b < 32)
    (e : bk i = BitVec.ofNat 32 b) : ∀ (n : ℕ) (hn : n ≤ 32), b < n → gathered (F := Ideal) bk R h hh n hn i = R ![b, h] (inbRel hb hh) * log2e := by
  intro n
  induction n with
  | zero => intro hn h0; exact absurd h0 (Nat.not_lt_zero _)
  | succ n ih =>
    intro hn hbn
    have hw : (cmpi .eq (show IVec S128x256 32 from bk) (broadcast S128x256 (BitVec.ofNat 32 n))) i = 1#1 ↔ b = n := by
      show IntOp.cmpi .eq (bk i) (BitVec.ofNat 32 n) = 1#1 ↔ _
      rw [e]
      exact WordCmp.cmpi_eq_ofNat_eq_one_iff (by omega) (by omega)
    show select _ _ _ i = _
    rw [select_of_iff _ _ _ _ hw]
    by_cases hbe : b = n
    · subst hbe
      rw [if_pos rfl]
      exact congrArg (_ * ·) (IdealRules.named_const.ideal_named_scalar _ _ _ _ rfl)
    · rw [if_neg hbe]
      exact ih _ (by omega)

end Cert.KernelIdeal.Att

end
-- ==== Proof.Att.KernelValue.lean ====
module

public import proofs.«01_k».proof.Proof.Att.Arrays
public import proofs.«01_k».proof.Proof.Gen.KernelIdeal.Value

@[expose] public section

set_option maxRecDepth 65536

noncomputable section

namespace Cert.KernelIdeal.Att

open Cert.KernelIdeal Cert.KernelIdeal.Gen Cert.KernelIdeal.Value Idealize.ShloMosaic Idealize.ShloMosaic.TcCoe Idealize.SL.Sem Idealize.ShloMosaic.Tactic
open Idealize.ShloMosaic.ValueIdx
open scoped BigOperators

/-! # The kernel's result array -/

section
variable (m : (ℓ : Loc nD τ sig) → Buf (Elt Ideal) ℓ) (c : Dev nD)
variable (sk : Fin 8 → ℝ) (rb : Fin 32 → Fin 8 → ℝ) (q : Fin 16384 → Fin 512 → ℝ) (k : Fin 16384 → Fin 128 → ℝ)

/-- The arrays a device's run reads hold these reals: sink logits, relative biases, queries and keys. -/
structure Reads : Prop where
  sinks : ∀ h, (V m c main_arg0 : S1x8.Idx → EReal) (ix2 0 h) = (sk h : EReal)
  rel : ∀ b h, (V m c main_arg1 : S32x8.Idx → EReal) (ix2 b h) = (rb b h : EReal)
  queries : ∀ i j, (V m c main_arg2 : S16384x512.Idx → EReal) (ix2 i j) = (q i j : EReal)
  keys : ∀ i j, (V m c main_arg3 : S16384x128.Idx → EReal) (ix2 i j) = (k i j : EReal)

/-- The values a device's run reads. -/
def valuesOf (i : Fin 16384) (j : Fin 128) : EReal := (V m c main_arg4 : S16384x128.Idx → EReal) (ix2 i j)

variable {m c sk rb q k} (H : Reads m c sk rb q k)
include H

/-- A sink logit a point loads. -/
theorem sink_load (t : Fin cfg0.N) (h : Fin 8) (inb) : sinkFrom (iblk m c 0 t) ![0, h.val] inb = (sk h : EReal) := by
  unfold sinkFrom
  rw [block_sinks, ← H.sinks h]
  refine congrArg (V m c main_arg0 : S1x8.Idx → EReal) (funext fun a => Fin.ext ?_)
  match a with
  | ⟨0, _⟩ => rfl
  | ⟨1, _⟩ => rfl

/-- A relative bias a point loads. -/
theorem rel_load (t : Fin cfg0.N) (b : Fin 32) (h : Fin 8) (inb) : relOf (iblk m c 1 t) ![b.val, h.val] inb = (rb b h : EReal) := by
  unfold relOf
  rw [block_rel, ← H.rel b h]
  refine congrArg (V m c main_arg1 : S32x8.Idx → EReal) (funext fun a => Fin.ext ?_)
  match a with
  | ⟨0, _⟩ => rfl
  | ⟨1, _⟩ => rfl

/-- A query a point loads: scaled, over the logarithm of two. -/
theorem query_load (t : Fin cfg0.N) (o₀ o₁ : ℕ) (inb) (r d : Fin 128) (i : Fin 16384) (j : Fin 512)
    (hi : i.val = 2048 * t.val + o₀ + r.val) (hj : j.val = o₁ + d.val) :
    queryOf (iblk m c 3 t) ![o₀, o₁] inb (ix2 r d) = ((q i j : ℝ) : EReal) * ((1 / 8 * (Real.log 2)⁻¹ : ℝ) : EReal) := by
  unfold queryOf
  rw [block_q m c t _ (ix2 i j) (by show i.val = 2048 * t.val + (o₀ + 1 * r.val); omega) (by show j.val = o₁ + 1 * d.val; omega),
    V_q, qScaled_apply, H.queries]

omit H in
/-- The band a point loads: piece `p` of the packed row the band column stands for. -/
theorem band_apply (t : Fin cfg0.N) (b : Fin 16) (n : Fin 128) (hn : n.val = 16 * t.val + b.val) (o : ℕ) (inb) (j : Fin 256) (d : Fin 128)
    (p : Fin 8) (e : Fin 64) (hp : o + d.val = 64 * p.val + e.val) :
    bandOf (iblk m c 4 t) (iblk m c 5 t) ![128 * b.val, o] inb (ix2 j d)
      = (if p.val < 4 then (V m c main_arg3 : S16384x128.Idx → EReal) else V m c main_arg4) (ix2 (keyRow n j) ⟨64 * (p.val / 2 % 2) + e.val, by omega⟩) := by
  have hc : o + d.val < 512 := by omega
  have hN : t.val < 8 := lt_of_lt_of_eq t.isLt N_0
  have key : ∀ y : S16384x512.Idx, (y 0).val = (keyRow n j).val → (y 1).val = o + d.val →
      V m c main_v14 y = (if p.val < 4 then (V m c main_arg3 : S16384x128.Idx → EReal) else V m c main_arg4) (ix2 (keyRow n j) ⟨64 * (p.val / 2 % 2) + e.val, by omega⟩) :=
    fun y h0 h1 => by
      rw [V_kv]
      exact kvPacked_apply _ _ (keyRow n j) p e y h0 (h1.trans hp)
  unfold bandOf bandValue
  by_cases hj : 128 * b.val + 1 * j.val < 128
  · rw [dif_pos (show ((Rect.unit (s := S2176x512) ![128 * b.val, o] S256x128.size inb).toLoadRect.idx (ix2 j d) 0).val < 128 from hj),
      block_before m c t _ (ix2 (keyRow n j) ⟨o + d.val, hc⟩) ?_ (by show o + d.val = o + 1 * d.val; omega)]
    · exact key _ rfl rfl
    · show (if n.val = 0 ∧ j.val < 128 then j.val else 128 * n.val + j.val - 128) = 128 * (16 * t.val - 1) + (128 * b.val + 1 * j.val)
      split <;> omega
  · rw [dif_neg (show ¬((Rect.unit (s := S2176x512) ![128 * b.val, o] S256x128.size inb).toLoadRect.idx (ix2 j d) 0).val < 128 from hj),
      block_kv m c t _ (ix2 (keyRow n j) ⟨o + d.val, hc⟩) ?_ (by show o + d.val = o + 1 * d.val; omega)]
    · exact key _ rfl rfl
    · show (if n.val = 0 ∧ j.val < 128 then j.val else 128 * n.val + j.val - 128) = 2048 * t.val + (128 * b.val + 1 * j.val - 128)
      split <;> omega

/-- A bias in base 2, from the table. -/
theorem bias_value (h : Fin 8) (r c' : Fin 128) (t : Fin cfg0.N) :
    biasValue (iblk m c 2 t) (relOf (iblk m c 1 t)) h r c' = ((rb ⟨bucketOf (distance r c').val, bucketOf_lt _⟩ h : ℝ) : EReal) * log2e := by
  unfold biasValue
  refine (gathered_apply _ _ h.val h.isLt _ (bucketOf (distance r c').val) (bucketOf_lt _) ((block_bucket m c t _).trans (bucket_word m c r c'))
    32 (Nat.le_refl 32) (bucketOf_lt _)).trans ?_
  exact congrArg (· * _) (rel_load H t ⟨bucketOf (distance r c').val, bucketOf_lt _⟩ h _)

/-- A block's folded logits, in base 2. -/
theorem logit_value (t : Fin cfg0.N) (b : Fin 16) (n : Fin 128) (hn : n.val = 16 * t.val + b.val) (h s f : Fin 2) (r c' : Fin 128)
    (i₁ i₂ i₃) :
    foldedLogit (bandOf (iblk m c 4 t) (iblk m c 5 t) ![128 * b.val, 128 * h.val] i₁)
      (queryOf (iblk m c 3 t) ![128 * b.val, 256 * h.val + 128 * s.val] i₂)
      (biasOf (theTable m c) ![(tableOf ⟨table0 (grid0.coords t), table0_lt _⟩ b).val, h.val, 128 * s.val, 128 * f.val] i₃) f r c'
      = logit q k rb n ⟨4 * h.val + 2 * s.val + f.val, by omega⟩ r c' * log2e := by
  have hN : t.val < 8 := lt_of_lt_of_eq t.isLt N_0
  unfold foldedLogit
  have hq : ∀ e : Fin 64, queryOf (iblk m c 3 t) ![128 * b.val, 256 * h.val + 128 * s.val] i₂ (ix2 r ⟨64 * f.val + e.val, by omega⟩)
      = ((q ⟨128 * n.val + r.val, by omega⟩ ⟨64 * (4 * h.val + 2 * s.val + f.val) + e.val, by omega⟩ : ℝ) : EReal) * ((1 / 8 * (Real.log 2)⁻¹ : ℝ) : EReal) :=
    fun e => query_load H t _ _ _ _ _ _ _ (by show 128 * n.val + r.val = _; omega) (by
      show 64 * (4 * h.val + 2 * s.val + f.val) + e.val = 256 * h.val + 128 * s.val + (64 * f.val + e.val); omega)
  have hk : ∀ e : Fin 64, bandOf (iblk m c 4 t) (iblk m c 5 t) ![128 * b.val, 128 * h.val] i₁ (ix2 (bandCol r c') ⟨64 * f.val + e.val, by omega⟩)
      = ((k (keyRow n (bandCol r c')) ⟨64 * ((4 * h.val + 2 * s.val + f.val) / 4) + e.val, by omega⟩ : ℝ) : EReal) := fun e => by
    rw [band_apply t b n hn _ _ _ _ ⟨2 * h.val + f.val, by omega⟩ e (by show 128 * h.val + (64 * f.val + e.val) = 64 * (2 * h.val + f.val) + e.val; omega),
      if_pos (by show 2 * h.val + f.val < 4; omega), ← H.keys]
    refine congrArg (V m c main_arg3 : S16384x128.Idx → EReal) (congrArg (ix2 (keyRow n (bandCol r c'))) (Fin.ext ?_))
    show 64 * ((2 * h.val + f.val) / 2 % 2) + e.val = 64 * ((4 * h.val + 2 * s.val + f.val) / 4) + e.val
    omega
  have hb : biasOf (theTable m c) ![(tableOf ⟨table0 (grid0.coords t), table0_lt _⟩ b).val, h.val, 128 * s.val, 128 * f.val] i₃ (ix4 0 0 r c')
      = if c' ≤ r ∨ n ≠ 0 then ((rb ⟨bucketOf (distance r c').val, bucketOf_lt _⟩ ⟨4 * h.val + 2 * s.val + f.val, by omega⟩ : ℝ) : EReal) * log2e else ⊥ := by
    have htab : (tableOf ⟨table0 (grid0.coords t), table0_lt _⟩ b = 0) ↔ n = 0 := by
      have e := table0_at t
      unfold tableOf
      constructor
      · intro hz
        split at hz
        · rename_i hb0
          have : table0 (grid0.coords t) = 0 := congrArg Fin.val hz
          rw [e] at this
          split at this
          · rename_i ht0
            subst hb0
            exact Fin.ext (by rw [hn, ht0]; rfl)
          · exact absurd this (by decide)
        · exact absurd hz (by decide)
      · intro hz
        have hz' : n.val = 0 := congrArg Fin.val hz
        rw [if_pos (Fin.ext (by show b.val = 0; omega))]
        exact Fin.ext (by show table0 (grid0.coords t) = 0; rw [e, if_pos (by omega)])
    unfold biasOf theTable
    rw [tableValue_at _ _ (tableOf ⟨table0 (grid0.coords t), table0_lt _⟩ b) h s f r c' _ rfl (by show h.val + 1 * 0 = _; omega)
      (by show 128 * s.val + 1 * r.val = _; omega) (by show 128 * f.val + 1 * c'.val = _; omega)]
    unfold tableEntry
    rw [bias_value H]
    by_cases hcr : c' ≤ r
    · rw [if_pos hcr, ite_self, if_pos (Or.inl hcr)]
    · rw [if_neg hcr]
      by_cases hz : n = 0
      · rw [if_pos (htab.2 hz), if_neg (fun h => h.elim hcr (fun h => h hz))]
      · rw [if_neg (fun h => hz (htab.1 h)), if_pos (Or.inr hz)]
  have hsum : (∑ e : Fin 64, queryOf (iblk m c 3 t) ![128 * b.val, 256 * h.val + 128 * s.val] i₂ (ix2 r ⟨64 * f.val + e.val, by omega⟩)
        * bandOf (iblk m c 4 t) (iblk m c 5 t) ![128 * b.val, 128 * h.val] i₁ (ix2 (bandCol r c') ⟨64 * f.val + e.val, by omega⟩))
      = ∑ e : Fin 64, ((q ⟨128 * n.val + r.val, by omega⟩ ⟨64 * (4 * h.val + 2 * s.val + f.val) + e.val, by omega⟩ : ℝ) : EReal) * ((1 / 8 * (Real.log 2)⁻¹ : ℝ) : EReal)
        * ((k (keyRow n (bandCol r c')) ⟨64 * ((4 * h.val + 2 * s.val + f.val) / 4) + e.val, by omega⟩ : ℝ) : EReal) :=
    Finset.sum_congr rfl fun e _ => congrArg₂ (· * ·) (hq e) (hk e)
  refine (congrArg₂ (· + ·) hsum hb).trans ?_
  unfold logit
  by_cases hv : c' ≤ r ∨ n ≠ 0
  · rw [if_pos hv, if_pos hv]
    exact scaled_logit _ _ _ _ _
  · rw [if_neg hv, if_neg hv, EReal.add_bot, bot_mul_log2e]

/-- A point's row. -/
theorem row_value (t : Fin cfg0.N) (b : Fin 16) (n : Fin 128) (hn : n.val = 16 * t.val + b.val) (h s f : Fin 2) (r : Fin 128) (e : Fin 64) :
    headRow (bandOf (iblk m c 4 t) (iblk m c 5 t)) (queryOf (iblk m c 3 t)) (biasOf (theTable m c)) (sinkFrom (iblk m c 0 t))
      (tableOf ⟨table0 (grid0.coords t), table0_lt _⟩ b) b h s f r ⟨64 * f.val + e.val, by omega⟩
      = result q k rb (valuesOf m c) sk n ⟨4 * h.val + 2 * s.val + f.val, by omega⟩ r e := by
  unfold headRow result
  have h1 := funext fun c' => logit_value H t b n hn h s f r c' (inbBand (by omega) (by omega)) (inbTile (by omega) (by omega))
    (inbBias (tableOf ⟨table0 (grid0.coords t), table0_lt _⟩ b).isLt h.isLt (by omega) (by omega))
  have h2 := congrArg (· * log2e) (sink_load H t ⟨4 * h.val + 2 * s.val + f.val, by omega⟩ (inbSink (by omega)))
  have h3 : (fun j : Fin 256 => bandOf (iblk m c 4 t) (iblk m c 5 t) ![128 * b.val, 128 * h.val + 256] (inbBand (by omega) (by omega)) (ix2 j ⟨64 * f.val + e.val, by omega⟩))
      = fun j => valuesOf m c (keyRow n j) ⟨64 * ((4 * h.val + 2 * s.val + f.val) / 4) + e.val, by omega⟩ := funext fun j => by
    rw [band_apply t b n hn _ _ _ _ ⟨4 + 2 * h.val + f.val, by omega⟩ e (by
        show 128 * h.val + 256 + (64 * f.val + e.val) = 64 * (4 + 2 * h.val + f.val) + e.val; omega),
      if_neg (by show ¬(4 + 2 * h.val + f.val < 4); omega)]
    refine congrArg (V m c main_arg4 : S16384x128.Idx → EReal) (congrArg (ix2 (keyRow n j)) (Fin.ext ?_))
    show 64 * ((4 + 2 * h.val + f.val) / 2 % 2) + e.val = 64 * ((4 * h.val + 2 * s.val + f.val) / 4) + e.val
    omega
  refine (congr (congr (congrArg (attend r) h1) h2) h3).trans ?_
  exact attend_eq r _ (logit_ne_top q k rb n _ r) _ _

/-- **The kernel's result**, at row `128 n + r` and lane `64 h + e`. -/
theorem kernel_value (n : Fin 128) (h : Fin 8) (r : Fin 128) (e : Fin 64) (i : S16384x512.Idx)
    (h0 : (i 0).val = 128 * n.val + r.val) (h1 : (i 1).val = 64 * h.val + e.val) :
    G6 m c i = result q k rb (valuesOf m c) sk n h r e := by
  have hp : pt6Of i = n.val / 16 := by
    show 1 * ((i 0).val / 2048 - 0) + 1 * ((i 1).val / 512 - 0) = _
    omega
  have hN : pt6Of i < cfg0.N := by rw [hp]; exact lt_of_lt_of_eq (by omega : n.val / 16 < 8) N_0.symm
  unfold G6
  rw [dif_pos hN, ← outsAt0_sweep m c _ hN]
  have e1 := congrFun (point_value m c ⟨pt6Of i, hN⟩) (loc6Of i)
  refine e1.trans ?_
  rw [tileValue_at _ _ _ _ _ ⟨n.val % 16, by omega⟩ ⟨h.val / 4, by omega⟩ ⟨h.val / 2 % 2, by omega⟩ r ⟨64 * (h.val % 2) + e.val, by omega⟩ _
    (by show (i 0).val % 2048 = 128 * (n.val % 16) + r.val; omega)
    (by show (i 1).val % 512 = 256 * (h.val / 4) + 128 * (h.val / 2 % 2) + (64 * (h.val % 2) + e.val); omega)]
  have ef : (⟨(64 * (h.val % 2) + e.val) / 64, by omega⟩ : Fin 2) = ⟨h.val % 2, by omega⟩ := Fin.ext (by show (64 * (h.val % 2) + e.val) / 64 = h.val % 2; omega)
  have eh : (⟨4 * (h.val / 4) + 2 * (h.val / 2 % 2) + h.val % 2, by omega⟩ : Fin 8) = h := Fin.ext (by show 4 * (h.val / 4) + 2 * (h.val / 2 % 2) + h.val % 2 = h.val; omega)
  have e2 := row_value H ⟨pt6Of i, hN⟩ ⟨n.val % 16, by omega⟩ n (by show n.val = 16 * pt6Of i + n.val % 16; rw [hp]; omega)
    ⟨h.val / 4, by omega⟩ ⟨h.val / 2 % 2, by omega⟩ ⟨h.val % 2, by omega⟩ r e
  rw [eh] at e2
  rw [← e2]
  exact congrArg (fun f => headRow (bandOf (iblk m c 4 ⟨pt6Of i, hN⟩) (iblk m c 5 ⟨pt6Of i, hN⟩)) (queryOf (iblk m c 3 ⟨pt6Of i, hN⟩)) (biasOf (theTable m c))
    (sinkFrom (iblk m c 0 ⟨pt6Of i, hN⟩)) (tableOf ⟨table0 (grid0.coords ⟨pt6Of i, hN⟩), table0_lt _⟩ ⟨n.val % 16, by omega⟩) ⟨n.val % 16, by omega⟩
    ⟨h.val / 4, by omega⟩ ⟨h.val / 2 % 2, by omega⟩ f r ⟨64 * (h.val % 2) + e.val, by omega⟩) ef

end

end Cert.KernelIdeal.Att

end
-- ==== Proof.Att.RefValue.lean ====
module

public import proofs.«01_k».proof.Proof.Att.Spec
public import proofs.«01_k».proof.Proof.Gen.ReferenceIdeal.Read
public import Idealize.ShloMosaic.Lib.KernelVsHost
public import Idealize.ShloMosaic.Lib.ValueIdxCore

@[expose] public section

set_option maxRecDepth 65536

noncomputable section

namespace Cert.ReferenceIdeal.Att

open Cert.ReferenceIdeal Cert.ReferenceIdeal.Gen Cert.ReferenceIdeal.Read Idealize.ShloMosaic Idealize.ShloMosaic.TcCoe
open Idealize.ShloMosaic.ValueIdx
open Cert.KernelIdeal.Att (keyRow bandCol distance realLogit logit result textbook unfolded bandTop bucketOf bucketOf_lt pick steps log8)
open scoped BigOperators

/-! # The reference's result array -/

/-! ## The band of keys and of values -/

/-- Two blocks of rows side by side: the block before (the array moved down a block), then the block itself. -/
def band (x : S16384x128.Idx → EReal) (z : S_.Idx → EReal) : S128x256x2x64.Idx → EReal :=
  concatenate S128x256x2x64 1
    [⟨S128x128x2x64, shapeCast S128x128x2x64 (extractStridedSlice S16384x128 ![0, 0]
        (pad S16512x128 ![128, 0] ![0, 0] ![0, 0] x z pads_S16384x128_S16512x128_12800_000 h_S_) slices_S16512x128_S16384x128_0_0)
        shapeCasts_S16384x128_S128x128x2x64⟩,
      ⟨S128x128x2x64, shapeCast S128x128x2x64 x shapeCasts_S16384x128_S128x128x2x64⟩]
    concatenates_S128x128x2x64_S128x128x2x64_S128x256x2x64_d1

/-- The band wherever there is a row. -/
theorem band_apply (x : S16384x128.Idx → EReal) (z : S_.Idx → EReal) (n : Fin 128) (j : Fin 256) (h : Fin 2) (e : Fin 64)
    (hv : n ≠ 0 ∨ 128 ≤ j.val) : band x z (ix4 n j h e) = x (ix2 (keyRow n j) ⟨64 * h.val + e.val, by omega⟩) := by
  have hrow : (keyRow n j).val = 128 * n.val + j.val - 128 := by
    show (if n.val = 0 ∧ j.val < 128 then j.val else 128 * n.val + j.val - 128) = _
    rw [if_neg]
    rintro ⟨h0, hj⟩
    rcases hv with hv | hv
    · exact hv (Fin.ext h0)
    · omega
  unfold band
  by_cases hj : j.val < 128
  · have hn : n.val ≠ 0 := fun h0 => hv.elim (fun hv => hv (Fin.ext h0)) (fun h => by omega)
    refine (concatenate_pair_apply_left (t := S128x256x2x64) (s₁ := S128x128x2x64) 1 _ _ _ (ix4 n j h e) rfl (ix4 n (⟨j.val, hj⟩ : Fin 128) h e) (fun b => by
      match b with
      | ⟨0, _⟩ => rfl
      | ⟨1, _⟩ => rfl
      | ⟨2, _⟩ => rfl
      | ⟨3, _⟩ => rfl)).trans ?_
    refine (shapeCast_apply _ _ _ (ix2 ⟨128 * n.val + j.val, by omega⟩ ⟨64 * h.val + e.val, by omega⟩) (by
      rw [Shape.rowMajor_val_two, Shape.rowMajor_val_four]
      show (128 * n.val + j.val) * 128 + (64 * h.val + e.val) = ((n.val * 128 + j.val) * 2 + h.val) * 64 + e.val
      omega)).trans ?_
    refine (extractStridedSlice_apply _ _ _ _ (ix2 ⟨128 * n.val + j.val, by omega⟩ ⟨64 * h.val + e.val, by omega⟩) (fun a => by
      match a with
      | ⟨0, _⟩ => exact (Nat.zero_add _).symm
      | ⟨1, _⟩ => exact (Nat.zero_add _).symm)).trans ?_
    refine pad_apply_of_inside _ _ _ x z _ _ _ _ (fun a => ?_)
    match a with
    | ⟨0, _⟩ => show 128 * n.val + j.val = 128 + (keyRow n j).val * (0 + 1); omega
    | ⟨1, _⟩ => show 64 * h.val + e.val = 0 + (64 * h.val + e.val) * (0 + 1); omega
  · refine (concatenate_pair_apply_right (t := S128x256x2x64) (s₁ := S128x128x2x64) (s₂ := S128x128x2x64) 1 _ _ _ (ix4 n j h e) rfl rfl (ix4 n (⟨j.val - 128, by omega⟩ : Fin 128) h e) (fun b hb => by
      match b, hb with
      | ⟨0, _⟩, _ => rfl
      | ⟨1, _⟩, hb => exact absurd rfl hb
      | ⟨2, _⟩, _ => rfl
      | ⟨3, _⟩, _ => rfl) (by show j.val - 128 + 128 = j.val; omega)).trans ?_
    refine shapeCast_apply _ _ _ _ ?_
    rw [Shape.rowMajor_val_two, Shape.rowMajor_val_four]
    show (keyRow n j).val * 128 + (64 * h.val + e.val) = ((n.val * 128 + (j.val - 128)) * 2 + h.val) * 64 + e.val
    omega

theorem keys_eq (x : S16384x128.Idx → EReal) : val_main_v5 (F := Ideal) x = band x (val_main_call0_v0 (F := Ideal)) := rfl
theorem values_eq (x : S16384x128.Idx → EReal) : val_main_v10 (F := Ideal) x = band x (val_main_call1_v0 (F := Ideal)) := rfl

/-! ## The window and the buckets, on words -/

/-- The word of a distance. -/
def distWord (r j : ℕ) : BitVec 32 := BitVec.ofNat 32 r + 128#32 - BitVec.ofNat 32 j

theorem distWord_eq (r j : ℕ) (hr : r < 128) (hj : j < 256) : distWord r j = BitVec.ofNat 32 (r + 255 - j) - 127#32 := by
  unfold distWord
  apply BitVec.eq_of_toNat_eq
  simp only [BitVec.toNat_sub, BitVec.toNat_add, BitVec.toNat_ofNat]
  omega

theorem distWord_inside (r j d : ℕ) (hr : r < 128) (h : j + d = r + 128) : distWord r j = BitVec.ofNat 32 d := by
  unfold distWord
  apply BitVec.eq_of_toNat_eq
  simp only [BitVec.toNat_sub, BitVec.toNat_add, BitVec.toNat_ofNat]
  omega

theorem window_word : ∀ t : Fin 383, IntOp.andi (IntOp.cmpi .sge (BitVec.ofNat 32 t.val - 127#32) 0#32) (IntOp.cmpi .slt (BitVec.ofNat 32 t.val - 127#32) 128#32)
    = if 127 ≤ t.val ∧ t.val < 255 then 1#1 else 0#1 := by decide +kernel

theorem block_word : ∀ n : Fin 128, IntOp.cmpi .sgt (BitVec.ofNat 32 n.val) 0#32 = if n.val ≠ 0 then 1#1 else 0#1 := by decide +kernel
theorem column_word : ∀ j : Fin 256, IntOp.cmpi .sge (BitVec.ofNat 32 j.val) 128#32 = if 128 ≤ j.val then 1#1 else 0#1 := by decide +kernel

/-- A key is met: in the window and not before the first block. -/
def Met (n r j : ℕ) : Prop := (r < j ∧ j ≤ r + 128) ∧ (n ≠ 0 ∨ 128 ≤ j)

instance (n r j : ℕ) : Decidable (Met n r j) := by unfold Met; infer_instance

theorem dist_word (y : S128x256.Idx) : val_main_v19 (F := Ideal) y = distWord (y 0).val (y 1).val := by
  rw [val_main_v19_apply, val_main_v17_apply, val_main_v14_apply, val_main_v12_apply, val_main_v11_apply, val_main_v13_apply, val_main_c_1_apply,
    val_main_v18_apply, val_main_v16_apply, val_main_v15_apply]
  rfl

theorem in_window (y : S128x256.Idx) : val_main_v24 (F := Ideal) y = if (y 0).val < (y 1).val ∧ (y 1).val ≤ (y 0).val + 128 then 1#1 else 0#1 := by
  have h0 : (y 0).val < 128 := (y 0).isLt
  have h1 : (y 1).val < 256 := (y 1).isLt
  rw [val_main_v24_apply, val_main_v21_apply, val_main_v23_apply, dist_word, distWord_eq _ _ h0 h1, val_main_v20_apply, val_main_c_2_apply,
    val_main_v22_apply, val_main_c_3_apply]
  refine (window_word ⟨(y 0).val + 255 - (y 1).val, by omega⟩).trans (if_congr ?_ rfl rfl)
  show 127 ≤ (y 0).val + 255 - (y 1).val ∧ (y 0).val + 255 - (y 1).val < 255 ↔ _
  omega

theorem not_before (y : S128x1x256.Idx) : val_main_v35 (F := Ideal) y = if (y 0).val ≠ 0 ∨ 128 ≤ (y 2).val then 1#1 else 0#1 := by
  rw [val_main_v35_apply, val_main_v33_apply, val_main_v29_apply, val_main_v26_apply, val_main_v25_apply, val_main_v28_apply, val_main_c_4_apply,
    val_main_v34_apply, val_main_v32_apply, val_main_v30_apply, val_main_v16_apply, val_main_v15_apply, val_main_v31_apply, val_main_c_5_apply]
  refine (congrArg₂ IntOp.ori (block_word (y 0)) (column_word (y 2))).trans ?_
  by_cases h0 : (y 0).val ≠ 0 <;> by_cases h1 : 128 ≤ (y 2).val
  · rw [if_pos h0, if_pos h1, if_pos (Or.inl h0)]; rfl
  · rw [if_pos h0, if_neg h1, if_pos (Or.inl h0)]; rfl
  · rw [if_neg h0, if_pos h1, if_pos (Or.inr h1)]; rfl
  · rw [if_neg h0, if_neg h1, if_neg (fun h => h.elim h0 h1)]; rfl

theorem met_word (i : S128x128x256.Idx) : val_main_v38 (F := Ideal) i = 1#1 ↔ Met (i 0).val (i 1).val (i 2).val := by
  rw [val_main_v38_apply, val_main_v36_apply, val_main_v27_apply, val_main_v37_apply, in_window, not_before]
  show IntOp.andi (if (i 1).val < (i 2).val ∧ (i 2).val ≤ (i 1).val + 128 then 1#1 else 0#1) (if (i 0).val ≠ 0 ∨ 128 ≤ (i 2).val then 1#1 else 0#1) = 1#1 ↔ _
  unfold Met
  split <;> split <;> rename_i h0 h1
  · exact ⟨fun _ => ⟨h0, h1⟩, fun _ => rfl⟩
  · exact ⟨fun h => absurd h (by decide), fun h => absurd h.2 h1⟩
  · exact ⟨fun h => absurd h (by decide), fun h => absurd h.1 h0⟩
  · exact ⟨fun h => absurd h (by decide), fun h => absurd h.1 h0⟩

theorem max_zero_word : ∀ d : Fin 128, IntOp.maxsi (BitVec.ofNat 32 d.val) 0#32 = BitVec.ofNat 32 d.val := by decide +kernel
theorem max_one_word : ∀ d : Fin 128, 16 ≤ d.val → IntOp.maxsi (BitVec.ofNat 32 d.val) 1#32 = BitVec.ofNat 32 d.val := by decide +kernel
theorem toInt_word : ∀ d : Fin 128, (BitVec.ofNat 32 d.val).toInt = (d.val : ℤ) := by decide +kernel
theorem float_word (d : Fin 128) : (FloatOps.sitofp (F := Ideal) .f32 (BitVec.ofNat 32 d.val) : EReal) = ((d.val : ℝ) : EReal) :=
  (congrArg (fun z : ℤ => ((z : ℝ) : EReal)) (toInt_word d)).trans (congrArg (fun x : ℝ => (x : EReal)) (Int.cast_natCast d.val))
theorem sixteen_word : Ideal.ofBits .f32 0x41800000#32 = ((16 : ℝ) : EReal) := by
  simp [Ideal.ofBits, Ideal.ieee, -EReal.coe_mul]; norm_num

/-- The bucket's word of a distance inside the window. -/
theorem bucket_word (y : S128x256.Idx) (d : Fin 128) (h : (y 1).val + d.val = (y 0).val + 128) :
    val_main_v63 (F := Ideal) y = BitVec.ofNat 32 (bucketOf d.val) := by
  have h0 : (y 0).val < 128 := (y 0).isLt
  have hw : val_main_v40 (F := Ideal) y = BitVec.ofNat 32 d.val := by
    rw [val_main_v40_apply, dist_word, distWord_inside _ _ d.val h0 h, val_main_v39_apply, val_main_c_6_apply]
    exact max_zero_word d
  have hp : val_main_v63 (F := Ideal) y = pick (val_main_v40 (F := Ideal) y) (val_main_v51 (F := Ideal) y) := by
    rw [val_main_v63_apply, val_main_v60_apply, val_main_v62_apply, val_main_v58_apply, val_main_v57_apply, val_main_v55_apply, val_main_v53_apply,
      val_main_v52_apply, val_main_c_10_apply, val_main_v54_apply, val_main_c_11_apply, val_main_v56_apply, val_main_c_12_apply,
      val_main_v59_apply, val_main_c_13_apply, val_main_v61_apply, val_main_c_14_apply]
    rfl
  rw [hp, hw]
  by_cases h16 : d.val < 16
  · exact Cert.KernelIdeal.Att.pick_small _ h16 _
  · have hs : val_main_v51 (F := Ideal) y = BitVec.ofNat 32 (steps d.val) := by
      rw [val_main_v51_apply, val_main_v50_apply, val_main_v48_apply, val_main_v46_apply, val_main_v45_apply, val_main_v43_apply, val_main_v42_apply, hw,
        val_main_v41_apply, val_main_c_7_apply, max_one_word d (by omega), val_main_v44_apply, val_main_cst_apply, val_main_v47_apply, val_main_cst_8_apply,
        val_main_v49_apply, val_main_cst_9_apply]
      refine Eq.trans ?_ (Cert.KernelIdeal.Att.steps_word d.val (by omega) d.isLt)
      show Ideal.fptosi 32 (Ideal.div (Ideal.log (Ideal.div (FloatOps.sitofp (F := Ideal) .f32 (BitVec.ofNat 32 d.val)) (Ideal.ofBits .f32 0x41800000#32)))
        (Ideal.ofBits .f32 0x40051592#32) * Ideal.ofBits .f32 0x41800000#32) = _
      rw [float_word, sixteen_word, Cert.KernelIdeal.Att.log8_word]
    rw [hs]
    exact Cert.KernelIdeal.Att.pick_large d (by omega)

/-! ## The biases -/

theorem small_word : ∀ b : Fin 32, min (BitVec.ofNat 32 b.val).toInt.toNat (32 - 1) = b.val := by decide +kernel

/-- The gather of the biases: the row the word names. -/
theorem bias_gather (x : S32x8.Idx → EReal) (r : Fin 128) (j : Fin 256) (h : Fin 8) (b : Fin 32)
    (hb : val_main_v63 (F := Ideal) (ix2 r j) = BitVec.ofNat 32 b.val) : val_main_v65 (F := Ideal) x (ix3 r j h) = x (ix2 b h) := by
  unfold val_main_v65 Host.gather
  refine congrArg x (funext fun a => Fin.ext ?_)
  show (gather_S32x8_S128x256x1_S128x256x8_2_0_n_n_0_2_18.start (ix3 r j h) (val_main_v64 (F := Ideal)) a)
    + (gather_S32x8_S128x256x1_S128x256x8_2_0_n_n_0_2_18.batchCoord (ix3 r j h) a)
    + (gather_S32x8_S128x256x1_S128x256x8_2_0_n_n_0_2_18.offCoord (ix3 r j h) a) = _
  rw [GatherDims.batchCoord_eq_zero _ _ _ List.not_mem_nil]
  have h01 : a = (0 : Fin 2) ∨ a = (1 : Fin 2) := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S32x8_S128x256x1_S128x256x8_2_0_n_n_0_2_18.startIndexMap from List.mem_singleton.mpr rfl)]
    have hsi : gather_S32x8_S128x256x1_S128x256x8_2_0_n_n_0_2_18.siIdx (ix3 r j h) ⟨List.idxOf (0 : Fin 2) gather_S32x8_S128x256x1_S128x256x8_2_0_n_n_0_2_18.startIndexMap,
        List.idxOf_lt_length_iff.2 (List.mem_singleton.mpr rfl)⟩ = (ix3 r j (0 : Fin 1) : S128x256x1.Idx) := by
      funext d
      refine Fin.ext ?_
      match d with
      | ⟨0, _⟩ => rfl
      | ⟨1, _⟩ => rfl
      | ⟨2, _⟩ => rfl
    have hi : idx_main_v64 (ix3 r j (0 : Fin 1)) = ix2 r j := funext fun d => by
      match d with
      | ⟨0, _⟩ => rfl
      | ⟨1, _⟩ => rfl
    rw [hsi, val_main_v64_apply, hi, hb]
    exact small_word b
  · have e0 : gather_S32x8_S128x256x1_S128x256x8_2_0_n_n_0_2_18.start (ix3 r j h) (val_main_v64 (F := Ideal)) (1 : Fin 2) = 0 := by
      unfold GatherDims.start
      exact dif_neg (show ¬((1 : Fin 2) ∈ gather_S32x8_S128x256x1_S128x256x8_2_0_n_n_0_2_18.startIndexMap) from by decide)
    rw [e0]
    unfold GatherDims.offCoord
    rw [dif_pos (show (1 : Fin 2) ∈ gather_S32x8_S128x256x1_S128x256x8_2_0_n_n_0_2_18.sKept from by decide)]
    show 0 + 0 + h.val = h.val
    omega

/-- The bias of a distance inside the window. -/
theorem bias_apply (x : S32x8.Idx → EReal) (n : Fin 128) (h : Fin 2) (g : Fin 4) (r : Fin 128) (j : Fin 256) (d : Fin 128) (hd : j.val + d.val = r.val + 128)
    (i : S128x2x4x128x256.Idx) (h1 : (i 1).val = h.val) (h2 : (i 2).val = g.val) (h3 : (i 3).val = r.val) (h4 : (i 4).val = j.val) :
    val_main_v73 (F := Ideal) x i = x (ix2 ⟨bucketOf d.val, bucketOf_lt d⟩ ⟨4 * h.val + g.val, by omega⟩) := by
  rw [val_main_v73_apply, val_main_v72_apply, val_main_v67_apply, val_main_v66_apply]
  refine Eq.trans (congrArg _ ?_) (bias_gather x r j ⟨4 * h.val + g.val, by omega⟩ ⟨bucketOf d.val, bucketOf_lt d⟩ (bucket_word (ix2 r j) d hd))
  funext a
  refine Fin.ext ?_
  match a with
  | ⟨0, _⟩ => show ((((i 1).val * 4 + (i 2).val) * 128 + (i 3).val) * 256 + (i 4).val) / 256 % 128 = r.val; omega
  | ⟨1, _⟩ => show ((((i 1).val * 4 + (i 2).val) * 128 + (i 3).val) * 256 + (i 4).val) % 256 = j.val; omega
  | ⟨2, _⟩ => show ((((i 1).val * 4 + (i 2).val) * 128 + (i 3).val) * 256 + (i 4).val) / 32768 = 4 * h.val + g.val; omega

/-! ## The logits -/

section
variable (x1 : S32x8.Idx → EReal) (x2 : S16384x512.Idx → EReal) (x3 : S16384x128.Idx → EReal)
variable (rb : Fin 32 → Fin 8 → ℝ) (q : Fin 16384 → Fin 512 → ℝ) (k : Fin 16384 → Fin 128 → ℝ)

/-- A met column is the one a folded column stands for. -/
theorem met_col (n r : Fin 128) (j : Fin 256) (h : Met n.val r.val j.val) : ∃ c : Fin 128, bandCol r c = j ∧ (c ≤ r ∨ n ≠ 0) ∧
    ∀ a : Fin 128 → EReal, unfolded r a j = a c := by
  obtain ⟨⟨h1, h2⟩, h3⟩ := h
  by_cases hj : j.val < 128
  · have hc : ¬((⟨j.val, hj⟩ : Fin 128) ≤ r) := fun h => by have : j.val ≤ r.val := h; omega
    refine ⟨⟨j.val, hj⟩, Fin.ext ?_, Or.inr fun e => ?_, fun a => ?_⟩
    · show (if (⟨j.val, hj⟩ : Fin 128) ≤ r then 128 else 0) + j.val = j.val
      rw [if_neg hc, Nat.zero_add]
    · rcases h3 with h3 | h3
      · exact h3 (congrArg Fin.val e)
      · omega
    · exact (Cert.KernelIdeal.Att.unfolded_low r a ⟨j.val, hj⟩).trans (if_neg hc)
  · have hc : (⟨j.val - 128, by omega⟩ : Fin 128) ≤ r := by show j.val - 128 ≤ r.val; omega
    have e : (⟨128 + (j.val - 128), by omega⟩ : Fin 256) = j := Fin.ext (by show 128 + (j.val - 128) = j.val; omega)
    refine ⟨⟨j.val - 128, by omega⟩, Fin.ext ?_, Or.inl hc, fun a => ?_⟩
    · show (if (⟨j.val - 128, _⟩ : Fin 128) ≤ r then 128 else 0) + (j.val - 128) = j.val
      rw [if_pos hc]; omega
    · have := (Cert.KernelIdeal.Att.unfolded_high r a ⟨j.val - 128, by omega⟩).trans (if_pos hc)
      rw [← this]
      exact congrArg _ e.symm

/-- A column that is not met has no logit. -/
theorem unmet_col (n r : Fin 128) (j : Fin 256) (h : ¬Met n.val r.val j.val) (hh : Fin 8) : unfolded r (logit q k rb n hh r) j = ⊥ := by
  have hm : ¬((r.val < j.val ∧ j.val ≤ r.val + 128) ∧ (n.val ≠ 0 ∨ 128 ≤ j.val)) := h
  unfold unfolded logit
  split
  · rename_i hj
    split
    · rfl
    · rename_i hc
      have hc' : ¬(j.val ≤ r.val) := hc
      rw [if_neg]
      rintro (h | h)
      · exact hc h
      · exact hm ⟨⟨by omega, by omega⟩, Or.inl fun e => h (Fin.ext e)⟩
  · rename_i hj
    split
    · rename_i hc
      have hc' : j.val - 128 ≤ r.val := hc
      exact absurd ⟨⟨by omega, by omega⟩, Or.inr (by omega)⟩ hm
    · rfl

theorem eighth_word : Ideal.ofBits .f32 0x3E000000#32 = ((1 / 8 : ℝ) : EReal) := by
  simp [Ideal.ofBits, Ideal.ieee, -EReal.coe_mul]; norm_num
theorem bot_word : Ideal.ofBits .f32 0xFF800000#32 = (⊥ : EReal) := by
  simp [Ideal.ofBits, Ideal.ieee]

variable {x1 x2 x3 rb q k}

/-- **The reference's logits.** -/
theorem logits_eq (h1 : ∀ b h, x1 (ix2 b h) = (rb b h : EReal)) (h2 : ∀ i j, x2 (ix2 i j) = (q i j : EReal)) (h3 : ∀ i j, x3 (ix2 i j) = (k i j : EReal))
    (n : Fin 128) (h : Fin 2) (g : Fin 4) (r : Fin 128) (j : Fin 256) (i : S128x2x4x128x256.Idx) (i0 : (i 0).val = n.val) (i1 : (i 1).val = h.val)
    (i2 : (i 2).val = g.val) (i3 : (i 3).val = r.val) (i4 : (i 4).val = j.val) :
    val_main_v76 (F := Ideal) x1 x2 x3 i = unfolded r (logit q k rb n ⟨4 * h.val + g.val, by omega⟩ r) j := by
  have hw : val_main_call3_v1 (F := Ideal) i = 1#1 ↔ Met n.val r.val j.val := by
    rw [val_main_call3_v1_apply, val_main_v75_apply, met_word, ← i0, ← i3, ← i4]
  rw [val_main_v76_apply]
  show (if val_main_call3_v1 (F := Ideal) i = 1#1 then _ else _) = _
  by_cases hm : Met n.val r.val j.val
  · rw [if_pos (hw.2 hm)]
    obtain ⟨c, hc, hv, hu⟩ := met_col n r j hm
    rw [hu, logit, if_pos hv, realLogit]
    have hd : j.val + (distance r c).val = r.val + 128 := by
      have : (distance r c).val = r.val + 128 - (bandCol r c).val := rfl
      rw [hc] at this
      have := hm.1
      omega
    rw [val_main_v74_apply, val_main_v71_apply, val_main_v69_apply, val_main_v68_apply, val_main_v70_apply, val_main_cst_15_apply,
      bias_apply x1 n h g r j (distance r c) hd i i1 i2 i3 i4, h1]
    have hk : ∀ e : Fin 64, val_main_v5 (F := Ideal) x3 (lidx_main_v68 (idx_main_v69 i) e)
        = ((k (keyRow n (bandCol r c)) ⟨64 * ((4 * h.val + g.val) / 4) + e.val, by omega⟩ : ℝ) : EReal) := fun e => by
      have hidx : lidx_main_v68 (idx_main_v69 i) e = ix4 n j h e := funext fun a => Fin.ext (by
        match a with
        | ⟨0, _⟩ => exact i0
        | ⟨1, _⟩ => exact i4
        | ⟨2, _⟩ => exact i1
        | ⟨3, _⟩ => rfl)
      rw [hidx, keys_eq, band_apply x3 _ n j h e (hm.2.imp (fun h e => h (congrArg Fin.val e)) id), h3, hc]
      exact congrArg (fun d => ((k (keyRow n j) d : ℝ) : EReal)) (Fin.ext (by show 64 * h.val + e.val = 64 * ((4 * h.val + g.val) / 4) + e.val; omega))
    have hq : ∀ e : Fin 64, val_main_v0 (F := Ideal) x2 (ridx_main_v68 (idx_main_v69 i) e)
        = ((q ⟨128 * n.val + r.val, by omega⟩ ⟨64 * (4 * h.val + g.val) + e.val, by omega⟩ : ℝ) : EReal) := fun e => by
      rw [val_main_v0_apply, ← h2]
      refine congrArg x2 (funext fun a => Fin.ext ?_)
      match a with
      | ⟨0, _⟩ => show (((((i 0).val * 128 + (i 3).val) * 2 + (i 1).val) * 4 + (i 2).val) * 64 + e.val) / 512 = 128 * n.val + r.val; omega
      | ⟨1, _⟩ => show (((((i 0).val * 128 + (i 3).val) * 2 + (i 1).val) * 4 + (i 2).val) * 64 + e.val) % 512 = 64 * (4 * h.val + g.val) + e.val; omega
    simp only [hk, hq]
    show (∑ e : Fin 64, ((k (keyRow n (bandCol r c)) ⟨64 * ((4 * h.val + g.val) / 4) + e.val, by omega⟩ : ℝ) : EReal)
        * ((q ⟨128 * n.val + r.val, by omega⟩ ⟨64 * (4 * h.val + g.val) + e.val, by omega⟩ : ℝ) : EReal)) * Ideal.ofBits .f32 0x3E000000#32 + _ = _
    rw [eighth_word, EReal.coe_add, EReal.coe_mul, Cert.KernelIdeal.Att.coe_sum]
    refine congrArg (fun s => s * _ + _) (Finset.sum_congr rfl fun e _ => ?_)
    rw [EReal.coe_mul, mul_comm]
  · rw [if_neg (fun h => hm (hw.1 h)), unmet_col rb q k n r j hm, val_main_call3_v2_apply, val_main_call3_v0_apply, val_main_cst_16_apply]
    exact bot_word

end

end Cert.ReferenceIdeal.Att

end
-- ==== Proof.Att.RefResult.lean ====
module

public import proofs.«01_k».proof.Proof.Att.RefValue

@[expose] public section

set_option maxRecDepth 65536

noncomputable section

namespace Cert.ReferenceIdeal.Att

open Cert.ReferenceIdeal Cert.ReferenceIdeal.Gen Cert.ReferenceIdeal.Read Idealize.ShloMosaic Idealize.ShloMosaic.TcCoe
open Idealize.ShloMosaic.ValueIdx
open Cert.KernelIdeal.Att (keyRow bandCol distance realLogit logit result textbook unfolded bandTop logit_ne_top textbook_congr)
open scoped BigOperators

/-! # The reference's result, row by row -/

section
variable {x0 : S1x8.Idx → EReal} {x1 : S32x8.Idx → EReal} {x2 : S16384x512.Idx → EReal} {x3 : S16384x128.Idx → EReal}
variable {sk : Fin 8 → ℝ} {rb : Fin 32 → Fin 8 → ℝ} {q : Fin 16384 → Fin 512 → ℝ} {k : Fin 16384 → Fin 128 → ℝ}
variable (h0 : ∀ h, x0 (ix2 0 h) = (sk h : EReal)) (h1 : ∀ b h, x1 (ix2 b h) = (rb b h : EReal))
variable (h2 : ∀ i j, x2 (ix2 i j) = (q i j : EReal)) (h3 : ∀ i j, x3 (ix2 i j) = (k i j : EReal))
variable (n : Fin 128) (h : Fin 2) (g : Fin 4) (r : Fin 128)

/-- The sink logit. -/
theorem sink_apply (h0 : ∀ h, x0 (ix2 0 h) = (sk h : EReal)) (i : S1x2x4x1x1.Idx) (i1 : (i 1).val = h.val) (i2 : (i 2).val = g.val) :
    val_main_v78 (F := Ideal) x0 i = (sk ⟨4 * h.val + g.val, by omega⟩ : EReal) := by
  rw [val_main_v78_apply, val_main_v77_apply, ← h0]
  refine congrArg x0 (funext fun a => Fin.ext ?_)
  match a with
  | ⟨0, _⟩ => rfl
  | ⟨1, _⟩ => show ((i 1).val * 4 + (i 2).val) % 8 = 4 * h.val + g.val; omega

include h1 h2 h3 in
/-- The largest logit. -/
theorem max_apply (i : S128x2x4x128.Idx) (i0 : (i 0).val = n.val) (i1 : (i 1).val = h.val) (i2 : (i 2).val = g.val) (i3 : (i 3).val = r.val) :
    val_main_v79 (F := Ideal) x1 x2 x3 i = Finset.univ.fold max ⊥ (unfolded r (logit q k rb n ⟨4 * h.val + g.val, by omega⟩ r)) := by
  unfold val_main_v79
  have hred : S128x2x4x128x256.Reduces [4] S128x2x4x128 := by decide
  refine (Host.reduce_eq_fold_single FloatOps.maximumf _ _ reducesTo_S128x2x4x128x256_S128x2x4x128_d4 hred h_S_ i).trans ?_
  have hf : (val_main_v76 (F := Ideal) x1 x2 x3 ∘ hred.lift i) = unfolded r (logit q k rb n ⟨4 * h.val + g.val, by omega⟩ r) := funext fun j =>
    logits_eq h1 h2 h3 n h g r j _ i0 i1 i2 i3 rfl
  rw [hf, show val_main_cst_17 (F := Ideal) (Shape.Idx.first h_S_) = (⊥ : EReal) from bot_word]
  rfl

include h0 h1 h2 h3 in
/-- The largest logit and the sink's. -/
theorem top_apply (i : S128x2x4x128x1.Idx) (i0 : (i 0).val = n.val) (i1 : (i 1).val = h.val) (i2 : (i 2).val = g.val) (i3 : (i 3).val = r.val) :
    val_main_v82 (F := Ideal) x0 x1 x2 x3 i = bandTop (unfolded r (logit q k rb n ⟨4 * h.val + g.val, by omega⟩ r)) (sk ⟨4 * h.val + g.val, by omega⟩) := by
  rw [val_main_v82_apply, val_main_v80_apply, max_apply h1 h2 h3 n h g r (idx_main_v80 i) i0 i1 i2 i3, val_main_v81_apply,
    sink_apply h g h0 (idx_main_v81 i) i1 i2]
  rfl

include h0 h1 h2 h3 in
/-- An exponential. -/
theorem exp_apply (j : Fin 256) (i : S128x2x4x128x256.Idx) (i0 : (i 0).val = n.val) (i1 : (i 1).val = h.val) (i2 : (i 2).val = g.val)
    (i3 : (i 3).val = r.val) (i4 : (i 4).val = j.val) :
    val_main_v85 (F := Ideal) x0 x1 x2 x3 i = Ideal.exp (unfolded r (logit q k rb n ⟨4 * h.val + g.val, by omega⟩ r) j
      - bandTop (unfolded r (logit q k rb n ⟨4 * h.val + g.val, by omega⟩ r)) (sk ⟨4 * h.val + g.val, by omega⟩)) := by
  rw [val_main_v85_apply, val_main_v84_apply, val_main_v83_apply, logits_eq h1 h2 h3 n h g r j i i0 i1 i2 i3 i4,
    top_apply h0 h1 h2 h3 n h g r (idx_main_v83 i) i0 i1 i2 i3]
  rfl

include h0 h1 h2 h3 in
/-- The denominator. -/
theorem denominator_apply (i : S128x2x4x128x1.Idx) (i0 : (i 0).val = n.val) (i1 : (i 1).val = h.val) (i2 : (i 2).val = g.val) (i3 : (i 3).val = r.val) :
    val_main_v91 (F := Ideal) x0 x1 x2 x3 i = (∑ j : Fin 256, Ideal.exp (unfolded r (logit q k rb n ⟨4 * h.val + g.val, by omega⟩ r) j
        - bandTop (unfolded r (logit q k rb n ⟨4 * h.val + g.val, by omega⟩ r)) (sk ⟨4 * h.val + g.val, by omega⟩)))
      + Ideal.exp (sk ⟨4 * h.val + g.val, by omega⟩ - bandTop (unfolded r (logit q k rb n ⟨4 * h.val + g.val, by omega⟩ r)) (sk ⟨4 * h.val + g.val, by omega⟩)) := by
  rw [val_main_v91_apply, val_main_v87_apply, val_main_v86_apply, val_main_v90_apply, val_main_v89_apply, val_main_v88_apply,
    sink_apply h g h0 (idx_main_v88 i) i1 i2, top_apply h0 h1 h2 h3 n h g r i i0 i1 i2 i3]
  have hz : val_main_cst_18 (F := Ideal) (Shape.Idx.first h_S_) = (0 : EReal) := by
    show Ideal.ofBits .f32 0x00000000#32 = 0
    simp [Ideal.ofBits, Ideal.ieee]
  have hs := Finset.sum_congr rfl fun (j : Fin 256) (_ : j ∈ Finset.univ) =>
    exp_apply h0 h1 h2 h3 n h g r j (idx_main_v86 (idx_main_v87 i) j) i0 i1 i2 i3 rfl
  rw [hz, hs, zero_add]
  rfl

include h0 h1 h2 h3 in
/-- **The reference's result**, at row `128 n + r` and lane `64 (4 h + g) + e`. -/
theorem reference_value (x4 : S16384x128.Idx → EReal) (e : Fin 64) (i : S16384x512.Idx) (i0 : (i 0).val = 128 * n.val + r.val)
    (i1 : (i 1).val = 64 * (4 * h.val + g.val) + e.val) :
    val_main_v97 (F := Ideal) x0 x1 x2 x3 x4 i
      = result q k rb (fun i j => x4 (ix2 i j)) sk n ⟨4 * h.val + g.val, by omega⟩ r e := by
  rw [val_main_v97_apply]
  show val_main_v96 (F := Ideal) x0 x1 x2 x3 x4 i = _
  rw [val_main_v96_apply, val_main_v95_apply, val_main_v94_apply]
  have a0 : (idx_main_v95 (idx_main_v96 i) 0).val = n.val := by
    show ((i 0).val * 512 + (i 1).val) / 65536 = n.val; omega
  have a1 : (idx_main_v95 (idx_main_v96 i) 1).val = h.val := by
    show ((i 0).val * 512 + (i 1).val) / 256 % 2 = h.val; omega
  have a2 : (idx_main_v95 (idx_main_v96 i) 2).val = e.val := by
    show ((i 0).val * 512 + (i 1).val) % 64 = e.val; omega
  have a3 : (idx_main_v95 (idx_main_v96 i) 3).val = g.val := by
    show ((i 0).val * 512 + (i 1).val) / 64 % 4 = g.val; omega
  have a4 : (idx_main_v95 (idx_main_v96 i) 4).val = r.val := by
    show ((i 0).val * 512 + (i 1).val) / 512 % 128 = r.val; omega
  generalize idx_main_v95 (idx_main_v96 i) = y at a0 a1 a2 a3 a4
  have hp : ∀ j : Fin 256, val_main_v93 (F := Ideal) x0 x1 x2 x3 (ridx_main_v94 y j)
      = Ideal.div (Ideal.exp (unfolded r (logit q k rb n ⟨4 * h.val + g.val, by omega⟩ r) j
          - bandTop (unfolded r (logit q k rb n ⟨4 * h.val + g.val, by omega⟩ r)) (sk ⟨4 * h.val + g.val, by omega⟩)))
        ((∑ j : Fin 256, Ideal.exp (unfolded r (logit q k rb n ⟨4 * h.val + g.val, by omega⟩ r) j
            - bandTop (unfolded r (logit q k rb n ⟨4 * h.val + g.val, by omega⟩ r)) (sk ⟨4 * h.val + g.val, by omega⟩)))
          + Ideal.exp (sk ⟨4 * h.val + g.val, by omega⟩ - bandTop (unfolded r (logit q k rb n ⟨4 * h.val + g.val, by omega⟩ r)) (sk ⟨4 * h.val + g.val, by omega⟩))) :=
    fun j => by
      rw [val_main_v93_apply, val_main_v92_apply, exp_apply h0 h1 h2 h3 n h g r j (ridx_main_v94 y j) a0 a1 a3 a4 rfl,
        denominator_apply h0 h1 h2 h3 n h g r (idx_main_v92 (ridx_main_v94 y j)) a0 a1 a3 a4]
      rfl
  have hv : ∀ j : Fin 256, lidx_main_v94 y j = ix4 n j h e := fun j => funext fun a => Fin.ext (by
    match a with
    | ⟨0, _⟩ => exact a0
    | ⟨1, _⟩ => rfl
    | ⟨2, _⟩ => exact a1
    | ⟨3, _⟩ => exact a2)
  simp only [hp, hv]
  unfold result
  refine Eq.trans ?_ (textbook_congr (unfolded r (logit q k rb n ⟨4 * h.val + g.val, by omega⟩ r)) ?_ (sk ⟨4 * h.val + g.val, by omega⟩)
    (fun j => val_main_v10 (F := Ideal) x4 (ix4 n j h e)) _ ?_)
  · unfold textbook
    exact Finset.sum_congr rfl fun j _ => mul_comm _ _
  · intro j
    by_cases hm : Met n.val r.val j.val
    · obtain ⟨c, _, _, hu⟩ := met_col n r j hm
      rw [hu]
      exact logit_ne_top q k rb n _ r c
    · rw [unmet_col rb q k n r j hm]
      exact bot_ne_top
  · intro j hj
    have hm : Met n.val r.val j.val := by
      by_contra hm
      exact hj (unmet_col rb q k n r j hm _)
    rw [values_eq, band_apply x4 _ n j h e (hm.2.imp (fun h e => h (congrArg Fin.val e)) id)]
    exact congrArg (fun d => x4 (ix2 (keyRow n j) d)) (Fin.ext (by show 64 * h.val + e.val = 64 * ((4 * h.val + g.val) / 4) + e.val; omega))

end

end Cert.ReferenceIdeal.Att

end
-- ==== Proof.Att.Finite.lean ====
module

public import proofs.«01_k».proof.Defs
public import Idealize.ShloMosaic.Lib.ReduceAll
public import Idealize.ShloMosaic.Lib.WordCmp
public import Idealize.ShloMosaic.Lib.ValueIdxCore

@[expose] public section

set_option maxRecDepth 65536

noncomputable section

namespace Cert.Pre_scores_finite.Att

open Idealize.ShloMosaic

/-! # The precondition, read as reals

`scores_finite` asks of the sink logits, the bias table, the queries and the keys that the absolute value of every entry
is below infinity: every entry is then a real. -/

/-- The shape relations the predicate's operations take. -/
theorem facts : Cert.Pre_scores_finite.Facts where
  bcast_S_S1x8 := by decide
  reducesTo_S1x8_S_d0_1 := by decide
  h_S_ := by decide
  bcast_S_S32x8 := by decide
  reducesTo_S32x8_S_d0_1 := by decide
  bcast_S_S16384x512 := by decide
  reducesTo_S16384x512_S_d0_1 := by decide
  bcast_S_S16384x128 := by decide
  reducesTo_S16384x128_S_d0_1 := by decide

/-- The word of infinity. -/
theorem infinity_word : Ideal.ofBits .f32 0x7F800000#32 = ⊤ := by
  simp [Ideal.ofBits, Ideal.ieee]

/-- An extended real whose absolute value is below infinity is a real. -/
theorem real_of_below (x : EReal) (h : Ideal.cmp .olt (max x (-x)) (Ideal.ofBits .f32 0x7F800000#32) = 1#1) : ∃ r : ℝ, x = (r : EReal) := by
  rw [infinity_word] at h
  have hlt : max x (-x) < ⊤ := by
    have := (WordCmp.ofBool_eq_one_iff _).1 h
    simpa using this
  induction x with
  | bot => simp at hlt
  | top => simp at hlt
  | coe r => exact ⟨r, rfl⟩

instance : Subsingleton (Cert.Pre_scores_finite.S_).Idx := ⟨fun a b => funext fun k => k.elim0⟩

/-- One conjunct of the predicate: every entry of the array is a real. -/
theorem entries_real {s : Shape} {axes : List (Fin s.rank)} (x : FVec Ideal s .f32) (hb : Cert.Pre_scores_finite.S_.BroadcastsInDim s (![] : Fin 0 → Fin s.rank))
    (h : s.ReducesTo axes Cert.Pre_scores_finite.S_) (hu : 0 < Cert.Pre_scores_finite.S_.numel) (j : Cert.Pre_scores_finite.S_.Idx)
    (e : Host.reduce IntOp.andi (cmpf .olt (Host.absf x) (broadcastInDim s ![] hb (constant Cert.Pre_scores_finite.S_ .f32 0x7F800000#32)))
      (constantI Cert.Pre_scores_finite.S_ 1 1#1) h hu j = 1#1) (i : s.Idx) : ∃ r : ℝ, x i = (r : EReal) :=
  real_of_below (x i) (Host.reduce_andi_all _ _ h hu j e i)

/-- **What the precondition says**: the sink logits, the bias table, the queries and the keys are real. -/
theorem reals [hF : Cert.Pre_scores_finite.Facts] (x0 : FVec Ideal S1x8 .f32) (x1 : FVec Ideal S32x8 .f32) (x2 : FVec Ideal S16384x512 .f32)
    (x3 x4 : FVec Ideal S16384x128 .f32) (h : Cert.Pre_scores_finite.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal)) ∧ ∀ i, ∃ r : ℝ, x3 i = (r : EReal) := by
  have e := congrFun h (fun a => a.elim0)
  unfold Cert.Pre_scores_finite.fn Cert.Pre_scores_finite.fn_part1 at e
  obtain ⟨e, e3⟩ := IntOp.andi_eq_one.1 e
  obtain ⟨e, e2⟩ := IntOp.andi_eq_one.1 e
  obtain ⟨e0, e1⟩ := IntOp.andi_eq_one.1 e
  exact ⟨entries_real x0 _ _ _ _ e0, entries_real x1 _ _ _ _ e1, entries_real x2 _ _ _ _ e2, entries_real x3 _ _ _ _ e3⟩

end Cert.Pre_scores_finite.Att

end
-- ==== Proof.Ffn.Unit.lean ====
module

public import proofs.«01_k».proof.Proof.Gen.Kernel2Ideal.Skeleton

@[expose] public section

set_option maxRecDepth 65536

noncomputable section

namespace Cert.Kernel2Ideal.Ffn

open Cert.Kernel2Ideal Cert.Kernel2Ideal.Gen Idealize.ShloMosaic Idealize.ShloMosaic.TcCoe Idealize.SL.Sem

variable {F : FTy → Type} [FloatOps F] [Named F]

/-! # The pieces of a tile's computation

A tile is 512 tokens. The rows of the hidden layer are held in a permuted order: row `8q + s` is token `64s + q`. -/

/-- The last of eight rows. -/
def lastRow : IVec S8x256 1 := cmpi .eq (iota .tc S8x256 32 [0] iota_S8x256_d0_w32) (broadcast S8x256 7#32)

/-- A block of 256 columns of the up projection. -/
def up (h : FVec F S512x1024 .bf16) (w : Vec F S1024x256 .bf16) : FVec F S512x256 .f32 :=
  matmul dot_S512x1024_S1024x256_S512x256_1_0_0_1_n_n none h (shapeCast S1024x256 w shapeCasts_S1024x256_S1024x256)
    (constant S512x256 .f32 0x00000000#32)

/-- The last sixteen rows of a block: the last two tokens of each of the eight runs of 64. -/
def tail (u : FVec F S512x256 .f32) : FVec F S16x256 .f32 := extractStridedSlice S16x256 ![496, 0] u slices_S512x256_o496_0_S16x256

/-- The tokens two before the first of each run. -/
def before2 (p : Vec F S16x256 .f32) (u : FVec F S512x256 .f32) : FVec F S8x256 .f32 :=
  dynamicRotate 0 1#32 none (select lastRow (extractStridedSlice S8x256 ![0, 0] p slices_S16x256_o0_0_S8x256)
    (extractStridedSlice S8x256 ![0, 0] (tail u) slices_S16x256_o0_0_S8x256)) rotates_S8x256_d0

/-- The tokens one before the first of each run. -/
def before1 (p : Vec F S16x256 .f32) (u : FVec F S512x256 .f32) : FVec F S8x256 .f32 :=
  dynamicRotate 0 1#32 none (select lastRow (extractStridedSlice S8x256 ![8, 0] p slices_S16x256_o8_0_S8x256)
    (extractStridedSlice S8x256 ![8, 0] (tail u) slices_S16x256_o8_0_S8x256)) rotates_S8x256_d0

/-- The block one token earlier. -/
def shift1 (p : Vec F S16x256 .f32) (u : FVec F S512x256 .f32) : FVec F S512x256 .f32 :=
  concatenate S512x256 0 [⟨S8x256, before1 p u⟩, ⟨S504x256, extractStridedSlice S504x256 ![0, 0] u slices_S512x256_o0_0_S504x256⟩]
    concatenates_S8x256_S504x256_S512x256_d0

/-- The block two tokens earlier. -/
def shift2 (p : Vec F S16x256 .f32) (u : FVec F S512x256 .f32) : FVec F S512x256 .f32 :=
  concatenate S512x256 0 [⟨S8x256, before2 p u⟩, ⟨S8x256, before1 p u⟩,
      ⟨S496x256, extractStridedSlice S496x256 ![0, 0] u slices_S512x256_o0_0_S496x256⟩]
    concatenates_S8x256_S8x256_S496x256_S512x256_d0

/-- The causal convolution of a block, from the previous tile's tail. -/
def conv (p : Vec F S16x256 .f32) (u : FVec F S512x256 .f32) (b w2 w1 w0 : Vec F S1x256 .f32) : FVec F S512x256 .f32 :=
  addf (addf (addf (broadcastTo S512x256 b broadcasts_S1x256_S512x256) (mulf (broadcastTo S512x256 w2 broadcasts_S1x256_S512x256) u))
    (mulf (broadcastTo S512x256 w1 broadcasts_S1x256_S512x256) (shift1 p u)))
    (mulf (broadcastTo S512x256 w0 broadcasts_S1x256_S512x256) (shift2 p u))

/-- The gate's factor of the hyperbolic tangent's argument. -/
def inner (g : FVec F S512x256 .f32) : FVec F S512x256 .f32 :=
  addf (broadcast S512x256 (Scalar.ofBits .f32 0x3F4C422A#32)) (mulf (broadcast S512x256 (Named.named κ "cubic" 0x3D122279#32)) (mulf g g))

/-- Half the gate times the value. -/
def half (g v : FVec F S512x256 .f32) : FVec F S512x256 .f32 := mulf (mulf (broadcast S512x256 (Scalar.ofBits .f32 0x3F000000#32)) g) v

/-- A gated block. -/
def gated (g v : FVec F S512x256 .f32) : FVec F S512x256 .bf16 :=
  truncf .bf16 (addf (half g v) (mulf (half g v) (tanh (mulf g (inner g))))) bitsLt_bf16_f32

/-- The down projection of the eleven gated blocks. -/
def down (b : Fin 11 → FVec F S512x256 .bf16) (w : Vec F S2816x1024 .bf16) : FVec F S512x1024 .f32 :=
  matmul dot_S512x2816_S2816x1024_S512x1024_1_0_0_1_n_n none
    (concatenate S512x2816 1 [⟨S512x256, b 0⟩, ⟨S512x256, b 1⟩, ⟨S512x256, b 2⟩, ⟨S512x256, b 3⟩, ⟨S512x256, b 4⟩, ⟨S512x256, b 5⟩,
        ⟨S512x256, b 6⟩, ⟨S512x256, b 7⟩, ⟨S512x256, b 8⟩, ⟨S512x256, b 9⟩, ⟨S512x256, b 10⟩]
      concatenates_S512x256_S512x256_S512x256_S512x256_S512x256_S512x256_S512x256_S512x256_S512x256_S512x256_S512x256_S512x2816_d1)
    (shapeCast S2816x1024 w shapeCasts_S2816x1024_S2816x1024) (constant S512x1024 .f32 0x00000000#32)

/-- Rows over the root of their mean square. -/
def rms (x : FVec F S512x1024 .f32) : FVec F S512x1024 .f32 :=
  mulf x (broadcastTo S512x1024 (rsqrt (addf (divf
      (shapeCast S512x1 (multiReduction .add [1] S512 (mulf x x) 0x00000000#32 reduces_S512x1024_S512 (.inl rfl) rfl) shapeCasts_S512_S512x1)
      (broadcast S512x1 (Scalar.ofBits .f32 0x44800000#32))) (broadcast S512x1 (Scalar.ofBits .f32 0x358637BD#32)))) broadcasts_S512x1_S512x1024)

/-- A row of scales on every row. -/
def onRows (x : FVec F S1x1024 .f32) : FVec F S512x1024 .f32 := broadcastTo S512x1024 x broadcasts_S1x1024_S512x1024

/-- The tile after the first residual addition. -/
def residual (a : Vec F S512x512 .bf16) (wa : Vec F S512x1024 .bf16) (s : Vec F S512x512 .bf16) (ws : Vec F S512x1024 .bf16)
    (x : Vec F S1x512x1024 .f32) (g w : Vec F S1x1024 .f32) : FVec F S512x1024 .f32 :=
  addf (shapeCast S512x1024 x shapeCasts_S1x512x1024_S512x1024)
    (mulf (rms (addf
      (matmul dot_S512x512_S512x1024_S512x1024_1_0_0_1_n_n none (shapeCast S512x512 a shapeCasts_S512x512_S512x512)
        (shapeCast S512x1024 wa shapeCasts_S512x1024_S512x1024) (constant S512x1024 .f32 0x00000000#32))
      (matmul dot_S512x512_S512x1024_S512x1024_1_0_0_1_n_n none (shapeCast S512x512 s shapeCasts_S512x512_S512x512)
        (shapeCast S512x1024 ws shapeCasts_S512x1024_S512x1024) (constant S512x1024 .f32 0x00000000#32)))) (onRows (mulf g w)))

/-- The modulated, normalised rows the up projection reads. -/
def modulated (x : FVec F S512x1024 .f32) (w sc sh : Vec F S1x1024 .f32) : FVec F S512x1024 .f32 :=
  addf (mulf (rms x) (onRows (mulf w (addf (broadcast S1x1024 (Scalar.ofBits .f32 0x3F800000#32)) sc)))) (onRows sh)

/-- The rows of the down projection, normalised and scaled. -/
def scaled (f : FVec F S512x1024 .f32) (g w : Vec F S1x1024 .f32) : FVec F S512x1024 .f32 := mulf (rms f) (onRows (mulf g w))

theorem residual_eq : k0_pay4 (F := F) = residual := rfl
theorem modulated_eq : k0_pay6 (F := F) = modulated := rfl

end Cert.Kernel2Ideal.Ffn

end
-- ==== Proof.Ffn.Pieces.lean ====
module

public import proofs.«01_k».proof.Proof.Ffn.Unit

@[expose] public section

set_option maxRecDepth 65536

noncomputable section

namespace Cert.Kernel2Ideal.Ffn

open Cert.Kernel2Ideal Cert.Kernel2Ideal.Gen Idealize.ShloMosaic Idealize.ShloMosaic.TcCoe Idealize.SL.Sem

variable {F : FTy → Type} [FloatOps F] [Named F]

/-! # What a grid point stores, in terms of what it loads -/

/-- A box in an array of two axes. -/
theorem inb2 {m n a b r c : ℕ} (hr : r + a ≤ m) (hc : c + b ≤ n) :
    ∀ d : Fin 2, (![r, c] : Fin 2 → ℕ) d + (![a, b] : Fin 2 → ℕ) d ≤ (![m, n] : Fin 2 → ℕ) d := fun d =>
  match d with
  | ⟨0, _⟩ => hr
  | ⟨1, _⟩ => hc

/-- A box in an array of three axes. -/
theorem inb3 {l m n a b e r s c : ℕ} (hr : r + a ≤ l) (hs : s + b ≤ m) (hc : c + e ≤ n) :
    ∀ d : Fin 3, (![r, s, c] : Fin 3 → ℕ) d + (![a, b, e] : Fin 3 → ℕ) d ≤ (![l, m, n] : Fin 3 → ℕ) d := fun d =>
  match d with
  | ⟨0, _⟩ => hr
  | ⟨1, _⟩ => hs
  | ⟨2, _⟩ => hc

/-- A strided box in an array of three axes: `t` the stride of the middle axis. -/
theorem inb3s {l m n a b e r s t c : ℕ} (hr : r + 1 * (a - 1) < l) (hs : s + t * (b - 1) < m) (hc : c + 1 * (e - 1) < n) :
    ∀ d : Fin 3, (![a, b, e] : Fin 3 → ℕ) d = 0 ∨ (![r, s, c] : Fin 3 → ℕ) d + (![1, t, 1] : Fin 3 → ℕ) d * ((![a, b, e] : Fin 3 → ℕ) d - 1) < (![l, m, n] : Fin 3 → ℕ) d := fun d =>
  match d with
  | ⟨0, _⟩ => .inr hr
  | ⟨1, _⟩ => .inr hs
  | ⟨2, _⟩ => .inr hc

/-- The first `n` of `N` stores over earlier ones, the last first. -/
def storesUpTo {s : Shape} {e : EltTy} {N : ℕ} (p : Fin N → View.Piece (Elt F) s e) (base : List (View.Piece (Elt F) s e)) :
    (n : ℕ) → n ≤ N → List (View.Piece (Elt F) s e)
  | 0, _ => base
  | n + 1, h => p ⟨n, h⟩ :: storesUpTo p base n (Nat.le_of_succ_le h)

/-! ## The hidden rows, staged and read in the permuted order -/

/-- Store `k` of the staging buffer: 64 rows of 128 lanes. -/
def stagePiece (h : FVec F S512x1024 .f32) (k : Fin 64) : View.Piece (Elt F) S8x576x128 .f32 :=
  ⟨Rect.unit ![k.val / 8, 72 * (k.val % 8), 0] S1x64x128.size (inb3 (by omega) (by omega) (by omega)),
    shapeCast S1x64x128 (extractStridedSlice S64x128 ![64 * (k.val % 8), 128 * (k.val / 8)] h
      ⟨rfl, inb2 (by omega) (by omega)⟩) shapeCasts_S64x128_S1x64x128⟩

def stageStores (h : FVec F S512x1024 .f32) : List (View.Piece (Elt F) S8x576x128 .f32) := storesUpTo (stagePiece h) [] 64 le_rfl

/-- The loads of eight rows of the staging buffer: by slab of lanes and place. -/
abbrev StageLd (F : FTy → Type) := Fin 8 → Fin 64 → Vec F S1x8x128 .f32

theorem rows_concatenate {α : Type} (f : Fin 64 → S8x128.Idx → α) :
    Shape.Concatenates ((List.ofFn fun k => (⟨S8x128, f k⟩ : (s : Shape) × (s.Idx → α))).map (·.1)) S512x128 0 := by
  rw [List.map_ofFn]
  show Shape.Concatenates (List.ofFn fun _ : Fin 64 => S8x128) S512x128 0
  decide

/-- Sixty-four tiles of eight rows, one above the other. -/
def rows {α : Type} (f : Fin 64 → S8x128.Idx → α) : S512x128.Idx → α :=
  concatenate S512x128 0 (List.ofFn fun k => ⟨S8x128, f k⟩) (rows_concatenate f)

/-- The box of eight rows, 72 apart. -/
def boxA (l : Fin 8) (k : Fin 64) : LoadRect S8x576x128 :=
  ⟨![l.val, k.val, 0], S1x8x128.size, ![1, 72, 1], inb3s (a := 1) (b := 8) (e := 128) (by omega) (by omega) (by omega)⟩

/-- The box of eight rows, 8 apart. -/
def boxB (l : Fin 8) (k : Fin 64) : LoadRect S8x576x128 :=
  ⟨![l.val, k.val / 8 + 64 * (k.val % 8), 0], S1x8x128.size, ![1, 8, 1], inb3s (a := 1) (b := 8) (e := 128) (by omega) (by omega) (by omega)⟩

/-- Store `l` of the hidden rows in the permuted order: 128 lanes. -/
def hiddenPiece (g : StageLd F) (l : Fin 8) : View.Piece (Elt F) S512x1024 .bf16 :=
  ⟨Rect.unit ![0, 128 * l.val] S512x128.size (inb2 (by omega) (by omega)),
    shapeCast S512x128 (truncf .bf16 (rows fun k => shapeCast S8x128 (g l k) shapeCasts_S1x8x128_S8x128) bitsLt_bf16_f32)
      shapeCasts_S512x128_S512x128⟩

def hiddenStores (g : StageLd F) : List (View.Piece (Elt F) S512x1024 .bf16) := storesUpTo (hiddenPiece g) [] 8 le_rfl

/-! ## The blocks of 256 columns: `2j` the gate's block `j`, `2j + 1` the value's -/

/-- The first column of block `k`. -/
def col (k : ℕ) : ℕ := 256 * (k / 2) + 2816 * (k % 2)

theorem col_le (k : ℕ) (hk : k < 22) : col k + 256 ≤ 5632 := by unfold col; omega

/-- Loads of the up projection's weights. -/
abbrev UpLd (F : FTy → Type) := ∀ off : Fin 2 → ℕ, (∀ a, off a + S1024x256.size a ≤ S1024x5632.size a) → Vec F S1024x256 .bf16
/-- Loads of the convolution's bias. -/
abbrev BiasLd (F : FTy → Type) := ∀ off : Fin 2 → ℕ, (∀ a, off a + S1x256.size a ≤ S1x5632.size a) → Vec F S1x256 .f32
/-- Loads of the convolution's taps. -/
abbrev TapLd (F : FTy → Type) := ∀ off : Fin 2 → ℕ, (∀ a, off a + S1x256.size a ≤ S3x5632.size a) → Vec F S1x256 .f32
/-- Loads of the carried rows: before store `k`. -/
abbrev CarryLd (F : FTy → Type) := ℕ → ∀ off : Fin 2 → ℕ, (∀ a, off a + S16x256.size a ≤ S16x5632.size a) → Vec F S16x256 .f32

section
variable (h : FVec F S512x1024 .bf16) (W : UpLd F) (B : BiasLd F) (T : TapLd F) (P : CarryLd F)

/-- Block `k` of the up projection. -/
def upBlock (k : ℕ) (hk : k < 22) : FVec F S512x256 .f32 := up h (W ![0, col k] (inb2 (Nat.zero_add _).le (col_le k hk)))

/-- Block `k`'s store into the carried rows. -/
def carryPiece (k : Fin 22) : View.Piece (Elt F) S16x5632 .f32 :=
  ⟨Rect.unit ![0, col k.val] S16x256.size (inb2 (Nat.zero_add _).le (col_le k.val k.isLt)),
    shapeCast S16x256 (tail (upBlock h W k.val k.isLt)) shapeCasts_S16x256_S16x256⟩

/-- The stores into the carried rows, over earlier ones. -/
def carryStores (base : List (View.Piece (Elt F) S16x5632 .f32)) : List (View.Piece (Elt F) S16x5632 .f32) :=
  storesUpTo (carryPiece h W) base 22 le_rfl

/-- The zeros the first point starts from. -/
def carryZero : View.Piece (Elt F) S16x5632 .f32 :=
  ⟨Rect.unit ![0, 0] S16x5632.size (inb2 (Nat.zero_add _).le (Nat.zero_add _).le),
    shapeCast S16x5632 (broadcast S16x5632 (Scalar.ofBits .f32 0x00000000#32 : F .f32)) shapeCasts_S16x5632_S16x5632⟩

/-- Block `k` after the convolution. -/
def convBlock (k : ℕ) (hk : k < 22) : FVec F S512x256 .f32 :=
  conv (P k ![0, col k] (inb2 (Nat.zero_add _).le (col_le k hk))) (upBlock h W k hk)
    (B ![0, col k] (inb2 (Nat.zero_add _).le (col_le k hk))) (T ![2, col k] (inb2 le_rfl (col_le k hk)))
    (T ![1, col k] (inb2 (Nat.le_succ 2) (col_le k hk))) (T ![0, col k] (inb2 (by omega) (col_le k hk)))

/-- The rows added at the end, in the permuted order. -/
def added (wd : Vec F S2816x1024 .bf16) (g w : Vec F S1x1024 .f32) : FVec F S512x1024 .f32 :=
  scaled (down (fun j => gated (convBlock h W B T P (2 * j.val) (by omega)) (convBlock h W B T P (2 * j.val + 1) (by omega))) wd) g w

end

/-! ## The rows added, staged and read back in the tokens' order -/

/-- Store `l` of the rows added: 128 lanes. -/
def addedPiece (y : FVec F S512x1024 .f32) (l : Fin 8) : View.Piece (Elt F) S8x576x128 .f32 :=
  ⟨Rect.unit ![l.val, 0, 0] S1x512x128.size (inb3 (by omega) (by omega) (by omega)),
    shapeCast S1x512x128 (extractStridedSlice S512x128 ![0, 128 * l.val] y ⟨rfl, inb2 (by omega) (by omega)⟩) shapeCasts_S512x128_S1x512x128⟩

def addedStores (y : FVec F S512x1024 .f32) (base : List (View.Piece (Elt F) S8x576x128 .f32)) : List (View.Piece (Elt F) S8x576x128 .f32) :=
  storesUpTo (addedPiece y) base 8 le_rfl

/-- The box of 128 lanes of the output. -/
def slab (n : ℕ) (hn : n < 8) : Rect S1x512x1024 :=
  Rect.unit ![0, 0, 128 * n] S1x512x128.size (inb3 (Nat.zero_add _).le (Nat.zero_add _).le (by omega))

/-- The stores into the output: the whole tile, then 128 lanes at a time what is there plus the rows added. -/
def outStores (rl : List (View.Piece (Elt F) S1x512x1024 .f32) → (n : ℕ) → n < 8 → Vec F S1x512x128 .f32)
    (x : FVec F S512x1024 .f32) (g : StageLd F) : (n : ℕ) → n ≤ 8 → List (View.Piece (Elt F) S1x512x1024 .f32)
  | 0, _ => [⟨Rect.unit ![0, 0, 0] S1x512x1024.size (inb3 (Nat.zero_add _).le (Nat.zero_add _).le (Nat.zero_add _).le),
      shapeCast S1x512x1024 x shapeCasts_S512x1024_S1x512x1024⟩]
  | n + 1, hn => ⟨slab n hn,
      shapeCast S1x512x128 (addf (shapeCast S512x128
          (rl (outStores rl x g n (Nat.le_of_succ_le hn)) n hn)
          shapeCasts_S1x512x128_S512x128)
        (rows fun k => shapeCast S8x128 (g ⟨n, hn⟩ k) shapeCasts_S1x8x128_S8x128)) shapeCasts_S512x128_S1x512x128⟩
      :: outStores rl x g n (Nat.le_of_succ_le hn)

end Cert.Kernel2Ideal.Ffn

end
-- ==== Proof.Ffn.UnitValue.lean ====
module

public import proofs.«01_k».proof.Proof.Ffn.Pieces
public import proofs.«01_k».proof.Proof.Att.UnitValue
public import Idealize.ShloMosaic.Lib.KernelVsHost

@[expose] public section

set_option maxRecDepth 16384

noncomputable section

namespace Cert.Kernel2Ideal.Ffn

open Cert.Kernel2Ideal Cert.Kernel2Ideal.Gen Idealize.ShloMosaic Idealize.ShloMosaic.TcCoe Idealize.SL.Sem Idealize.ShloMosaic.Tactic
open Idealize.ShloMosaic.ValueIdx Idealize.ShloMosaic.WordCmp
open Cert.KernelIdeal.Att (zero_word stack_apply select_of_iff)
open scoped BigOperators

/-! # A tile's computation at an index, over the extended reals -/

/-- One over the root of a row's mean square. -/
def rowScale (v : Fin 1024 → EReal) : EReal :=
  Ideal.rsqrt (Ideal.div (∑ j, v j * v j) (Ideal.ofBits .f32 0x44800000#32) + Ideal.ofBits .f32 0x358637BD#32)

/-- The factor of the cube in the hyperbolic tangent's argument. -/
def cubic : EReal := ((80338380498831 / 2251799813685248 : ℝ) : EReal)

/-- A gate times a value. -/
def gate (g v : EReal) : EReal :=
  Ideal.ofBits .f32 0x3F000000#32 * g * v
    + Ideal.ofBits .f32 0x3F000000#32 * g * v * Ideal.tanh (g * (Ideal.ofBits .f32 0x3F4C422A#32 + cubic * (g * g)))

theorem rms_apply (x : FVec Ideal S512x1024 .f32) (r : Fin 512) (c : Fin 1024) :
    rms x (ix2 r c) = x (ix2 r c) * rowScale fun j => x (ix2 r j) := by
  unfold rms
  refine congrArg (x (ix2 r c) * ·) ((broadcastTo_apply _ _ _ (ix2 r 0) fun a => ?_).trans ?_)
  · match a with
    | ⟨0, _⟩ => rfl
    | ⟨1, _⟩ => rfl
  · refine congrArg (fun t : EReal => Ideal.rsqrt (Ideal.div t _ + _)) ((shapeCast_a_a1_apply _ _ r 0).trans
      ((Ideal.multiReduction_add_single _ _ _ _ _ _).trans (Finset.sum_congr rfl fun j _ => ?_)))
    have e : ∀ k : S512x1024.Idx, k = ix2 r j → mulf (F := Ideal) x x k = x (ix2 r j) * x (ix2 r j) := fun k h => h ▸ rfl
    refine e _ (funext fun a => Fin.ext ?_)
    match a with
    | ⟨0, _⟩ => rfl
    | ⟨1, _⟩ => rfl

theorem onRows_apply (x : FVec Ideal S1x1024 .f32) (r : Fin 512) (c : Fin 1024) : onRows x (ix2 r c) = x (ix2 0 c) :=
  broadcastTo_apply _ _ _ _ fun a => by
    match a with
    | ⟨0, _⟩ => rfl
    | ⟨1, _⟩ => rfl

theorem overBlock_apply (x : Vec Ideal S1x256 .f32) (r : Fin 512) (c : Fin 256) :
    broadcastTo S512x256 x broadcasts_S1x256_S512x256 (ix2 r c) = x (ix2 0 c) :=
  broadcastTo_apply _ _ _ _ fun a => by
    match a with
    | ⟨0, _⟩ => rfl
    | ⟨1, _⟩ => rfl

/-- The mixed row: the attention's and the state space model's through the output projection. -/
def mixedRow (a s : Fin 512 → EReal) (wa ws : Fin 512 → Fin 1024 → EReal) (c : Fin 1024) : EReal :=
  (∑ k, a k * wa k c) + ∑ k, s k * ws k c

theorem residual_apply (a : Vec Ideal S512x512 .bf16) (wa : Vec Ideal S512x1024 .bf16) (s : Vec Ideal S512x512 .bf16)
    (ws : Vec Ideal S512x1024 .bf16) (x : Vec Ideal S1x512x1024 .f32) (g w : Vec Ideal S1x1024 .f32) (r : Fin 512) (c : Fin 1024) :
    residual a wa s ws x g w (ix2 r c) = x (ix3 0 r c)
      + mixedRow (fun k => a (ix2 r k)) (fun k => s (ix2 r k)) (fun k c => wa (ix2 k c)) (fun k c => ws (ix2 k c)) c
        * rowScale (mixedRow (fun k => a (ix2 r k)) (fun k => s (ix2 r k)) (fun k c => wa (ix2 k c)) (fun k c => ws (ix2 k c)))
        * (g (ix2 0 c) * w (ix2 0 c)) := by
  unfold residual
  have hm : ∀ (a : Vec Ideal S512x512 .bf16) (w : Vec Ideal S512x1024 .bf16) (c : Fin 1024),
      matmul (F := Ideal) dot_S512x512_S512x1024_S512x1024_1_0_0_1_n_n none (shapeCast S512x512 a shapeCasts_S512x512_S512x512)
        (shapeCast S512x1024 w shapeCasts_S512x1024_S512x1024) (constant S512x1024 .f32 0x00000000#32) (ix2 r c)
        = ∑ k : Fin 512, a (ix2 r k) * w (ix2 k c) := fun a w c => by
    rw [shapeCast_self, shapeCast_self]
    refine (Ideal.matmul_plain_apply (M := 512) (K := 512) (N := 1024) none _ _ _ r c).trans ?_
    rw [show constant (F := Ideal) S512x1024 .f32 0x00000000#32 (ix2 r c) = (0 : EReal) from zero_word, zero_add]
  have hs : ∀ c : Fin 1024, (addf (F := Ideal)
      (matmul (F := Ideal) dot_S512x512_S512x1024_S512x1024_1_0_0_1_n_n none (shapeCast S512x512 a shapeCasts_S512x512_S512x512)
        (shapeCast S512x1024 wa shapeCasts_S512x1024_S512x1024) (constant S512x1024 .f32 0x00000000#32))
      (matmul (F := Ideal) dot_S512x512_S512x1024_S512x1024_1_0_0_1_n_n none (shapeCast S512x512 s shapeCasts_S512x512_S512x512)
        (shapeCast S512x1024 ws shapeCasts_S512x1024_S512x1024) (constant S512x1024 .f32 0x00000000#32))) (ix2 r c)
      = mixedRow (fun k => a (ix2 r k)) (fun k => s (ix2 r k)) (fun k c => wa (ix2 k c)) (fun k c => ws (ix2 k c)) c :=
    fun c => congrArg₂ (· + ·) (hm a wa c) (hm s ws c)
  refine congrArg₂ (· + ·) (shapeCast_1ab_ab_apply _ _ r c) (congrArg₂ (· * ·) ?_ (onRows_apply _ r c))
  exact (rms_apply _ r c).trans (congrArg₂ (· * ·) (hs c) (congrArg rowScale (funext hs)))

theorem modulated_apply (x : FVec Ideal S512x1024 .f32) (w sc sh : Vec Ideal S1x1024 .f32) (r : Fin 512) (c : Fin 1024) :
    modulated x w sc sh (ix2 r c) = x (ix2 r c) * (rowScale fun j => x (ix2 r j))
      * (w (ix2 0 c) * (Ideal.ofBits .f32 0x3F800000#32 + sc (ix2 0 c))) + sh (ix2 0 c) := by
  unfold modulated
  exact congrArg₂ (· + ·) (congrArg₂ (· * ·) (rms_apply x r c) (onRows_apply _ r c)) (onRows_apply _ r c)

theorem scaled_apply (f : FVec Ideal S512x1024 .f32) (g w : Vec Ideal S1x1024 .f32) (r : Fin 512) (c : Fin 1024) :
    scaled f g w (ix2 r c) = f (ix2 r c) * (rowScale fun j => f (ix2 r j)) * (g (ix2 0 c) * w (ix2 0 c)) := by
  unfold scaled
  exact congrArg₂ (· * ·) (rms_apply f r c) (onRows_apply _ r c)

theorem up_apply (h : FVec Ideal S512x1024 .bf16) (w : Vec Ideal S1024x256 .bf16) (r : Fin 512) (c : Fin 256) :
    up h w (ix2 r c) = ∑ k : Fin 1024, h (ix2 r k) * w (ix2 k c) := by
  unfold up
  rw [shapeCast_self]
  refine (Ideal.matmul_plain_apply (M := 512) (K := 1024) (N := 256) none _ _ _ r c).trans ?_
  rw [show constant (F := Ideal) S512x256 .f32 0x00000000#32 (ix2 r c) = (0 : EReal) from zero_word, zero_add]

/-- Whole rows cut out of a block. -/
theorem cut_apply {α : Type} {m n k o : ℕ} (x : (⟨2, ![m, k]⟩ : Shape).Idx → α) (h : Shape.Slices ⟨2, ![m, k]⟩ ![o, 0] ⟨2, ![n, k]⟩)
    (ho : o + n ≤ m) (r : Fin n) (c : Fin k) :
    extractStridedSlice (⟨2, ![n, k]⟩ : Shape) ![o, 0] x h (ix2 r c) = x (ix2 ⟨o + r.val, by omega⟩ c) :=
  extractStridedSlice_apply _ _ _ _ _ fun a => by
    match a with
    | ⟨0, _⟩ => rfl
    | ⟨1, _⟩ => exact (Nat.zero_add _).symm

theorem tail_apply (u : FVec Ideal S512x256 .f32) (r : Fin 16) (c : Fin 256) :
    tail u (ix2 r c) = u (ix2 ⟨496 + r.val, by omega⟩ c) := cut_apply u _ (by omega) r c

theorem lastRow_apply (r : Fin 8) (c : Fin 256) : lastRow (ix2 r c) = 1#1 ↔ r.val = 7 := by
  unfold lastRow
  show IntOp.cmpi .eq _ _ = 1#1 ↔ _
  rw [iota_single_apply]
  show BitVec.ofBool (BitVec.ofNat 32 r.val == 7#32) = 1#1 ↔ _
  rw [WordCmp.ofBool_eq_one_iff, beq_iff_eq]
  constructor
  · intro h
    have := congrArg BitVec.toNat h
    simp only [BitVec.toNat_ofNat] at this
    omega
  · intro h
    rw [h]

/-- A rotation by one row of eight. -/
theorem rotate_apply (x : FVec Ideal S8x256 .f32) (s : Fin 8) (c : Fin 256) :
    dynamicRotate 0 1#32 none x rotates_S8x256_d0 (ix2 s c) = x (ix2 ⟨(s.val + 7) % 8, by omega⟩ c) :=
  dynamicRotate_apply 0 1#32 x _ _ _ fun b => by
    match b with
    | ⟨0, _⟩ =>
      show (s.val + 7) % 8 = (s.val + 8 - 1 % 8) % 8
      omega
    | ⟨1, _⟩ => rfl

/-- The rotated tails, of either kind. -/
theorem before_apply (o : ℕ) (ho : o + 8 ≤ 16) (h : S16x256.Slices ![o, 0] S8x256) (p : Vec Ideal S16x256 .f32) (u : FVec Ideal S512x256 .f32)
    (s : Fin 8) (c : Fin 256) :
    dynamicRotate 0 1#32 none (select lastRow (extractStridedSlice S8x256 ![o, 0] p h) (extractStridedSlice S8x256 ![o, 0] (tail u) h))
        rotates_S8x256_d0 (ix2 s c)
      = if s.val = 0 then p (ix2 ⟨o + 7, by omega⟩ c) else u (ix2 ⟨495 + o + s.val, by omega⟩ c) := by
  rw [rotate_apply, select_of_iff _ _ _ _ (lastRow_apply _ c)]
  rw [show extractStridedSlice S8x256 ![o, 0] p h (ix2 ⟨(s.val + 7) % 8, by omega⟩ c) = _ from cut_apply p h (by omega) _ c,
    show extractStridedSlice S8x256 ![o, 0] (tail u) h (ix2 ⟨(s.val + 7) % 8, by omega⟩ c) = _ from cut_apply (tail u) h (by omega) _ c, tail_apply]
  by_cases hs : s.val = 0
  · rw [if_pos hs, if_pos (by show (s.val + 7) % 8 = 7; omega)]
    exact congrArg (fun r => p (ix2 r c)) (Fin.ext (by show o + (s.val + 7) % 8 = o + 7; omega))
  · rw [if_neg hs, if_neg (by show ¬(s.val + 7) % 8 = 7; omega)]
    exact congrArg (fun r => u (ix2 r c)) (Fin.ext (by show 496 + (o + (s.val + 7) % 8) = 495 + o + s.val; omega))

theorem before1_apply (p : Vec Ideal S16x256 .f32) (u : FVec Ideal S512x256 .f32) (s : Fin 8) (c : Fin 256) :
    before1 p u (ix2 s c) = if s.val = 0 then p (ix2 15 c) else u (ix2 ⟨503 + s.val, by omega⟩ c) := before_apply 8 (by omega) _ p u s c

theorem before2_apply (p : Vec Ideal S16x256 .f32) (u : FVec Ideal S512x256 .f32) (s : Fin 8) (c : Fin 256) :
    before2 p u (ix2 s c) = if s.val = 0 then p (ix2 7 c) else u (ix2 ⟨495 + s.val, by omega⟩ c) := before_apply 0 (by omega) _ p u s c

theorem shift1_apply (p : Vec Ideal S16x256 .f32) (u : FVec Ideal S512x256 .f32) (r : Fin 512) (c : Fin 256) :
    shift1 p u (ix2 r c) = if hr : r.val < 8 then (if r.val = 0 then p (ix2 15 c) else u (ix2 ⟨503 + r.val, by omega⟩ c))
      else u (ix2 ⟨r.val - 8, by omega⟩ c) := by
  refine (stack_apply (n := 8) (m := 504) (k := 256) (t := 512) _ _ _ rfl r c).trans ?_
  by_cases hr : r.val < 8
  · rw [dif_pos hr, dif_pos hr]; exact before1_apply p u ⟨r.val, hr⟩ c
  · rw [dif_neg hr, dif_neg hr]
    exact (cut_apply u _ (by omega) _ c).trans (congrArg (fun r => u (ix2 r c)) (Fin.ext (by show 0 + (r.val - 8) = r.val - 8; omega)))

theorem shift2_apply (p : Vec Ideal S16x256 .f32) (u : FVec Ideal S512x256 .f32) (r : Fin 512) (c : Fin 256) :
    shift2 p u (ix2 r c) = if hr : r.val < 8 then (if r.val = 0 then p (ix2 7 c) else u (ix2 ⟨495 + r.val, by omega⟩ c))
      else if hr' : r.val < 16 then (if r.val = 8 then p (ix2 15 c) else u (ix2 ⟨495 + r.val, by omega⟩ c))
      else u (ix2 ⟨r.val - 16, by omega⟩ c) := by
  unfold shift2
  by_cases hr : r.val < 8
  · rw [dif_pos hr]
    refine (concatenate_apply_piece (t := S512x256) 0 _ _ _ 0 (by show 0 < 3; omega) S8x256 (before2 p u) rfl rfl 0 rfl (ix2 ⟨r.val, hr⟩ c)
      (fun b hb => ?_) (Nat.zero_add _)).trans (before2_apply p u ⟨r.val, hr⟩ c)
    match b, hb with
    | ⟨0, _⟩, hb => exact absurd rfl hb
    | ⟨1, _⟩, _ => rfl
  rw [dif_neg hr]
  by_cases hr' : r.val < 16
  · rw [dif_pos hr']
    refine (concatenate_apply_piece (t := S512x256) 0 _ _ _ 1 (by show 1 < 3; omega) S8x256 (before1 p u) rfl rfl 8 rfl (ix2 ⟨r.val - 8, by omega⟩ c)
      (fun b hb => ?_) (by show 8 + (r.val - 8) = r.val; omega)).trans ((before1_apply p u ⟨r.val - 8, by omega⟩ c).trans ?_)
    · match b, hb with
      | ⟨0, _⟩, hb => exact absurd rfl hb
      | ⟨1, _⟩, _ => rfl
    · by_cases h8 : r.val = 8
      · rw [if_pos h8, if_pos (by show r.val - 8 = 0; omega)]
      · rw [if_neg h8, if_neg (by show ¬r.val - 8 = 0; omega)]
        exact congrArg (fun r => u (ix2 r c)) (Fin.ext (by show 503 + (r.val - 8) = 495 + r.val; omega))
  · rw [dif_neg hr']
    refine (concatenate_apply_piece (t := S512x256) 0 _ _ _ 2 (by show 2 < 3; omega) S496x256 _ rfl rfl 16 rfl (ix2 ⟨r.val - 16, by omega⟩ c)
      (fun b hb => ?_) (by show 16 + (r.val - 16) = r.val; omega)).trans ((cut_apply u _ (by omega) _ c).trans ?_)
    · match b, hb with
      | ⟨0, _⟩, hb => exact absurd rfl hb
      | ⟨1, _⟩, _ => rfl
    · exact congrArg (fun r => u (ix2 r c)) (Fin.ext (by show 0 + (r.val - 16) = r.val - 16; omega))

/-- The convolution at an index. -/
theorem conv_apply (p : Vec Ideal S16x256 .f32) (u : FVec Ideal S512x256 .f32) (b w2 w1 w0 : Vec Ideal S1x256 .f32) (r : Fin 512) (c : Fin 256) :
    conv p u b w2 w1 w0 (ix2 r c) = b (ix2 0 c) + w2 (ix2 0 c) * u (ix2 r c) + w1 (ix2 0 c) * shift1 p u (ix2 r c)
      + w0 (ix2 0 c) * shift2 p u (ix2 r c) := by
  unfold conv
  exact congrArg₂ (· + ·) (congrArg₂ (· + ·) (congrArg₂ (· + ·) (overBlock_apply b r c) (congrArg (· * u (ix2 r c)) (overBlock_apply w2 r c)))
    (congrArg (· * shift1 p u (ix2 r c)) (overBlock_apply w1 r c))) (congrArg (· * shift2 p u (ix2 r c)) (overBlock_apply w0 r c))

theorem cubic_named : (Named.named κ "cubic" 0x3D122279#32 : Ideal .f32) = cubic :=
  IdealRules.named_const.ideal_named_scalar _ _ _ _ rfl

theorem gated_apply (g v : FVec Ideal S512x256 .f32) (i : S512x256.Idx) : gated g v i = gate (g i) (v i) := by
  show Ideal.ofBits .f32 0x3F000000#32 * g i * v i + Ideal.ofBits .f32 0x3F000000#32 * g i * v i
      * Ideal.tanh (g i * (Ideal.ofBits .f32 0x3F4C422A#32 + (Named.named κ "cubic" 0x3D122279#32 : Ideal .f32) * (g i * g i))) = _
  rw [cubic_named]
  rfl

theorem down_apply (b : Fin 11 → FVec Ideal S512x256 .bf16) (w : Vec Ideal S2816x1024 .bf16) (r : Fin 512) (c : Fin 1024) :
    down b w (ix2 r c) = ∑ k : Fin 2816, b ⟨k.val / 256, by omega⟩ (ix2 r ⟨k.val % 256, by omega⟩) * w (ix2 k c) := by
  unfold down
  rw [shapeCast_self]
  refine (Ideal.matmul_plain_apply (M := 512) (K := 2816) (N := 1024) none _ _ _ r c).trans ?_
  rw [show constant (F := Ideal) S512x1024 .f32 0x00000000#32 (ix2 r c) = (0 : EReal) from zero_word, zero_add]
  refine Finset.sum_congr rfl fun k _ => congrArg (· * w (ix2 k c)) ?_
  refine concatenate_ofFn_apply (t := S512x2816) (s₁ := S512x256) 1 b _ rfl 256 rfl (ix2 r k) ⟨k.val / 256, by omega⟩ rfl
    (ix2 r ⟨k.val % 256, by omega⟩) rfl fun a ha => ?_
  match a, ha with
  | ⟨0, _⟩, _ => rfl
  | ⟨1, _⟩, ha => exact absurd rfl ha

/-- The tiles stacked, at an index. -/
theorem rows_apply {α : Type} (f : Fin 64 → S8x128.Idx → α) (r : Fin 512) (d : Fin 128) :
    rows f (ix2 r d) = f ⟨r.val / 8, by omega⟩ (ix2 ⟨r.val % 8, by omega⟩ d) := by
  unfold rows
  refine concatenate_ofFn_apply (t := S512x128) (s₁ := S8x128) 0 f _ rfl 8 rfl (ix2 r d) ⟨r.val / 8, by omega⟩ rfl
    (ix2 ⟨r.val % 8, by omega⟩ d) rfl fun a ha => ?_
  match a, ha with
  | ⟨0, _⟩, ha => exact absurd rfl ha
  | ⟨1, _⟩, _ => rfl

end Cert.Kernel2Ideal.Ffn

end
-- ==== Proof.Ffn.Spec.lean ====
module

public import proofs.«01_k».proof.Proof.Ffn.UnitValue

@[expose] public section

set_option maxRecDepth 16384

noncomputable section

namespace Cert.Kernel2Ideal.Ffn

open Cert.Kernel2Ideal Idealize.ShloMosaic Idealize.ShloMosaic.TcCoe
open scoped BigOperators

/-! # The output projection and the feed-forward block, on plain functions -/

/-- The arrays: the layer's input, the attention's and the state space model's outputs, the rows of gates, weights, scale and
    shift, and the projections' and the convolution's weights. -/
structure Args where
  x : Fin 16384 → Fin 1024 → EReal
  attn : Fin 16384 → Fin 512 → EReal
  ssm : Fin 16384 → Fin 512 → EReal
  gate1 : Fin 1024 → EReal
  postMix : Fin 1024 → EReal
  preFfn : Fin 1024 → EReal
  scale2 : Fin 1024 → EReal
  shift2 : Fin 1024 → EReal
  gate2 : Fin 1024 → EReal
  postFfn : Fin 1024 → EReal
  wOut : Fin 1024 → Fin 1024 → EReal
  wUp : Fin 1024 → Fin 5632 → EReal
  taps : Fin 3 → Fin 5632 → EReal
  bias : Fin 5632 → EReal
  wDown : Fin 2816 → Fin 1024 → EReal

/-- The row `d` tokens before token `T`: zero before the first. -/
def back (u : Fin 16384 → Fin 5632 → EReal) (T d : ℕ) (c : Fin 5632) : EReal :=
  if h : d ≤ T ∧ T - d < 16384 then u ⟨T - d, h.2⟩ c else 0

theorem back_eq (u : Fin 16384 → Fin 5632 → EReal) (T d : ℕ) (c : Fin 5632) (T' : Fin 16384) (h : T'.val + d = T) : back u T d c = u T' c := by
  subst h
  unfold back
  rw [dif_pos ⟨by omega, by omega⟩]
  exact congrArg (fun i => u i c) (Fin.ext (by show T'.val + d - d = T'.val; omega))

theorem back_none (u : Fin 16384 → Fin 5632 → EReal) (T d : ℕ) (c : Fin 5632) (h : T < d) : back u T d c = 0 := by
  unfold back
  rw [dif_neg fun hh => by omega]

namespace Args
variable (a : Args)

/-- The mixed row of a token. -/
def mixed (T : Fin 16384) : Fin 1024 → EReal :=
  mixedRow (a.attn T) (a.ssm T) (fun k c => a.wOut ⟨k.val, by omega⟩ c) (fun k c => a.wOut ⟨512 + k.val, by omega⟩ c)

/-- The token after the first residual addition. -/
def first (T : Fin 16384) (c : Fin 1024) : EReal := a.x T c + a.mixed T c * rowScale (a.mixed T) * (a.gate1 c * a.postMix c)

/-- The token the up projection reads. -/
def hid (T : Fin 16384) (c : Fin 1024) : EReal :=
  a.first T c * rowScale (a.first T) * (a.preFfn c * (Ideal.ofBits .f32 0x3F800000#32 + a.scale2 c)) + a.shift2 c

/-- The up projection. -/
def upRow (T : Fin 16384) (c : Fin 5632) : EReal := ∑ k : Fin 1024, a.hid T k * a.wUp k c

/-- The causal convolution of three taps. -/
def convRow (T : Fin 16384) (c : Fin 5632) : EReal :=
  a.bias c + a.taps 2 c * a.upRow T c + a.taps 1 c * back a.upRow T.val 1 c + a.taps 0 c * back a.upRow T.val 2 c

/-- The gated row. -/
def act (T : Fin 16384) (k : Fin 2816) : EReal := gate (a.convRow T ⟨k.val, by omega⟩) (a.convRow T ⟨2816 + k.val, by omega⟩)

/-- The down projection. -/
def downRow (T : Fin 16384) (c : Fin 1024) : EReal := ∑ k : Fin 2816, a.act T k * a.wDown k c

/-- The result. -/
def out (T : Fin 16384) (c : Fin 1024) : EReal := a.first T c + a.downRow T c * rowScale (a.downRow T) * (a.gate2 c * a.postFfn c)

end Args

end Cert.Kernel2Ideal.Ffn

end
-- ==== Proof.Ffn.StoresValue.lean ====
module

public import proofs.«01_k».proof.Proof.Ffn.UnitValue
public import Idealize.ShloMosaic.Lib.Pipeline.ValueKit.Tiles

@[expose] public section

set_option maxRecDepth 16384

noncomputable section

namespace Cert.Kernel2Ideal.Ffn

open Cert.Kernel2Ideal Cert.Kernel2Ideal.Gen Idealize.ShloMosaic Idealize.ShloMosaic.TcCoe Idealize.SL.Sem Idealize.ShloMosaic.Tactic
open Idealize.ShloMosaic.ValueIdx
open scoped BigOperators

/-! # What the stores leave, at an index -/

section
variable {s : Shape} {e : EltTy} {N : ℕ} (p : Fin N → View.Piece (Elt Ideal) s e) (base : List (View.Piece (Elt Ideal) s e))

/-- Off every store, what was there before. -/
theorem canon_off (y : s.Idx) : ∀ (n : ℕ) (hn : n ≤ N), (∀ i : Fin N, i.val < n → y ∉ (p i).1.set) →
    View.canon (storesUpTo p base n hn) y = View.canon base y
  | 0, _, _ => rfl
  | n + 1, hn, h => (View.canon_cons_of_not_mem _ _ (h ⟨n, hn⟩ (Nat.lt_succ_self n))).trans
      (canon_off y n (Nat.le_of_succ_le hn) fun i hi => h i (Nat.lt_succ_of_lt hi))

/-- On a store that no other overlaps, its payload. -/
theorem canon_on (k : Fin N) (x : (p k).1.shape.Idx) (y : s.Idx) (hy : y = (p k).1.emb x) : ∀ (n : ℕ) (hn : n ≤ N), k.val < n →
    (∀ i : Fin N, i ≠ k → y ∉ (p i).1.set) → View.canon (storesUpTo p base n hn) y = (p k).2 x
  | 0, _, hk, _ => absurd hk (Nat.not_lt_zero _)
  | n + 1, hn, hk, h => by
    by_cases e : k.val = n
    · obtain rfl : k = ⟨n, hn⟩ := Fin.ext e
      exact (congrArg _ hy).trans (View.canon_cons_emb _ _ _ _)
    · exact (View.canon_cons_of_not_mem _ _ (h ⟨n, hn⟩ fun e' => e (congrArg Fin.val e').symm)).trans
        (canon_on k x y hy n (Nat.le_of_succ_le hn) (by omega) h)

/-- Where an element of a rectangle lies. -/
theorem within (R : Rect s) (y : s.Idx) (hm : y ∈ R.set) (a : Fin s.rank) :
    ∃ x : ℕ, x < R.size a ∧ (y a).val = R.off a + R.stride a * x := by
  obtain ⟨x, hx⟩ := R.exists_idx_of_mem hm
  exact ⟨(x a).val, (x a).isLt, congrArg (fun z => (z a).val) hx.symm⟩

/-- The earlier stores are the later part of the list. -/
theorem drop_stores (k : ℕ) : ∀ (n : ℕ) (hn : n ≤ N) (hk : k ≤ n), (storesUpTo p base n hn).drop (n - k) = storesUpTo p base k (hk.trans hn)
  | 0, _, hk => by
    obtain rfl : k = 0 := by omega
    rfl
  | n + 1, hn, hk => by
    by_cases e : k = n + 1
    · subst e
      rw [Nat.sub_self]
      rfl
    · rw [show n + 1 - k = (n - k) + 1 by omega]
      exact drop_stores k n (Nat.le_of_succ_le hn) (by omega)

end

/-- The token of a row in the permuted order. -/
def tok (r : Fin 512) : Fin 512 := ⟨64 * (r.val % 8) + r.val / 8, by omega⟩

theorem stage_canon (h : FVec Ideal S512x1024 .f32) (l s : Fin 8) (q : Fin 64) (d : Fin 128) (y : S8x576x128.Idx)
    (h0 : (y 0).val = l.val) (h1 : (y 1).val = 72 * s.val + q.val) (h2 : (y 2).val = d.val) :
    View.canon (stageStores h) y = h (ix2 ⟨64 * s.val + q.val, by omega⟩ ⟨128 * l.val + d.val, by omega⟩) := by
  have hk : 8 * l.val + s.val < 64 := by omega
  have e8 : (8 * l.val + s.val) / 8 = l.val := by omega
  have m8 : (8 * l.val + s.val) % 8 = s.val := by omega
  have ey : y = (stagePiece h ⟨8 * l.val + s.val, hk⟩).1.emb (ix3 (0 : Fin 1) q d) := by
    funext a
    apply Fin.ext
    match a with
    | ⟨0, _⟩ => show (y 0).val = (8 * l.val + s.val) / 8 + 1 * 0; omega
    | ⟨1, _⟩ => show (y 1).val = 72 * ((8 * l.val + s.val) % 8) + 1 * q.val; omega
    | ⟨2, _⟩ => show (y 2).val = 0 + 1 * d.val; omega
  refine (canon_on (stagePiece h) [] ⟨8 * l.val + s.val, hk⟩ (ix3 (0 : Fin 1) q d) y ey 64 le_rfl hk ?_).trans ?_
  · intro i hi hm
    obtain ⟨a, ha, e0⟩ := within _ _ hm 0
    obtain ⟨b, hb, e1⟩ := within _ _ hm 1
    have ha : a < 1 := ha
    have hb : b < 64 := hb
    have e0 : (y 0).val = i.val / 8 + 1 * a := e0
    have e1 : (y 1).val = 72 * (i.val % 8) + 1 * b := e1
    exact hi (Fin.ext (by show i.val = 8 * l.val + s.val; omega))
  · refine (shapeCast_ab_1ab_apply _ _ 0 q d).trans (extractStridedSlice_apply _ h (by exact ⟨rfl, inb2 (by omega) (by omega)⟩) _ _ fun a => ?_)
    match a with
    | ⟨0, _⟩ => show 64 * s.val + q.val = 64 * ((8 * l.val + s.val) % 8) + q.val; omega
    | ⟨1, _⟩ => show 128 * l.val + d.val = 128 * ((8 * l.val + s.val) / 8) + d.val; omega

theorem hiddenPiece_value (g : StageLd Ideal) (l : Fin 8) (x : S512x128.Idx) :
    (hiddenPiece g l).2 x = rows (fun k => shapeCast S8x128 (g l k) shapeCasts_S1x8x128_S8x128) x :=
  congrFun (shapeCast_self (s := S512x128) (truncf (F := Ideal) .bf16 (rows fun k => shapeCast S8x128 (g l k) shapeCasts_S1x8x128_S8x128) bitsLt_bf16_f32)
    shapeCasts_S512x128_S512x128) x

theorem carryPiece_value (h : FVec Ideal S512x1024 .bf16) (W : UpLd Ideal) (k : Fin 22) (x : S16x256.Idx) :
    (carryPiece h W k).2 x = tail (upBlock h W k.val k.isLt) x :=
  congrFun (shapeCast_self (s := S16x256) (tail (upBlock h W k.val k.isLt)) shapeCasts_S16x256_S16x256) x

/-- The hidden rows in the permuted order. -/
theorem hidden_canon (h : FVec Ideal S512x1024 .f32) (r : Fin 512) (c : Fin 1024) (y : S512x1024.Idx) (hy : y = ix2 r c) :
    View.canon (hiddenStores fun l k j => View.canon (stageStores h) ((boxA l k).idx j)) y = h (ix2 (tok r) c) := by
  have hl : c.val / 128 < 8 := by omega
  have ey : y = (hiddenPiece (F := Ideal) (fun l k j => View.canon (stageStores h) ((boxA l k).idx j)) ⟨c.val / 128, hl⟩).1.emb
      (ix2 r (⟨c.val % 128, by omega⟩ : Fin 128)) := by
    subst hy
    funext a
    apply Fin.ext
    match a with
    | ⟨0, _⟩ => show r.val = 0 + 1 * r.val; omega
    | ⟨1, _⟩ => show c.val = 128 * (c.val / 128) + 1 * (c.val % 128); omega
  have hc : (y 1).val = c.val := by rw [hy]
  refine (canon_on (hiddenPiece _) [] ⟨c.val / 128, hl⟩ _ y ey 8 le_rfl hl ?_).trans ?_
  · intro i hi hm
    obtain ⟨b, hb, e1⟩ := within _ _ hm 1
    have hb : b < 128 := hb
    have e1 : (y 1).val = 128 * i.val + 1 * b := e1
    exact hi (Fin.ext (by show i.val = c.val / 128; omega))
  · refine (hiddenPiece_value _ _ _).trans ?_
    refine (rows_apply (fun k => shapeCast S8x128 (fun j => View.canon (stageStores h) ((boxA ⟨c.val / 128, hl⟩ k).idx j)) shapeCasts_S1x8x128_S8x128)
        r ⟨c.val % 128, by omega⟩).trans ((shapeCast_1ab_ab_apply _ _ _ _).trans ?_)
    refine (stage_canon h ⟨c.val / 128, hl⟩ ⟨r.val % 8, by omega⟩ ⟨r.val / 8, by omega⟩ ⟨c.val % 128, by omega⟩ _ ?_ ?_ ?_).trans ?_
    · show c.val / 128 + 1 * 0 = c.val / 128; omega
    · show r.val / 8 + 72 * (r.val % 8) = 72 * (r.val % 8) + r.val / 8; omega
    · show 0 + 1 * (c.val % 128) = c.val % 128; omega
    · exact congrArg h (congrArg₂ ix2 rfl (Fin.ext (by show 128 * (c.val / 128) + c.val % 128 = c.val; omega)))

/-- The rows added, staged. -/
theorem added_canon (y : FVec Ideal S512x1024 .f32) (base : List (View.Piece (Elt Ideal) S8x576x128 .f32)) (l : Fin 8) (r : Fin 512) (d : Fin 128)
    (i : S8x576x128.Idx) (h0 : (i 0).val = l.val) (h1 : (i 1).val = r.val) (h2 : (i 2).val = d.val) :
    View.canon (addedStores y base) i = y (ix2 r ⟨128 * l.val + d.val, by omega⟩) := by
  have ei : i = (addedPiece y l).1.emb (ix3 (0 : Fin 1) r d) := by
    funext a
    apply Fin.ext
    match a with
    | ⟨0, _⟩ => show (i 0).val = l.val + 1 * 0; omega
    | ⟨1, _⟩ => show (i 1).val = 0 + 1 * r.val; omega
    | ⟨2, _⟩ => show (i 2).val = 0 + 1 * d.val; omega
  refine (canon_on (addedPiece y) base l (ix3 (0 : Fin 1) r d) i ei 8 le_rfl l.isLt ?_).trans ?_
  · intro k hk hm
    obtain ⟨a, ha, e0⟩ := within _ _ hm 0
    have ha : a < 1 := ha
    have e0 : (i 0).val = k.val + 1 * a := e0
    exact hk (Fin.ext (by omega))
  · refine (shapeCast_ab_1ab_apply _ _ 0 r d).trans (extractStridedSlice_apply _ y (by exact ⟨rfl, inb2 (by omega) (by omega)⟩) _ _ fun a => ?_)
    match a with
    | ⟨0, _⟩ => show r.val = 0 + r.val; omega
    | ⟨1, _⟩ => rfl

/-- The row in the permuted order of a token. -/
def row (r : Fin 512) : Fin 512 := ⟨r.val / 64 + 64 * (r.val / 8 % 8) + 8 * (r.val % 8), by omega⟩

theorem tok_row (r : Fin 512) : tok (row r) = r := Fin.ext (by
  have h := r.isLt
  have e : (r.val / 64 + 64 * (r.val / 8 % 8) + 8 * (r.val % 8)) % 8 = r.val / 64 := by omega
  show 64 * ((r.val / 64 + 64 * (r.val / 8 % 8) + 8 * (r.val % 8)) % 8) + (r.val / 64 + 64 * (r.val / 8 % 8) + 8 * (r.val % 8)) / 8 = r.val
  rw [e]
  omega)

/-- The output after the first `n` slabs. -/
theorem out_canon (x : FVec Ideal S512x1024 .f32) (y : FVec Ideal S512x1024 .f32) (base : List (View.Piece (Elt Ideal) S8x576x128 .f32))
    (r : Fin 512) (c : Fin 1024) : ∀ (n : ℕ) (hn : n ≤ 8),
    View.canon (outStores (F := Ideal) (fun L n hn j => View.canon L ((slab n hn).toLoadRect.idx j)) x
        (fun l k j => View.canon (addedStores y base) ((boxB l k).idx j)) n hn) (ix3 0 r c)
      = if c.val < 128 * n then x (ix2 r c) + y (ix2 (row r) c) else x (ix2 r c)
  | 0, _ => by
    rw [if_neg (by omega)]
    unfold outStores
    have ei : (ix3 0 r c : S1x512x1024.Idx) = (Rect.unit (s := S1x512x1024) ![0, 0, 0] S1x512x1024.size
        (inb3 (Nat.zero_add _).le (Nat.zero_add _).le (Nat.zero_add _).le)).emb (ix3 (0 : Fin 1) r c) := by
      funext a
      apply Fin.ext
      match a with
      | ⟨0, _⟩ => rfl
      | ⟨1, _⟩ => show r.val = 0 + 1 * r.val; omega
      | ⟨2, _⟩ => show c.val = 0 + 1 * c.val; omega
    rw [ei]
    exact (View.canon_cons_emb _ _ _ _).trans (shapeCast_ab_1ab_apply _ _ 0 r c)
  | n + 1, hn => by
    have ih := out_canon x y base r c n (Nat.le_of_succ_le hn)
    unfold outStores
    by_cases hc : 128 * n ≤ c.val ∧ c.val < 128 * n + 128
    · rw [if_pos (by omega)]
      have ei : (ix3 0 r c : S1x512x1024.Idx) = (slab n hn).emb (ix3 (0 : Fin 1) r (⟨c.val - 128 * n, by omega⟩ : Fin 128)) := by
        funext a
        apply Fin.ext
        match a with
        | ⟨0, _⟩ => rfl
        | ⟨1, _⟩ => show r.val = 0 + 1 * r.val; omega
        | ⟨2, _⟩ => show c.val = 128 * n + 1 * (c.val - 128 * n); omega
      rw [if_neg (by omega)] at ih
      refine (congrArg _ ei).trans ((View.canon_cons_emb _ _ _ _).trans ((shapeCast_ab_1ab_apply _ _ 0 r _).trans (congrArg₂ (· + ·) ?_ ?_)))
      · refine (shapeCast_1ab_ab_apply _ _ r _).trans (Eq.trans (congrArg _ ?_) ih)
        exact ei.symm
      · refine (rows_apply (fun k => shapeCast S8x128 (fun j => View.canon (addedStores y base) ((boxB ⟨n, hn⟩ k).idx j)) shapeCasts_S1x8x128_S8x128)
          r _).trans ((shapeCast_1ab_ab_apply _ _ _ _).trans ?_)
        refine (added_canon y base ⟨n, hn⟩ (row r) ⟨c.val - 128 * n, by omega⟩ _ ?_ ?_ ?_).trans ?_
        · show n + 1 * 0 = n; omega
        · show r.val / 8 / 8 + 64 * (r.val / 8 % 8) + 8 * (r.val % 8) = r.val / 64 + 64 * (r.val / 8 % 8) + 8 * (r.val % 8); omega
        · show 0 + 1 * (c.val - 128 * n) = c.val - 128 * n; omega
        · exact congrArg y (congrArg₂ ix2 rfl (Fin.ext (by show 128 * n + (c.val - 128 * n) = c.val; omega)))
    · refine (View.canon_cons_of_not_mem _ _ fun hm => hc ?_).trans (ih.trans ?_)
      · obtain ⟨b, hb, e2⟩ := within _ _ hm 2
        have hb : b < 128 := hb
        have e2 : c.val = 128 * n + 1 * b := e2
        omega
      · by_cases h : c.val < 128 * n
        · rw [if_pos h, if_pos (by omega)]
        · rw [if_neg h, if_neg (by omega)]

/-- A carried row after the first `n` blocks' stores. -/
theorem carry_canon (h : FVec Ideal S512x1024 .bf16) (W : UpLd Ideal) (base : List (View.Piece (Elt Ideal) S16x5632 .f32)) (k : Fin 22)
    (r : Fin 16) (c : Fin 256) (i : S16x5632.Idx) (h0 : (i 0).val = r.val) (h1 : (i 1).val = col k.val + c.val) (n : ℕ) (hn : n ≤ 22) :
    View.canon (storesUpTo (carryPiece h W) base n hn) i
      = if k.val < n then upBlock h W k.val k.isLt (ix2 ⟨496 + r.val, by omega⟩ c) else View.canon base i := by
  have hd : ∀ j : Fin 22, j ≠ k → i ∉ (carryPiece h W j).1.set := fun j hj hm => by
    obtain ⟨b, hb, e1⟩ := within _ _ hm 1
    have hb : b < 256 := hb
    have e1 : (i 1).val = col j.val + 1 * b := e1
    unfold col at e1 h1
    exact hj (Fin.ext (by omega))
  by_cases hk : k.val < n
  · rw [if_pos hk]
    have ei : i = (carryPiece h W k).1.emb (ix2 r c) := by
      funext a
      apply Fin.ext
      match a with
      | ⟨0, _⟩ => show (i 0).val = 0 + 1 * r.val; omega
      | ⟨1, _⟩ => show (i 1).val = col k.val + 1 * c.val; omega
    refine (canon_on (carryPiece h W) base k (ix2 r c) i ei n hn hk hd).trans ?_
    exact (carryPiece_value h W k (ix2 r c)).trans (tail_apply _ r c)
  · rw [if_neg hk]
    exact canon_off (carryPiece h W) base i n hn fun j hj => hd j fun e => hk (e ▸ hj)

/-- The zeros the first point starts from, at an index. -/
theorem zero_canon (i : S16x5632.Idx) : View.canon [carryZero (F := Ideal)] i = (0 : EReal) := by
  have ei : i = (carryZero (F := Ideal)).1.emb i := by
    funext a
    apply Fin.ext
    match a with
    | ⟨0, _⟩ => show (i 0).val = 0 + 1 * (i 0).val; omega
    | ⟨1, _⟩ => show (i 1).val = 0 + 1 * (i 1).val; omega
  rw [ei]
  refine (View.canon_cons_emb _ _ _ _).trans ?_
  show shapeCast S16x5632 _ _ _ = _
  rw [shapeCast_self]
  exact Cert.KernelIdeal.Att.zero_word

end Cert.Kernel2Ideal.Ffn

end
-- ==== Proof.Ffn.RunA.lean ====
module

public import proofs.«01_k».proof.Proof.Ffn.Pieces
public import proofs.«01_k».proof.Proof.Gen.Kernel2Ideal.Frame

@[expose] public section

set_option maxRecDepth 65536

noncomputable section

namespace Cert.Kernel2Ideal.Ffn

open Cert.Kernel2Ideal Cert.Kernel2Ideal.Gen Idealize.ShloMosaic Idealize.ShloMosaic.TcCoe Idealize.SL.Sem

variable {F : FTy → Type} [FloatOps F] [Named F]

/-! # What a grid point stores, the first point -/

section
variable (c : Dev nD) (i : grid0.Coords) (arg1 : Memref sig .tc .vmem S1x512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1024x5632 .bf16) (harg12 : arg12.IsWhole) (arg13 : Memref sig .tc .vmem S3x5632 .f32) (harg13 : arg13.IsWhole) (arg14 : Memref sig .tc .vmem S1x5632 .f32) (harg14 : arg14.IsWhole) (arg15 : Memref sig .tc .vmem S2816x1024 .bf16) (harg15 : arg15.IsWhole) (arg16 : Memref sig .tc .vmem S1x512x1024 .f32) (harg16 : arg16.IsWhole) (arg17 : Memref sig .tc .vmem S512x1024 .bf16) (harg17 : arg17.IsWhole) (arg18 : Memref sig .tc .vmem S8x576x128 .f32) (harg18 : arg18.IsWhole) (arg19 : Memref sig .tc .vmem S16x5632 .f32) (harg19 : arg19.IsWhole) (hc0 : cond0_0 i)
    (x0 : Vec F S1x512x1024 .f32) (x1 : Vec F S512x512 .bf16) (x2 : Vec F S512x512 .bf16) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1x1024 .f32) (x10 : Vec F S1024x1024 .bf16) (x11 : Vec F S1024x5632 .bf16) (x12 : Vec F S3x5632 .f32) (x13 : Vec F S1x5632 .f32) (x14 : Vec F S2816x1024 .bf16)

/-- The whole body's run. -/
abbrev runA := kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14

/-- The tile after the first residual addition. -/
def tileA : FVec F S512x1024 .f32 :=
  residual (View.readAt (Elt F) arg2.view (Rect.unit (s := S512x512) ![0, 0] S512x512.size (inb2 (Nat.zero_add _).le (Nat.zero_add _).le)).toLoadRect (harg2.unread x1)) (View.readAt (Elt F) arg11.view (Rect.unit (s := S1024x1024) ![0, 0] S512x1024.size (inb2 (by omega) (Nat.zero_add _).le)).toLoadRect (harg11.unread x10)) (View.readAt (Elt F) arg3.view (Rect.unit (s := S512x512) ![0, 0] S512x512.size (inb2 (Nat.zero_add _).le (Nat.zero_add _).le)).toLoadRect (harg3.unread x2)) (View.readAt (Elt F) arg11.view (Rect.unit (s := S1024x1024) ![512, 0] S512x1024.size (inb2 (by omega) (Nat.zero_add _).le)).toLoadRect (harg11.unread x10))
    (View.readAt (Elt F) arg1.view (Rect.unit (s := S1x512x1024) ![0, 0, 0] S1x512x1024.size (inb3 (Nat.zero_add _).le (Nat.zero_add _).le (Nat.zero_add _).le)).toLoadRect (harg1.unread x0)) (View.readAt (Elt F) arg4.view (Rect.unit (s := S1x1024) ![0, 0] S1x1024.size (inb2 (Nat.zero_add _).le (Nat.zero_add _).le)).toLoadRect (harg4.unread x3)) (View.readAt (Elt F) arg5.view (Rect.unit (s := S1x1024) ![0, 0] S1x1024.size (inb2 (Nat.zero_add _).le (Nat.zero_add _).le)).toLoadRect (harg5.unread x4))

/-- The modulated rows. -/
def modA : FVec F S512x1024 .f32 :=
  modulated (tileA arg1 harg1 arg2 harg2 arg3 harg3 arg4 harg4 arg5 harg5 arg11 harg11 x0 x1 x2 x3 x4 x10) (View.readAt (Elt F) arg6.view (Rect.unit (s := S1x1024) ![0, 0] S1x1024.size (inb2 (Nat.zero_add _).le (Nat.zero_add _).le)).toLoadRect (harg6.unread x5)) (View.readAt (Elt F) arg7.view (Rect.unit (s := S1x1024) ![0, 0] S1x1024.size (inb2 (Nat.zero_add _).le (Nat.zero_add _).le)).toLoadRect (harg7.unread x6)) (View.readAt (Elt F) arg8.view (Rect.unit (s := S1x1024) ![0, 0] S1x1024.size (inb2 (Nat.zero_add _).le (Nat.zero_add _).le)).toLoadRect (harg8.unread x7))

/-- The hidden rows the up projection reads. -/
def hidA : FVec F S512x1024 .bf16 :=
  arg17.view.readCov (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).2.2.1 (Rect.unit (s := S512x1024) ![0, 0] S512x1024.size (inb2 (Nat.zero_add _).le (Nat.zero_add _).le)).toLoadRect

/-- The loads of the up projection's weights. -/
def upLdA : UpLd F := fun off inb => View.readAt (Elt F) arg12.view (Rect.unit (s := S1024x5632) off S1024x256.size inb).toLoadRect (harg12.unread x11)
/-- The loads of the bias. -/
def biasLdA : BiasLd F := fun off inb => View.readAt (Elt F) arg14.view (Rect.unit (s := S1x5632) off S1x256.size inb).toLoadRect (harg14.unread x13)
/-- The loads of the taps. -/
def tapLdA : TapLd F := fun off inb => View.readAt (Elt F) arg13.view (Rect.unit (s := S3x5632) off S1x256.size inb).toLoadRect (harg13.unread x12)
/-- The loads of the carried rows. -/
def carryLdA : CarryLd F := fun k off inb => arg19.view.readCov ((runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).2.1.drop (22 - k)) (Rect.unit (s := S16x5632) off S16x256.size inb).toLoadRect

set_option maxHeartbeats 8000000 in
theorem carry_storesA : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).2.1 = carryStores (hidA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14) (upLdA arg12 harg12 x11) [carryZero] := by
  exact (rfl)

set_option maxHeartbeats 8000000 in
theorem hidden_storesA : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).2.2.1 = hiddenStores (fun l k => arg18.view.readCov ((runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).2.2.2.1.drop 8) (boxA l k)) := by
  exact (rfl)

set_option maxHeartbeats 8000000 in
theorem stage_storesA : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).2.2.2.1 = addedStores (added (hidA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14) (upLdA arg12 harg12 x11) (biasLdA arg14 harg14 x13) (tapLdA arg13 harg13 x12) (carryLdA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14) (View.readAt (Elt F) arg15.view (Rect.unit (s := S2816x1024) ![0, 0] S2816x1024.size (inb2 (Nat.zero_add _).le (Nat.zero_add _).le)).toLoadRect (harg15.unread x14)) (View.readAt (Elt F) arg9.view (Rect.unit (s := S1x1024) ![0, 0] S1x1024.size (inb2 (Nat.zero_add _).le (Nat.zero_add _).le)).toLoadRect (harg9.unread x8)) (View.readAt (Elt F) arg10.view (Rect.unit (s := S1x1024) ![0, 0] S1x1024.size (inb2 (Nat.zero_add _).le (Nat.zero_add _).le)).toLoadRect (harg10.unread x9))) (stageStores (modA arg1 harg1 arg2 harg2 arg3 harg3 arg4 harg4 arg5 harg5 arg6 harg6 arg7 harg7 arg8 harg8 arg11 harg11 x0 x1 x2 x3 x4 x5 x6 x7 x10)) := by
  exact (rfl)

set_option maxHeartbeats 8000000 in
theorem out_storesA : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).1 = outStores (fun L n hn => arg16.view.readCov L (slab n hn).toLoadRect) (tileA arg1 harg1 arg2 harg2 arg3 harg3 arg4 harg4 arg5 harg5 arg11 harg11 x0 x1 x2 x3 x4 x10)
    (fun l k => arg18.view.readCov (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).2.2.2.1 (boxB l k)) 8 le_rfl := by
  exact (rfl)

end

end Cert.Kernel2Ideal.Ffn

end
-- ==== Proof.Ffn.RunB.lean ====
module

public import proofs.«01_k».proof.Proof.Ffn.Pieces
public import proofs.«01_k».proof.Proof.Gen.Kernel2Ideal.Frame

@[expose] public section

set_option maxRecDepth 65536

noncomputable section

namespace Cert.Kernel2Ideal.Ffn

open Cert.Kernel2Ideal Cert.Kernel2Ideal.Gen Idealize.ShloMosaic Idealize.ShloMosaic.TcCoe Idealize.SL.Sem

variable {F : FTy → Type} [FloatOps F] [Named F]

/-! # What a grid point stores, a later point -/

section
variable (c : Dev nD) (i : grid0.Coords) (arg1 : Memref sig .tc .vmem S1x512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1024x5632 .bf16) (harg12 : arg12.IsWhole) (arg13 : Memref sig .tc .vmem S3x5632 .f32) (harg13 : arg13.IsWhole) (arg14 : Memref sig .tc .vmem S1x5632 .f32) (harg14 : arg14.IsWhole) (arg15 : Memref sig .tc .vmem S2816x1024 .bf16) (harg15 : arg15.IsWhole) (arg16 : Memref sig .tc .vmem S1x512x1024 .f32) (harg16 : arg16.IsWhole) (arg17 : Memref sig .tc .vmem S512x1024 .bf16) (harg17 : arg17.IsWhole) (arg18 : Memref sig .tc .vmem S8x576x128 .f32) (harg18 : arg18.IsWhole) (arg19 : Memref sig .tc .vmem S16x5632 .f32) (harg19 : arg19.IsWhole) (hc0 : ¬cond0_0 i)
    (x0 : Vec F S1x512x1024 .f32) (x1 : Vec F S512x512 .bf16) (x2 : Vec F S512x512 .bf16) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1x1024 .f32) (x10 : Vec F S1024x1024 .bf16) (x11 : Vec F S1024x5632 .bf16) (x12 : Vec F S3x5632 .f32) (x13 : Vec F S1x5632 .f32) (x14 : Vec F S2816x1024 .bf16) (xs2 : Vec F S16x5632 .f32)

/-- The whole body's run. -/
abbrev runB := kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs2

/-- The tile after the first residual addition. -/
def tileB : FVec F S512x1024 .f32 :=
  residual (View.readAt (Elt F) arg2.view (Rect.unit (s := S512x512) ![0, 0] S512x512.size (inb2 (Nat.zero_add _).le (Nat.zero_add _).le)).toLoadRect (harg2.unread x1)) (View.readAt (Elt F) arg11.view (Rect.unit (s := S1024x1024) ![0, 0] S512x1024.size (inb2 (by omega) (Nat.zero_add _).le)).toLoadRect (harg11.unread x10)) (View.readAt (Elt F) arg3.view (Rect.unit (s := S512x512) ![0, 0] S512x512.size (inb2 (Nat.zero_add _).le (Nat.zero_add _).le)).toLoadRect (harg3.unread x2)) (View.readAt (Elt F) arg11.view (Rect.unit (s := S1024x1024) ![512, 0] S512x1024.size (inb2 (by omega) (Nat.zero_add _).le)).toLoadRect (harg11.unread x10))
    (View.readAt (Elt F) arg1.view (Rect.unit (s := S1x512x1024) ![0, 0, 0] S1x512x1024.size (inb3 (Nat.zero_add _).le (Nat.zero_add _).le (Nat.zero_add _).le)).toLoadRect (harg1.unread x0)) (View.readAt (Elt F) arg4.view (Rect.unit (s := S1x1024) ![0, 0] S1x1024.size (inb2 (Nat.zero_add _).le (Nat.zero_add _).le)).toLoadRect (harg4.unread x3)) (View.readAt (Elt F) arg5.view (Rect.unit (s := S1x1024) ![0, 0] S1x1024.size (inb2 (Nat.zero_add _).le (Nat.zero_add _).le)).toLoadRect (harg5.unread x4))

/-- The modulated rows. -/
def modB : FVec F S512x1024 .f32 :=
  modulated (tileB arg1 harg1 arg2 harg2 arg3 harg3 arg4 harg4 arg5 harg5 arg11 harg11 x0 x1 x2 x3 x4 x10) (View.readAt (Elt F) arg6.view (Rect.unit (s := S1x1024) ![0, 0] S1x1024.size (inb2 (Nat.zero_add _).le (Nat.zero_add _).le)).toLoadRect (harg6.unread x5)) (View.readAt (Elt F) arg7.view (Rect.unit (s := S1x1024) ![0, 0] S1x1024.size (inb2 (Nat.zero_add _).le (Nat.zero_add _).le)).toLoadRect (harg7.unread x6)) (View.readAt (Elt F) arg8.view (Rect.unit (s := S1x1024) ![0, 0] S1x1024.size (inb2 (Nat.zero_add _).le (Nat.zero_add _).le)).toLoadRect (harg8.unread x7))

/-- The hidden rows the up projection reads. -/
def hidB : FVec F S512x1024 .bf16 :=
  arg17.view.readCov (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs2).2.2.1 (Rect.unit (s := S512x1024) ![0, 0] S512x1024.size (inb2 (Nat.zero_add _).le (Nat.zero_add _).le)).toLoadRect

/-- The loads of the up projection's weights. -/
def upLdB : UpLd F := fun off inb => View.readAt (Elt F) arg12.view (Rect.unit (s := S1024x5632) off S1024x256.size inb).toLoadRect (harg12.unread x11)
/-- The loads of the bias. -/
def biasLdB : BiasLd F := fun off inb => View.readAt (Elt F) arg14.view (Rect.unit (s := S1x5632) off S1x256.size inb).toLoadRect (harg14.unread x13)
/-- The loads of the taps. -/
def tapLdB : TapLd F := fun off inb => View.readAt (Elt F) arg13.view (Rect.unit (s := S3x5632) off S1x256.size inb).toLoadRect (harg13.unread x12)
/-- The loads of the carried rows. -/
def carryLdB : CarryLd F := fun k off inb => View.readAt (Elt F) arg19.view (Rect.unit (s := S16x5632) off S16x256.size inb).toLoadRect (harg19.unread xs2)

set_option maxHeartbeats 8000000 in
theorem carry_storesB : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs2).2.1 = carryStores (hidB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs2) (upLdB arg12 harg12 x11) [] := by
  exact (rfl)

set_option maxHeartbeats 8000000 in
theorem hidden_storesB : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs2).2.2.1 = hiddenStores (fun l k => arg18.view.readCov ((runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs2).2.2.2.1.drop 8) (boxA l k)) := by
  exact (rfl)

set_option maxHeartbeats 8000000 in
theorem stage_storesB : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs2).2.2.2.1 = addedStores (added (hidB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs2) (upLdB arg12 harg12 x11) (biasLdB arg14 harg14 x13) (tapLdB arg13 harg13 x12) (carryLdB arg19 harg19 xs2) (View.readAt (Elt F) arg15.view (Rect.unit (s := S2816x1024) ![0, 0] S2816x1024.size (inb2 (Nat.zero_add _).le (Nat.zero_add _).le)).toLoadRect (harg15.unread x14)) (View.readAt (Elt F) arg9.view (Rect.unit (s := S1x1024) ![0, 0] S1x1024.size (inb2 (Nat.zero_add _).le (Nat.zero_add _).le)).toLoadRect (harg9.unread x8)) (View.readAt (Elt F) arg10.view (Rect.unit (s := S1x1024) ![0, 0] S1x1024.size (inb2 (Nat.zero_add _).le (Nat.zero_add _).le)).toLoadRect (harg10.unread x9))) (stageStores (modB arg1 harg1 arg2 harg2 arg3 harg3 arg4 harg4 arg5 harg5 arg6 harg6 arg7 harg7 arg8 harg8 arg11 harg11 x0 x1 x2 x3 x4 x5 x6 x7 x10)) := by
  exact (rfl)

set_option maxHeartbeats 8000000 in
theorem out_storesB : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs2).1 = outStores (fun L n hn => arg16.view.readCov L (slab n hn).toLoadRect) (tileB arg1 harg1 arg2 harg2 arg3 harg3 arg4 harg4 arg5 harg5 arg11 harg11 x0 x1 x2 x3 x4 x10)
    (fun l k => arg18.view.readCov (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs2).2.2.2.1 (boxB l k)) 8 le_rfl := by
  exact (rfl)

end

end Cert.Kernel2Ideal.Ffn

end
-- ==== Proof.Ffn.Points.lean ====
module

public import proofs.«01_k».proof.Proof.Ffn.StoresValue
public import proofs.«01_k».proof.Proof.Ffn.RunA
public import proofs.«01_k».proof.Proof.Ffn.RunB
public import proofs.«01_k».proof.Proof.Att.Points

@[expose] public section

set_option maxRecDepth 65536

noncomputable section

namespace Cert.Kernel2Ideal.Ffn

open Cert.Kernel2Ideal Cert.Kernel2Ideal.Gen Idealize.ShloMosaic Idealize.ShloMosaic.TcCoe Idealize.SL.Sem Idealize.ShloMosaic.Tactic
open Idealize.ShloMosaic.ValueIdx
open Cert.KernelIdeal.Att (load_of_whole load_all zero_two)
open scoped BigOperators

/-! # What a grid point leaves, from its blocks -/

theorem zero_three : ∀ d : Fin 3, (![0, 0, 0] : Fin 3 → ℕ) d = 0 := fun d => match d with | ⟨0, _⟩ => rfl | ⟨1, _⟩ => rfl | ⟨2, _⟩ => rfl

/-- Loads of the up projection's weights from their array. -/
def upOf (x : Vec Ideal S1024x5632 .bf16) : UpLd Ideal := fun off inb j => x ((Rect.unit (s := S1024x5632) off S1024x256.size inb).toLoadRect.idx j)
/-- Loads of the bias from its row. -/
def biasOf (x : Vec Ideal S1x5632 .f32) : BiasLd Ideal := fun off inb j => x ((Rect.unit (s := S1x5632) off S1x256.size inb).toLoadRect.idx j)
/-- Loads of the taps from their array. -/
def tapOf (x : Vec Ideal S3x5632 .f32) : TapLd Ideal := fun off inb j => x ((Rect.unit (s := S3x5632) off S1x256.size inb).toLoadRect.idx j)
/-- Loads of the carried rows from their array. -/
def carryOf (x : Vec Ideal S16x5632 .f32) : CarryLd Ideal := fun _ off inb j => x ((Rect.unit (s := S16x5632) off S16x256.size inb).toLoadRect.idx j)
/-- Half of the output projection's weights, from row `o`. -/
def halfOf (x : Vec Ideal S1024x1024 .bf16) (o : ℕ) (inb : ∀ a, (![o, 0] : Fin 2 → ℕ) a + S512x1024.size a ≤ S1024x1024.size a) : Vec Ideal S512x1024 .bf16 :=
  fun j => x ((Rect.unit (s := S1024x1024) ![o, 0] S512x1024.size inb).toLoadRect.idx j)

/-- The tile after the first residual addition, from its blocks. -/
def tile (x0 : Vec Ideal S1x512x1024 .f32) (x1 x2 : Vec Ideal S512x512 .bf16) (x3 x4 : Vec Ideal S1x1024 .f32) (x10 : Vec Ideal S1024x1024 .bf16) :
    FVec Ideal S512x1024 .f32 :=
  residual x1 (halfOf x10 0 (inb2 (by omega) (Nat.zero_add _).le)) x2 (halfOf x10 512 (inb2 (by omega) (Nat.zero_add _).le)) x0 x3 x4

/-- The modulated rows, from their blocks. -/
def mods (x0 : Vec Ideal S1x512x1024 .f32) (x1 x2 : Vec Ideal S512x512 .bf16) (x3 x4 x5 x6 x7 : Vec Ideal S1x1024 .f32) (x10 : Vec Ideal S1024x1024 .bf16) :
    FVec Ideal S512x1024 .f32 := modulated (tile x0 x1 x2 x3 x4 x10) x5 x6 x7

/-- Rows in the permuted order. -/
def permuted (h : FVec Ideal S512x1024 .f32) : FVec Ideal S512x1024 .bf16 := fun y => h (ix2 (tok (y 0)) (y 1))

/-- The rows added, from the modulated rows, the blocks and the carried rows. -/
def plus (h : FVec Ideal S512x1024 .f32) (x8 x9 : Vec Ideal S1x1024 .f32) (x11 : Vec Ideal S1024x5632 .bf16) (x12 : Vec Ideal S3x5632 .f32)
    (x13 : Vec Ideal S1x5632 .f32) (x14 : Vec Ideal S2816x1024 .bf16) (p : Vec Ideal S16x5632 .f32) : FVec Ideal S512x1024 .f32 :=
  added (permuted h) (upOf x11) (biasOf x13) (tapOf x12) (carryOf p) x14 x8 x9

/-- Only each block's own columns of the carried rows are loaded. -/
theorem added_congr (h : FVec Ideal S512x1024 .bf16) (W : UpLd Ideal) (B : BiasLd Ideal) (T : TapLd Ideal) (P P' : CarryLd Ideal)
    (e : ∀ (k : ℕ) (_ : k < 22) (inb), P k ![0, col k] inb = P' k ![0, col k] inb) (wd : Vec Ideal S2816x1024 .bf16) (g w : Vec Ideal S1x1024 .f32) :
    added h W B T P wd g w = added h W B T P' wd g w := by
  have hb : ∀ k hk, convBlock h W B T P k hk = convBlock h W B T P' k hk := fun k hk => by
    unfold convBlock
    rw [e k hk]
  unfold added
  exact congrArg (fun f => scaled (down f wd) g w) (funext fun j => congrArg₂ gated (hb _ _) (hb _ _))

/-- The stores into the output, each reading the stores before it. -/
theorem out_run (a : Memref sig .tc .vmem S1x512x1024 .f32) (b : Memref sig .tc .vmem S8x576x128 .f32) (x y : FVec Ideal S512x1024 .f32)
    (base : List (View.Piece (Elt Ideal) S8x576x128 .f32)) (r : Fin 512) (q : Fin 1024) :
    View.canon (outStores (F := Ideal) (fun L n hn => a.view.readCov L (slab n hn).toLoadRect) x
      (fun l k => b.view.readCov (addedStores y base) (boxB l k)) 8 le_rfl) (ix3 0 r q) = x (ix2 r q) + y (ix2 (row r) q) := by
  have e1 : (fun L n hn => a.view.readCov L (slab n hn).toLoadRect : List (View.Piece (Elt Ideal) S1x512x1024 .f32) → (n : ℕ) → n < 8 → Vec Ideal S1x512x128 .f32)
      = fun L n hn j => View.canon L ((slab n hn).toLoadRect.idx j) :=
    funext fun L => funext fun n => funext fun hn => View.readCov_eq_canon' _ _ _
  have e2 : (fun l k => b.view.readCov (addedStores y base) (boxB l k) : StageLd Ideal) = fun l k j => View.canon (addedStores y base) ((boxB l k).idx j) :=
    funext fun l => funext fun k => View.readCov_eq_canon' _ _ _
  rw [e1, e2]
  exact (out_canon x y base r q 8 le_rfl).trans (if_pos (by omega))

/-! ## The first point -/

section
variable (c : Dev nD) (i : grid0.Coords) (arg1 : Memref sig .tc .vmem S1x512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1024x5632 .bf16) (harg12 : arg12.IsWhole) (arg13 : Memref sig .tc .vmem S3x5632 .f32) (harg13 : arg13.IsWhole) (arg14 : Memref sig .tc .vmem S1x5632 .f32) (harg14 : arg14.IsWhole) (arg15 : Memref sig .tc .vmem S2816x1024 .bf16) (harg15 : arg15.IsWhole) (arg16 : Memref sig .tc .vmem S1x512x1024 .f32) (harg16 : arg16.IsWhole) (arg17 : Memref sig .tc .vmem S512x1024 .bf16) (harg17 : arg17.IsWhole) (arg18 : Memref sig .tc .vmem S8x576x128 .f32) (harg18 : arg18.IsWhole) (arg19 : Memref sig .tc .vmem S16x5632 .f32) (harg19 : arg19.IsWhole) (hc0 : cond0_0 i)
    (x0 : Vec Ideal S1x512x1024 .f32) (x1 : Vec Ideal S512x512 .bf16) (x2 : Vec Ideal S512x512 .bf16) (x3 : Vec Ideal S1x1024 .f32) (x4 : Vec Ideal S1x1024 .f32) (x5 : Vec Ideal S1x1024 .f32) (x6 : Vec Ideal S1x1024 .f32) (x7 : Vec Ideal S1x1024 .f32) (x8 : Vec Ideal S1x1024 .f32) (x9 : Vec Ideal S1x1024 .f32) (x10 : Vec Ideal S1024x1024 .bf16) (x11 : Vec Ideal S1024x5632 .bf16) (x12 : Vec Ideal S3x5632 .f32) (x13 : Vec Ideal S1x5632 .f32) (x14 : Vec Ideal S2816x1024 .bf16)

theorem tileA_eq : tileA (F := Ideal) arg1 harg1 arg2 harg2 arg3 harg3 arg4 harg4 arg5 harg5 arg11 harg11 x0 x1 x2 x3 x4 x10 = tile x0 x1 x2 x3 x4 x10 := by
  unfold tileA tile
  rw [load_all arg2 harg2 x1 _ zero_two, load_all arg3 harg3 x2 _ zero_two, load_all arg1 harg1 x0 _ zero_three, load_all arg4 harg4 x3 _ zero_two,
    load_all arg5 harg5 x4 _ zero_two, load_of_whole arg11 harg11 x10, load_of_whole arg11 harg11 x10]
  rfl

theorem modA_eq : modA (F := Ideal) arg1 harg1 arg2 harg2 arg3 harg3 arg4 harg4 arg5 harg5 arg6 harg6 arg7 harg7 arg8 harg8 arg11 harg11 x0 x1 x2 x3 x4 x5 x6 x7 x10 = mods x0 x1 x2 x3 x4 x5 x6 x7 x10 := by
  unfold modA mods
  rw [tileA_eq, load_all arg6 harg6 x5 _ zero_two, load_all arg7 harg7 x6 _ zero_two, load_all arg8 harg8 x7 _ zero_two]

theorem upLdA_eq : upLdA (F := Ideal) arg12 harg12 x11 = upOf x11 := funext fun _ => funext fun _ => load_of_whole arg12 harg12 x11 _
theorem biasLdA_eq : biasLdA (F := Ideal) arg14 harg14 x13 = biasOf x13 := funext fun _ => funext fun _ => load_of_whole arg14 harg14 x13 _
theorem tapLdA_eq : tapLdA (F := Ideal) arg13 harg13 x12 = tapOf x12 := funext fun _ => funext fun _ => load_of_whole arg13 harg13 x12 _

theorem hidA_eq : hidA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 = permuted (mods x0 x1 x2 x3 x4 x5 x6 x7 x10) := by
  have hs : (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).2.2.2.1.drop 8 = stageStores (modA (F := Ideal) arg1 harg1 arg2 harg2 arg3 harg3 arg4 harg4 arg5 harg5 arg6 harg6 arg7 harg7 arg8 harg8 arg11 harg11 x0 x1 x2 x3 x4 x5 x6 x7 x10) := by
    rw [stage_storesA]
    exact drop_stores _ _ 0 8 le_rfl (Nat.zero_le _)
  have hh : (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).2.2.1 = hiddenStores (fun l k j => View.canon (stageStores (modA (F := Ideal) arg1 harg1 arg2 harg2 arg3 harg3 arg4 harg4 arg5 harg5 arg6 harg6 arg7 harg7 arg8 harg8 arg11 harg11 x0 x1 x2 x3 x4 x5 x6 x7 x10)) ((boxA l k).idx j)) := by
    rw [hidden_storesA, hs]
    exact congrArg hiddenStores (funext fun l => funext fun k => View.readCov_eq_canon' _ _ _)
  funext y
  unfold hidA
  rw [View.readCov_eq_canon', hh, modA_eq]
  refine hidden_canon _ (y 0) (y 1) _ (funext fun a => Fin.ext ?_)
  match a with
  | ⟨0, _⟩ => show 0 + 1 * (y 0).val = (y 0).val; omega
  | ⟨1, _⟩ => show 0 + 1 * (y 1).val = (y 1).val; omega

theorem carryLdA_eq (k : ℕ) (hk : k < 22) (inb) : carryLdA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 k ![0, col k] inb = carryOf (fun _ => (0 : EReal)) k ![0, col k] inb := by
  funext y
  unfold carryLdA
  rw [View.readCov_eq_canon', carry_storesA]
  refine (congrArg (fun L => View.canon L _) (drop_stores (carryPiece _ _) [carryZero] k 22 le_rfl (by omega))).trans ?_
  refine (carry_canon _ _ [carryZero] ⟨k, hk⟩ (y 0) (y 1) _ ?_ ?_ k (by omega)).trans ((if_neg (Nat.lt_irrefl k)).trans (zero_canon _))
  · show 0 + 1 * (y 0).val = (y 0).val; omega
  · show col k + 1 * (y 1).val = col k + (y 1).val; omega

set_option maxHeartbeats 1000000 in
/-- What the first point leaves in the output. -/
theorem out_A (r : Fin 512) (q : Fin 1024) : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 (ix3 0 r q)
    = tile x0 x1 x2 x3 x4 x10 (ix2 r q) + plus (mods x0 x1 x2 x3 x4 x5 x6 x7 x10) x8 x9 x11 x12 x13 x14 (fun _ => (0 : EReal)) (ix2 (row r) q) := by
  show VO0_15.read (Elt Ideal) (VO0_15.writes (Elt Ideal) VO0_15.junk (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).1) (ix3 0 r q) = _
  rw [View.read_writes_junk_eq_canon, out_storesA, stage_storesA, tileA_eq, hidA_eq, upLdA_eq, biasLdA_eq, tapLdA_eq,
    load_all arg15 harg15 x14 _ zero_two, load_all arg9 harg9 x8 _ zero_two, load_all arg10 harg10 x9 _ zero_two,
    added_congr _ _ _ _ _ _ (carryLdA_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14)]
  exact out_run arg16 arg18 (tile x0 x1 x2 x3 x4 x10) _ _ r q

/-- What the first point leaves in the carried rows. -/
theorem carried_A : sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 = View.canon (carryStores (permuted (mods x0 x1 x2 x3 x4 x5 x6 x7 x10)) (upOf x11) [carryZero]) := by
  show VS0_2.read (Elt Ideal) (VS0_2.writes (Elt Ideal) VS0_2.junk (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).2.1) = _
  rw [View.read_writes_junk_eq_canon, carry_storesA, hidA_eq, upLdA_eq]

end

/-! ## A later point -/

section
variable (c : Dev nD) (i : grid0.Coords) (arg1 : Memref sig .tc .vmem S1x512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1024x5632 .bf16) (harg12 : arg12.IsWhole) (arg13 : Memref sig .tc .vmem S3x5632 .f32) (harg13 : arg13.IsWhole) (arg14 : Memref sig .tc .vmem S1x5632 .f32) (harg14 : arg14.IsWhole) (arg15 : Memref sig .tc .vmem S2816x1024 .bf16) (harg15 : arg15.IsWhole) (arg16 : Memref sig .tc .vmem S1x512x1024 .f32) (harg16 : arg16.IsWhole) (arg17 : Memref sig .tc .vmem S512x1024 .bf16) (harg17 : arg17.IsWhole) (arg18 : Memref sig .tc .vmem S8x576x128 .f32) (harg18 : arg18.IsWhole) (arg19 : Memref sig .tc .vmem S16x5632 .f32) (harg19 : arg19.IsWhole) (hc0 : ¬cond0_0 i)
    (x0 : Vec Ideal S1x512x1024 .f32) (x1 : Vec Ideal S512x512 .bf16) (x2 : Vec Ideal S512x512 .bf16) (x3 : Vec Ideal S1x1024 .f32) (x4 : Vec Ideal S1x1024 .f32) (x5 : Vec Ideal S1x1024 .f32) (x6 : Vec Ideal S1x1024 .f32) (x7 : Vec Ideal S1x1024 .f32) (x8 : Vec Ideal S1x1024 .f32) (x9 : Vec Ideal S1x1024 .f32) (x10 : Vec Ideal S1024x1024 .bf16) (x11 : Vec Ideal S1024x5632 .bf16) (x12 : Vec Ideal S3x5632 .f32) (x13 : Vec Ideal S1x5632 .f32) (x14 : Vec Ideal S2816x1024 .bf16) (xs2 : Vec Ideal S16x5632 .f32)

theorem tileB_eq : tileB (F := Ideal) arg1 harg1 arg2 harg2 arg3 harg3 arg4 harg4 arg5 harg5 arg11 harg11 x0 x1 x2 x3 x4 x10 = tile x0 x1 x2 x3 x4 x10 := by
  unfold tileB tile
  rw [load_all arg2 harg2 x1 _ zero_two, load_all arg3 harg3 x2 _ zero_two, load_all arg1 harg1 x0 _ zero_three, load_all arg4 harg4 x3 _ zero_two,
    load_all arg5 harg5 x4 _ zero_two, load_of_whole arg11 harg11 x10, load_of_whole arg11 harg11 x10]
  rfl

theorem modB_eq : modB (F := Ideal) arg1 harg1 arg2 harg2 arg3 harg3 arg4 harg4 arg5 harg5 arg6 harg6 arg7 harg7 arg8 harg8 arg11 harg11 x0 x1 x2 x3 x4 x5 x6 x7 x10 = mods x0 x1 x2 x3 x4 x5 x6 x7 x10 := by
  unfold modB mods
  rw [tileB_eq, load_all arg6 harg6 x5 _ zero_two, load_all arg7 harg7 x6 _ zero_two, load_all arg8 harg8 x7 _ zero_two]

theorem upLdB_eq : upLdB (F := Ideal) arg12 harg12 x11 = upOf x11 := funext fun _ => funext fun _ => load_of_whole arg12 harg12 x11 _
theorem biasLdB_eq : biasLdB (F := Ideal) arg14 harg14 x13 = biasOf x13 := funext fun _ => funext fun _ => load_of_whole arg14 harg14 x13 _
theorem tapLdB_eq : tapLdB (F := Ideal) arg13 harg13 x12 = tapOf x12 := funext fun _ => funext fun _ => load_of_whole arg13 harg13 x12 _

theorem hidB_eq : hidB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs2 = permuted (mods x0 x1 x2 x3 x4 x5 x6 x7 x10) := by
  have hs : (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs2).2.2.2.1.drop 8 = stageStores (modB (F := Ideal) arg1 harg1 arg2 harg2 arg3 harg3 arg4 harg4 arg5 harg5 arg6 harg6 arg7 harg7 arg8 harg8 arg11 harg11 x0 x1 x2 x3 x4 x5 x6 x7 x10) := by
    rw [stage_storesB]
    exact drop_stores _ _ 0 8 le_rfl (Nat.zero_le _)
  have hh : (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs2).2.2.1 = hiddenStores (fun l k j => View.canon (stageStores (modB (F := Ideal) arg1 harg1 arg2 harg2 arg3 harg3 arg4 harg4 arg5 harg5 arg6 harg6 arg7 harg7 arg8 harg8 arg11 harg11 x0 x1 x2 x3 x4 x5 x6 x7 x10)) ((boxA l k).idx j)) := by
    rw [hidden_storesB, hs]
    exact congrArg hiddenStores (funext fun l => funext fun k => View.readCov_eq_canon' _ _ _)
  funext y
  unfold hidB
  rw [View.readCov_eq_canon', hh, modB_eq]
  refine hidden_canon _ (y 0) (y 1) _ (funext fun a => Fin.ext ?_)
  match a with
  | ⟨0, _⟩ => show 0 + 1 * (y 0).val = (y 0).val; omega
  | ⟨1, _⟩ => show 0 + 1 * (y 1).val = (y 1).val; omega

theorem carryLdB_eq (k : ℕ) (_hk : k < 22) (inb) : carryLdB (F := Ideal) arg19 harg19 xs2 k ![0, col k] inb = carryOf xs2 k ![0, col k] inb :=
  load_of_whole arg19 harg19 xs2 _

set_option maxHeartbeats 1000000 in
/-- What a later point leaves in the output. -/
theorem out_B (r : Fin 512) (q : Fin 1024) : out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs2 (ix3 0 r q)
    = tile x0 x1 x2 x3 x4 x10 (ix2 r q) + plus (mods x0 x1 x2 x3 x4 x5 x6 x7 x10) x8 x9 x11 x12 x13 x14 xs2 (ix2 (row r) q) := by
  show VO0_15.read (Elt Ideal) (VO0_15.writes (Elt Ideal) VO0_15.junk (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs2).1) (ix3 0 r q) = _
  rw [View.read_writes_junk_eq_canon, out_storesB, stage_storesB, tileB_eq, hidB_eq, upLdB_eq, biasLdB_eq, tapLdB_eq,
    load_all arg15 harg15 x14 _ zero_two, load_all arg9 harg9 x8 _ zero_two, load_all arg10 harg10 x9 _ zero_two,
    added_congr _ _ _ _ _ _ (carryLdB_eq arg19 harg19 xs2)]
  exact out_run arg16 arg18 (tile x0 x1 x2 x3 x4 x10) _ _ r q

/-- What a later point leaves in the carried rows. -/
theorem carried_B : sout0_B_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs2 = View.canon (carryStores (permuted (mods x0 x1 x2 x3 x4 x5 x6 x7 x10)) (upOf x11) []) := by
  show VS0_2.read (Elt Ideal) (VS0_2.writes (Elt Ideal) VS0_2.junk (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xs2).2.1) = _
  rw [View.read_writes_junk_eq_canon, carry_storesB, hidB_eq, upLdB_eq]

end

end Cert.Kernel2Ideal.Ffn

end
-- ==== Proof.Ffn.TileValue.lean ====
module

public import proofs.«01_k».proof.Proof.Ffn.Spec
public import proofs.«01_k».proof.Proof.Ffn.Points

@[expose] public section

set_option maxRecDepth 16384

noncomputable section

namespace Cert.Kernel2Ideal.Ffn

open Cert.Kernel2Ideal Cert.Kernel2Ideal.Gen Idealize.ShloMosaic Idealize.ShloMosaic.TcCoe Idealize.SL.Sem Idealize.ShloMosaic.Tactic
open Idealize.ShloMosaic.ValueIdx
open scoped BigOperators

/-! # A tile's value, on the whole arrays -/

/-- Token `r` of tile `t`. -/
def at' (t : Fin 32) (r : Fin 512) : Fin 16384 := ⟨512 * t.val + r.val, by omega⟩

/-- Column `c` of block `k`. -/
def chan (k : ℕ) (hk : k < 22) (c : Fin 256) : Fin 5632 := ⟨col k + c.val, by have := col_le k hk; omega⟩

section
variable (a : Args) (t : Fin 32) (x0 : Vec Ideal S1x512x1024 .f32) (x1 x2 : Vec Ideal S512x512 .bf16) (x3 x4 x5 x6 x7 x8 x9 : Vec Ideal S1x1024 .f32) (x10 : Vec Ideal S1024x1024 .bf16) (x11 : Vec Ideal S1024x5632 .bf16) (x12 : Vec Ideal S3x5632 .f32) (x13 : Vec Ideal S1x5632 .f32) (x14 : Vec Ideal S2816x1024 .bf16)

/-- The blocks of tile `t` hold their parts of the arrays. -/
structure Blocks : Prop where
  x : ∀ r c, x0 (ix3 0 r c) = a.x (at' t r) c
  attn : ∀ r c, x1 (ix2 r c) = a.attn (at' t r) c
  ssm : ∀ r c, x2 (ix2 r c) = a.ssm (at' t r) c
  gate1 : ∀ c, x3 (ix2 0 c) = a.gate1 c
  postMix : ∀ c, x4 (ix2 0 c) = a.postMix c
  preFfn : ∀ c, x5 (ix2 0 c) = a.preFfn c
  scale2 : ∀ c, x6 (ix2 0 c) = a.scale2 c
  shift2 : ∀ c, x7 (ix2 0 c) = a.shift2 c
  gate2 : ∀ c, x8 (ix2 0 c) = a.gate2 c
  postFfn : ∀ c, x9 (ix2 0 c) = a.postFfn c
  wOut : ∀ k c, x10 (ix2 k c) = a.wOut k c
  wUp : ∀ k c, x11 (ix2 k c) = a.wUp k c
  taps : ∀ k c, x12 (ix2 k c) = a.taps k c
  bias : ∀ c, x13 (ix2 0 c) = a.bias c
  wDown : ∀ k c, x14 (ix2 k c) = a.wDown k c

end

section
variable {a : Args} {t : Fin 32} {x0 : Vec Ideal S1x512x1024 .f32} {x1 x2 : Vec Ideal S512x512 .bf16} {x3 x4 x5 x6 x7 x8 x9 : Vec Ideal S1x1024 .f32} {x10 : Vec Ideal S1024x1024 .bf16} {x11 : Vec Ideal S1024x5632 .bf16} {x12 : Vec Ideal S3x5632 .f32} {x13 : Vec Ideal S1x5632 .f32} {x14 : Vec Ideal S2816x1024 .bf16}

theorem half_value (x : Vec Ideal S1024x1024 .bf16) (o : ℕ) (inb) (k : Fin 512) (c : Fin 1024) (k' : Fin 1024) (h : k'.val = o + k.val) :
    halfOf x o inb (ix2 k c) = x (ix2 k' c) := by
  refine congrArg x (funext fun d => Fin.ext ?_)
  match d with
  | ⟨0, _⟩ => show o + 1 * k.val = k'.val; omega
  | ⟨1, _⟩ => show 0 + 1 * c.val = c.val; omega

/-- A load of a block of columns. -/
theorem columns {n m : ℕ} {e : EltTy} (x : Vec Ideal ⟨2, ![n, 5632]⟩ e) (o k : ℕ) (hk : k < 22)
    (inb : ∀ d, (![o, col k] : Fin 2 → ℕ) d + (⟨2, ![m, 256]⟩ : Shape).size d ≤ (⟨2, ![n, 5632]⟩ : Shape).size d) (r : Fin m) (c : Fin 256) (r' : Fin n)
    (h : r'.val = o + r.val) :
    x ((Rect.unit (s := ⟨2, ![n, 5632]⟩) ![o, col k] (⟨2, ![m, 256]⟩ : Shape).size inb).toLoadRect.idx (ix2 r c)) = x (ix2 r' (chan k hk c)) := by
  refine congrArg x (funext fun d => Fin.ext ?_)
  match d with
  | ⟨0, _⟩ => show o + 1 * r.val = r'.val; omega
  | ⟨1, _⟩ => show col k + 1 * c.val = col k + c.val; omega

variable (H : Blocks a t x0 x1 x2 x3 x4 x5 x6 x7 x8 x9 x10 x11 x12 x13 x14)
include H

theorem tile_value (r : Fin 512) (c : Fin 1024) : tile x0 x1 x2 x3 x4 x10 (ix2 r c) = a.first (at' t r) c := by
  have hm : mixedRow (fun k => x1 (ix2 r k)) (fun k => x2 (ix2 r k))
      (fun k c => halfOf x10 0 (inb2 (by omega) (Nat.zero_add _).le) (ix2 k c)) (fun k c => halfOf x10 512 (inb2 (by omega) (Nat.zero_add _).le) (ix2 k c))
      = a.mixed (at' t r) := by
    unfold Args.mixed
    refine congr (congr (congrArg₂ mixedRow (funext fun k => H.attn r k) (funext fun k => H.ssm r k)) ?_) ?_
    · exact funext fun k => funext fun c => (half_value x10 0 _ k c ⟨k.val, by omega⟩ (by show k.val = 0 + k.val; omega)).trans (H.wOut _ c)
    · exact funext fun k => funext fun c => (half_value x10 512 _ k c ⟨512 + k.val, by omega⟩ rfl).trans (H.wOut _ c)
  unfold tile
  rw [residual_apply, hm, H.x, H.gate1, H.postMix]
  rfl

theorem mods_value (r : Fin 512) (c : Fin 1024) : mods x0 x1 x2 x3 x4 x5 x6 x7 x10 (ix2 r c) = a.hid (at' t r) c := by
  unfold mods
  rw [modulated_apply, tile_value H, H.preFfn, H.scale2, H.shift2, show (fun j => tile x0 x1 x2 x3 x4 x10 (ix2 r j)) = a.first (at' t r) from
    funext fun j => tile_value H r j]
  rfl

/-- A block of the up projection. -/
theorem upBlock_value (k : ℕ) (hk : k < 22) (r : Fin 512) (c : Fin 256) :
    upBlock (permuted (mods x0 x1 x2 x3 x4 x5 x6 x7 x10)) (upOf x11) k hk (ix2 r c) = a.upRow (at' t (tok r)) (chan k hk c) := by
  unfold upBlock
  refine (up_apply _ _ r c).trans (Finset.sum_congr rfl fun j _ => congrArg₂ (· * ·) (mods_value H (tok r) j) ?_)
  exact (columns x11 0 k hk _ j c j (Nat.zero_add _).symm).trans (H.wUp _ _)

/-- The carried rows a tile leaves: its last token and the one before. -/
theorem carried_value (base : List (View.Piece (Elt Ideal) S16x5632 .f32)) (r : Fin 16) (c : Fin 5632) :
    View.canon (carryStores (permuted (mods x0 x1 x2 x3 x4 x5 x6 x7 x10)) (upOf x11) base) (ix2 r c) = a.upRow (at' t (tok ⟨496 + r.val, by omega⟩)) c := by
  have hk : 2 * (c.val % 2816 / 256) + c.val / 2816 < 22 := by omega
  have hcol : col (2 * (c.val % 2816 / 256) + c.val / 2816) + c.val % 2816 % 256 = c.val := by unfold col; omega
  refine (carry_canon _ _ base ⟨_, hk⟩ r ⟨c.val % 2816 % 256, by omega⟩ _ rfl hcol.symm 22 le_rfl).trans ((if_pos hk).trans ?_)
  exact (upBlock_value H _ hk _ _).trans (congrArg _ (Fin.ext hcol))

variable {p : Vec Ideal S16x5632 .f32} (h1 : ∀ c, p (ix2 15 c) = back a.upRow (512 * t.val) 1 c) (h2 : ∀ c, p (ix2 7 c) = back a.upRow (512 * t.val) 2 c)
include h1 h2

/-- A block after the convolution. -/
theorem convBlock_value (k : ℕ) (hk : k < 22) (r : Fin 512) (c : Fin 256) :
    convBlock (permuted (mods x0 x1 x2 x3 x4 x5 x6 x7 x10)) (upOf x11) (biasOf x13) (tapOf x12) (carryOf p) k hk (ix2 r c)
      = a.convRow (at' t (tok r)) (chan k hk c) := by
  have hu := upBlock_value H k hk
  have hp15 : carryOf p k ![0, col k] (inb2 (Nat.zero_add _).le (col_le k hk)) (ix2 15 c) = back a.upRow (512 * t.val) 1 (chan k hk c) :=
    (columns p 0 k hk _ 15 c 15 rfl).trans (h1 _)
  have hp7 : carryOf p k ![0, col k] (inb2 (Nat.zero_add _).le (col_le k hk)) (ix2 7 c) = back a.upRow (512 * t.val) 2 (chan k hk c) :=
    (columns p 0 k hk _ 7 c 7 rfl).trans (h2 _)
  have hs1 : shift1 (carryOf p k ![0, col k] (inb2 (Nat.zero_add _).le (col_le k hk)))
      (upBlock (permuted (mods x0 x1 x2 x3 x4 x5 x6 x7 x10)) (upOf x11) k hk) (ix2 r c) = back a.upRow (at' t (tok r)).val 1 (chan k hk c) := by
    rw [shift1_apply]
    have ht : (at' t (tok r)).val = 512 * t.val + (64 * (r.val % 8) + r.val / 8) := rfl
    split
    · split
      · rename_i h8 h0
        rw [hp15, ht, h0]
        rfl
      · rename_i h8 h0
        refine (hu _ c).trans (back_eq _ _ _ _ _ ?_).symm
        have f0 : (503 + r.val) / 8 = 63 := by omega
        have f1 : (503 + r.val) % 8 = r.val - 1 := by omega
        have f2 : r.val / 8 = 0 := by omega
        have f3 : r.val % 8 = r.val := by omega
        rw [ht]
        show 512 * t.val + (64 * ((503 + r.val) % 8) + (503 + r.val) / 8) + 1 = _
        omega
    · rename_i h8
      refine (hu _ c).trans (back_eq _ _ _ _ _ ?_).symm
      have f0 : (r.val - 8) / 8 = r.val / 8 - 1 := by omega
      have f1 : (r.val - 8) % 8 = r.val % 8 := by omega
      rw [ht]
      show 512 * t.val + (64 * ((r.val - 8) % 8) + (r.val - 8) / 8) + 1 = _
      omega
  have hs2 : shift2 (carryOf p k ![0, col k] (inb2 (Nat.zero_add _).le (col_le k hk)))
      (upBlock (permuted (mods x0 x1 x2 x3 x4 x5 x6 x7 x10)) (upOf x11) k hk) (ix2 r c) = back a.upRow (at' t (tok r)).val 2 (chan k hk c) := by
    rw [shift2_apply]
    have ht : (at' t (tok r)).val = 512 * t.val + (64 * (r.val % 8) + r.val / 8) := rfl
    split
    · split
      · rename_i h8 h0
        rw [hp7, ht, h0]
        rfl
      · rename_i h8 h0
        refine (hu _ c).trans (back_eq _ _ _ _ _ ?_).symm
        have f0 : (495 + r.val) / 8 = 62 := by omega
        have f1 : (495 + r.val) % 8 = r.val - 1 := by omega
        have f2 : r.val / 8 = 0 := by omega
        have f3 : r.val % 8 = r.val := by omega
        rw [ht]
        show 512 * t.val + (64 * ((495 + r.val) % 8) + (495 + r.val) / 8) + 2 = _
        omega
    · split
      · split
        · rename_i h8 h16 h0
          rw [hp15, ht, h0]
          unfold back
          by_cases hz : t.val = 0
          · rw [dif_neg (by omega), dif_neg (by omega)]
          · rw [dif_pos (by omega), dif_pos (by omega)]
            exact congrArg (fun i => a.upRow i (chan k hk c)) (Fin.ext (by show 512 * t.val - 1 = 512 * t.val + (64 * (8 % 8) + 8 / 8) - 2; omega))
        · rename_i h8 h16 h0
          refine (hu _ c).trans (back_eq _ _ _ _ _ ?_).symm
          have f0 : (495 + r.val) / 8 = 63 := by omega
          have f1 : (495 + r.val) % 8 = r.val - 9 := by omega
          have f2 : r.val / 8 = 1 := by omega
          have f3 : r.val % 8 = r.val - 8 := by omega
          rw [ht]
          show 512 * t.val + (64 * ((495 + r.val) % 8) + (495 + r.val) / 8) + 2 = _
          omega
      · rename_i h8 h16
        refine (hu _ c).trans (back_eq _ _ _ _ _ ?_).symm
        have f0 : (r.val - 16) / 8 = r.val / 8 - 2 := by omega
        have f1 : (r.val - 16) % 8 = r.val % 8 := by omega
        rw [ht]
        show 512 * t.val + (64 * ((r.val - 16) % 8) + (r.val - 16) / 8) + 2 = _
        omega
  unfold convBlock
  rw [conv_apply, hs1, hs2, hu]
  unfold Args.convRow
  refine congrArg₂ (· + ·) (congrArg₂ (· + ·) (congrArg₂ (· + ·) ?_ (congrArg (· * _) ?_)) (congrArg (· * _) ?_)) (congrArg (· * _) ?_)
  · exact (columns x13 0 k hk _ 0 c 0 rfl).trans (H.bias _)
  · exact (columns x12 2 k hk _ 0 c 2 rfl).trans (H.taps _ _)
  · exact (columns x12 1 k hk _ 0 c 1 rfl).trans (H.taps _ _)
  · exact (columns x12 0 k hk _ 0 c 0 rfl).trans (H.taps _ _)

/-- The rows added. -/
theorem plus_value (r : Fin 512) (c : Fin 1024) :
    plus (mods x0 x1 x2 x3 x4 x5 x6 x7 x10) x8 x9 x11 x12 x13 x14 p (ix2 r c)
      = a.downRow (at' t (tok r)) c * rowScale (a.downRow (at' t (tok r))) * (a.gate2 c * a.postFfn c) := by
  have hd : ∀ c, down (fun j : Fin 11 => gated
      (convBlock (permuted (mods x0 x1 x2 x3 x4 x5 x6 x7 x10)) (upOf x11) (biasOf x13) (tapOf x12) (carryOf p) (2 * j.val) (by omega))
      (convBlock (permuted (mods x0 x1 x2 x3 x4 x5 x6 x7 x10)) (upOf x11) (biasOf x13) (tapOf x12) (carryOf p) (2 * j.val + 1) (by omega))) x14 (ix2 r c)
      = a.downRow (at' t (tok r)) c := fun c => by
    refine (down_apply _ x14 r c).trans (Finset.sum_congr rfl fun k _ => congrArg₂ (· * ·) ?_ (H.wDown k c))
    refine (gated_apply _ _ _).trans (congrArg₂ gate ?_ ?_)
    · refine (convBlock_value H h1 h2 _ _ r _).trans (congrArg _ (Fin.ext ?_))
      show col (2 * (k.val / 256)) + k.val % 256 = k.val
      unfold col; omega
    · refine (convBlock_value H h1 h2 _ _ r _).trans (congrArg _ (Fin.ext ?_))
      show col (2 * (k.val / 256) + 1) + k.val % 256 = 2816 + k.val
      unfold col; omega
  unfold plus added
  refine (scaled_apply _ _ _ r c).trans (congrArg₂ (· * ·) (congrArg₂ (· * ·) (hd c) (congrArg rowScale (funext hd))) ?_)
  exact congrArg₂ (· * ·) (H.gate2 c) (H.postFfn c)

/-- **The tile's value.** -/
theorem out_value (r : Fin 512) (c : Fin 1024) :
    tile x0 x1 x2 x3 x4 x10 (ix2 r c) + plus (mods x0 x1 x2 x3 x4 x5 x6 x7 x10) x8 x9 x11 x12 x13 x14 p (ix2 (row r) c) = a.out (at' t r) c := by
  rw [tile_value H, plus_value H h1 h2, tok_row]
  rfl

end

end Cert.Kernel2Ideal.Ffn

end
-- ==== Proof.Ffn.Arrays.lean ====
module

public import proofs.«01_k».proof.Proof.Ffn.Spec

@[expose] public section

set_option maxRecDepth 16384

noncomputable section

namespace Cert.Kernel2Ideal.Ffn

open Cert.Kernel2Ideal Idealize.ShloMosaic
open Idealize.ShloMosaic.ValueIdx

/-! # The arrays the two programs read -/

/-- The arrays as plain functions. -/
def argsOf (x0 : S1x16384x1024.Idx → EReal) (x1 x2 : S16384x512.Idx → EReal) (x3 x4 x5 x6 x7 x8 x9 : S1x1024.Idx → EReal)
    (x10 : S1024x1024.Idx → EReal) (x11 : S1024x5632.Idx → EReal) (x12 : S3x5632.Idx → EReal) (x13 : S1x5632.Idx → EReal)
    (x14 : S2816x1024.Idx → EReal) : Args where
  x T c := x0 (ix3 0 T c)
  attn T c := x1 (ix2 T c)
  ssm T c := x2 (ix2 T c)
  gate1 c := x3 (ix2 0 c)
  postMix c := x4 (ix2 0 c)
  preFfn c := x5 (ix2 0 c)
  scale2 c := x6 (ix2 0 c)
  shift2 c := x7 (ix2 0 c)
  gate2 c := x8 (ix2 0 c)
  postFfn c := x9 (ix2 0 c)
  wOut k c := x10 (ix2 k c)
  wUp k c := x11 (ix2 k c)
  taps k c := x12 (ix2 k c)
  bias c := x13 (ix2 0 c)
  wDown k c := x14 (ix2 k c)

end Cert.Kernel2Ideal.Ffn

end
-- ==== Proof.Ffn.KernelValue.lean ====
module

public import proofs.«01_k».proof.Proof.Ffn.TileValue
public import proofs.«01_k».proof.Proof.Ffn.Arrays
public import proofs.«01_k».proof.Proof.Gen.Kernel2Ideal.Value

@[expose] public section

set_option maxRecDepth 65536

noncomputable section

namespace Cert.Kernel2Ideal.Ffn

open Cert.Kernel2Ideal Cert.Kernel2Ideal.Gen Cert.Kernel2Ideal.Value Idealize.ShloMosaic Idealize.ShloMosaic.TcCoe Idealize.SL.Sem Idealize.ShloMosaic.Tactic
open Idealize.ShloMosaic.ValueIdx
open scoped BigOperators

/-! # The kernel's result array -/

section
variable (m : (ℓ : Loc nD τ sig) → Buf (Elt Ideal) ℓ) (c : Dev nD)

/-- The arrays a device's run reads. -/
def read : Args := argsOf (V m c main_arg0) (V m c main_arg1) (V m c main_arg2) (V m c main_arg3) (V m c main_arg4) (V m c main_arg5) (V m c main_arg6)
  (V m c main_arg7) (V m c main_arg8) (V m c main_arg9) (V m c main_arg10) (V m c main_arg11) (V m c main_arg12) (V m c main_arg13) (V m c main_arg14)

/-! The casts before the call keep every value. -/

theorem V_attn : (V m c main_v0 : S16384x512.Idx → EReal) = V m c main_arg1 := (rfl)
theorem V_ssm : (V m c main_v1 : S16384x512.Idx → EReal) = V m c main_arg2 := (rfl)
theorem V_wOut : (V m c main_v2 : S1024x1024.Idx → EReal) = V m c main_arg10 := (rfl)
theorem V_wUp : (V m c main_v3 : S1024x5632.Idx → EReal) = V m c main_arg11 := (rfl)
theorem V_wDown : (V m c main_v4 : S2816x1024.Idx → EReal) = V m c main_arg14 := (rfl)

theorem pos0 : ∀ t : Fin grid0.N, cc0_transform_0 (grid0.coords t) 1 = t.val := by decide +kernel
theorem pos1 : ∀ t : Fin grid0.N, cc0_transform_1 (grid0.coords t) 0 = t.val := by decide +kernel
theorem pos2 : ∀ t : Fin grid0.N, cc0_transform_2 (grid0.coords t) 0 = t.val := by decide +kernel

/-! ## The blocks a point reads: its tile's rows of three arrays, the others whole -/

theorem block0 (t : Fin cfg0.N) (j : S1x512x1024.Idx) (y : S1x16384x1024.Idx) (h1 : (y 1).val = 512 * t.val + (j 1).val) (h2 : (y 2).val = (j 2).val) :
    iblk m c 0 t j = V m c main_arg0 y := by
  show V m c main_arg0 (((cfg0.win 0).blk t).view.emb j) = _
  refine congrArg _ (funext fun a => Fin.ext ?_)
  have hj : (j 0).val < 1 := (j 0).isLt
  have hy : (y 0).val < 1 := (y 0).isLt
  match a with
  | ⟨0, _⟩ => show 0 * 1 + 1 * (j 0).val = (y 0).val; omega
  | ⟨1, _⟩ => show cc0_transform_0 (grid0.coords t) 1 * 512 + 1 * (j 1).val = (y 1).val; rw [pos0 t]; omega
  | ⟨2, _⟩ => show 0 * 1024 + 1 * (j 2).val = (y 2).val; omega
theorem block1 (t : Fin cfg0.N) (j : S512x512.Idx) (y : S16384x512.Idx) (h0 : (y 0).val = 512 * t.val + (j 0).val) (h1 : (y 1).val = (j 1).val) :
    iblk m c 1 t j = V m c main_v0 y := by
  show V m c main_v0 (((cfg0.win 1).blk t).view.emb j) = _
  refine congrArg _ (funext fun a => Fin.ext ?_)
  match a with
  | ⟨0, _⟩ => show cc0_transform_1 (grid0.coords t) 0 * 512 + 1 * (j 0).val = (y 0).val; rw [pos1 t]; omega
  | ⟨1, _⟩ => show 0 * 512 + 1 * (j 1).val = (y 1).val; omega
theorem block2 (t : Fin cfg0.N) (j : S512x512.Idx) (y : S16384x512.Idx) (h0 : (y 0).val = 512 * t.val + (j 0).val) (h1 : (y 1).val = (j 1).val) :
    iblk m c 2 t j = V m c main_v1 y := by
  show V m c main_v1 (((cfg0.win 2).blk t).view.emb j) = _
  refine congrArg _ (funext fun a => Fin.ext ?_)
  match a with
  | ⟨0, _⟩ => show cc0_transform_2 (grid0.coords t) 0 * 512 + 1 * (j 0).val = (y 0).val; rw [pos2 t]; omega
  | ⟨1, _⟩ => show 0 * 512 + 1 * (j 1).val = (y 1).val; omega
theorem block3 (t : Fin cfg0.N) (j : S1x1024.Idx) : iblk m c 3 t j = V m c main_arg3 j := by
  show V m c main_arg3 (((cfg0.win 3).blk t).view.emb j) = _
  refine congrArg _ (funext fun a => Fin.ext ?_)
  match a with
  | ⟨0, _⟩ => show 0 * 1 + 1 * (j 0).val = (j 0).val; omega
  | ⟨1, _⟩ => show 0 * 1024 + 1 * (j 1).val = (j 1).val; omega
theorem block4 (t : Fin cfg0.N) (j : S1x1024.Idx) : iblk m c 4 t j = V m c main_arg4 j := by
  show V m c main_arg4 (((cfg0.win 4).blk t).view.emb j) = _
  refine congrArg _ (funext fun a => Fin.ext ?_)
  match a with
  | ⟨0, _⟩ => show 0 * 1 + 1 * (j 0).val = (j 0).val; omega
  | ⟨1, _⟩ => show 0 * 1024 + 1 * (j 1).val = (j 1).val; omega
theorem block5 (t : Fin cfg0.N) (j : S1x1024.Idx) : iblk m c 5 t j = V m c main_arg5 j := by
  show V m c main_arg5 (((cfg0.win 5).blk t).view.emb j) = _
  refine congrArg _ (funext fun a => Fin.ext ?_)
  match a with
  | ⟨0, _⟩ => show 0 * 1 + 1 * (j 0).val = (j 0).val; omega
  | ⟨1, _⟩ => show 0 * 1024 + 1 * (j 1).val = (j 1).val; omega
theorem block6 (t : Fin cfg0.N) (j : S1x1024.Idx) : iblk m c 6 t j = V m c main_arg6 j := by
  show V m c main_arg6 (((cfg0.win 6).blk t).view.emb j) = _
  refine congrArg _ (funext fun a => Fin.ext ?_)
  match a with
  | ⟨0, _⟩ => show 0 * 1 + 1 * (j 0).val = (j 0).val; omega
  | ⟨1, _⟩ => show 0 * 1024 + 1 * (j 1).val = (j 1).val; omega
theorem block7 (t : Fin cfg0.N) (j : S1x1024.Idx) : iblk m c 7 t j = V m c main_arg7 j := by
  show V m c main_arg7 (((cfg0.win 7).blk t).view.emb j) = _
  refine congrArg _ (funext fun a => Fin.ext ?_)
  match a with
  | ⟨0, _⟩ => show 0 * 1 + 1 * (j 0).val = (j 0).val; omega
  | ⟨1, _⟩ => show 0 * 1024 + 1 * (j 1).val = (j 1).val; omega
theorem block8 (t : Fin cfg0.N) (j : S1x1024.Idx) : iblk m c 8 t j = V m c main_arg8 j := by
  show V m c main_arg8 (((cfg0.win 8).blk t).view.emb j) = _
  refine congrArg _ (funext fun a => Fin.ext ?_)
  match a with
  | ⟨0, _⟩ => show 0 * 1 + 1 * (j 0).val = (j 0).val; omega
  | ⟨1, _⟩ => show 0 * 1024 + 1 * (j 1).val = (j 1).val; omega
theorem block9 (t : Fin cfg0.N) (j : S1x1024.Idx) : iblk m c 9 t j = V m c main_arg9 j := by
  show V m c main_arg9 (((cfg0.win 9).blk t).view.emb j) = _
  refine congrArg _ (funext fun a => Fin.ext ?_)
  match a with
  | ⟨0, _⟩ => show 0 * 1 + 1 * (j 0).val = (j 0).val; omega
  | ⟨1, _⟩ => show 0 * 1024 + 1 * (j 1).val = (j 1).val; omega
theorem block10 (t : Fin cfg0.N) (j : S1024x1024.Idx) : iblk m c 10 t j = V m c main_v2 j := by
  show V m c main_v2 (((cfg0.win 10).blk t).view.emb j) = _
  refine congrArg _ (funext fun a => Fin.ext ?_)
  match a with
  | ⟨0, _⟩ => show 0 * 1024 + 1 * (j 0).val = (j 0).val; omega
  | ⟨1, _⟩ => show 0 * 1024 + 1 * (j 1).val = (j 1).val; omega
theorem block11 (t : Fin cfg0.N) (j : S1024x5632.Idx) : iblk m c 11 t j = V m c main_v3 j := by
  show V m c main_v3 (((cfg0.win 11).blk t).view.emb j) = _
  refine congrArg _ (funext fun a => Fin.ext ?_)
  match a with
  | ⟨0, _⟩ => show 0 * 1024 + 1 * (j 0).val = (j 0).val; omega
  | ⟨1, _⟩ => show 0 * 5632 + 1 * (j 1).val = (j 1).val; omega
theorem block12 (t : Fin cfg0.N) (j : S3x5632.Idx) : iblk m c 12 t j = V m c main_arg12 j := by
  show V m c main_arg12 (((cfg0.win 12).blk t).view.emb j) = _
  refine congrArg _ (funext fun a => Fin.ext ?_)
  match a with
  | ⟨0, _⟩ => show 0 * 3 + 1 * (j 0).val = (j 0).val; omega
  | ⟨1, _⟩ => show 0 * 5632 + 1 * (j 1).val = (j 1).val; omega
theorem block13 (t : Fin cfg0.N) (j : S1x5632.Idx) : iblk m c 13 t j = V m c main_arg13 j := by
  show V m c main_arg13 (((cfg0.win 13).blk t).view.emb j) = _
  refine congrArg _ (funext fun a => Fin.ext ?_)
  match a with
  | ⟨0, _⟩ => show 0 * 1 + 1 * (j 0).val = (j 0).val; omega
  | ⟨1, _⟩ => show 0 * 5632 + 1 * (j 1).val = (j 1).val; omega
theorem block14 (t : Fin cfg0.N) (j : S2816x1024.Idx) : iblk m c 14 t j = V m c main_v4 j := by
  show V m c main_v4 (((cfg0.win 14).blk t).view.emb j) = _
  refine congrArg _ (funext fun a => Fin.ext ?_)
  match a with
  | ⟨0, _⟩ => show 0 * 2816 + 1 * (j 0).val = (j 0).val; omega
  | ⟨1, _⟩ => show 0 * 1024 + 1 * (j 1).val = (j 1).val; omega

/-- The tile a point works on. -/
def tileOf (t : Fin cfg0.N) : Fin 32 := ⟨t.val, lt_of_lt_of_eq t.isLt N_0⟩

/-- The blocks a point reads. -/
theorem blocks (t : Fin cfg0.N) : Blocks (read m c) (tileOf t) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk m c 13 t) (iblk m c 14 t) where
  x r d := block0 m c t (ix3 0 r d) (ix3 0 (at' (tileOf t) r) d) rfl rfl
  attn r d := (block1 m c t (ix2 r d) (ix2 (at' (tileOf t) r) d) rfl rfl).trans (congrFun (V_attn m c) _)
  ssm r d := (block2 m c t (ix2 r d) (ix2 (at' (tileOf t) r) d) rfl rfl).trans (congrFun (V_ssm m c) _)
  gate1 d := block3 m c t (ix2 0 d)
  postMix d := block4 m c t (ix2 0 d)
  preFfn d := block5 m c t (ix2 0 d)
  scale2 d := block6 m c t (ix2 0 d)
  shift2 d := block7 m c t (ix2 0 d)
  gate2 d := block8 m c t (ix2 0 d)
  postFfn d := block9 m c t (ix2 0 d)
  wOut k d := (block10 m c t (ix2 k d)).trans (congrFun (V_wOut m c) _)
  wUp k d := (block11 m c t (ix2 k d)).trans (congrFun (V_wUp m c) _)
  taps k d := block12 m c t (ix2 k d)
  bias d := block13 m c t (ix2 0 d)
  wDown k d := (block14 m c t (ix2 k d)).trans (congrFun (V_wDown m c) _)

set_option maxHeartbeats 2000000 in
/-- The carried rows after a point: the last token's and the one's before it. -/
theorem carried_after (t : Fin cfg0.N) (r : Fin 16) (d : Fin 5632) :
    (outsAt0 m c t.val t.isLt).2 (ix2 r d) = (read m c).upRow (at' (tileOf t) (tok ⟨496 + r.val, by omega⟩)) d := by
  by_cases h0 : t.val % 32 = 0
  · refine (congrFun ((congrArg Prod.snd (outsAt0_A m c t h0)).trans ?_) _).trans (carried_value (blocks m c t) [carryZero] r d)
    exact carried_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
  · refine (congrFun ((congrArg Prod.snd (outsAt0_B m c t h0)).trans ?_) _).trans (carried_value (blocks m c t) [] r d)
    exact carried_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2

set_option maxHeartbeats 2000000 in
/-- The output after a point: its tile's result. -/
theorem out_after (t : Fin cfg0.N) (r : Fin 512) (d : Fin 1024) :
    (outsAt0 m c t.val t.isLt).1 (ix3 0 r d) = (read m c).out (at' (tileOf t) r) d := by
  have hN : t.val < 32 := lt_of_lt_of_eq t.isLt N_0
  by_cases h0 : t.val % 32 = 0
  · have hz : (tileOf t).val = 0 := by show t.val = 0; omega
    refine ((congrFun (congrArg Prod.fst (outsAt0_A m c t h0)) _).trans ?_).trans (out_value (p := fun _ => (0 : EReal)) (blocks m c t) (fun d => ?_) (fun d => ?_) r d)
    · exact out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r d
    · exact (back_none _ _ _ _ (by rw [hz]; omega)).symm
    · exact (back_none _ _ _ _ (by rw [hz]; omega)).symm
  · refine ((congrFun (congrArg Prod.fst (outsAt0_B m c t h0)) _).trans ?_).trans
      (out_value (p := (outsAt0 m c (t.val - 1) (Nat.lt_of_le_of_lt (Nat.sub_le _ _) t.isLt)).2) (blocks m c t) (fun d => ?_) (fun d => ?_) r d)
    · exact out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2 r d
    · refine (carried_after m c ⟨t.val - 1, Nat.lt_of_le_of_lt (Nat.sub_le _ _) t.isLt⟩ 15 d).trans (back_eq _ _ _ _ _ ?_).symm
      show 512 * (t.val - 1) + (64 * ((496 + 15) % 8) + (496 + 15) / 8) + 1 = 512 * t.val
      omega
    · refine (carried_after m c ⟨t.val - 1, Nat.lt_of_le_of_lt (Nat.sub_le _ _) t.isLt⟩ 7 d).trans (back_eq _ _ _ _ _ ?_).symm
      show 512 * (t.val - 1) + (64 * ((496 + 7) % 8) + (496 + 7) / 8) + 2 = 512 * t.val
      omega

/-- **The kernel's result.** -/
theorem kernel_value (T : Fin 16384) (d : Fin 1024) : G15 m c (ix3 0 T d) = (read m c).out T d := by
  have hp : pt15Of (ix3 0 T d) = T.val / 512 := by
    show 32 * (0 / 1 - 0) + 1 * (T.val / 512 - 0) + 1 * (d.val / 1024 - 0) = _
    omega
  have hN : pt15Of (ix3 0 T d) < cfg0.N := by rw [hp]; exact lt_of_lt_of_eq (by omega : T.val / 512 < 32) N_0.symm
  unfold G15
  rw [dif_pos hN, ← outsAt0_sweep m c _ hN]
  have hl : loc15Of (ix3 0 T d) = ix3 0 ⟨T.val % 512, by omega⟩ d := funext fun a => Fin.ext (by
    match a with
    | ⟨0, _⟩ => rfl
    | ⟨1, _⟩ => rfl
    | ⟨2, _⟩ => show d.val % 1024 = d.val; omega)
  refine (congrArg _ hl).trans ((out_after m c ⟨pt15Of (ix3 0 T d), hN⟩ ⟨T.val % 512, by omega⟩ d).trans ?_)
  refine congrArg (fun T => (read m c).out T d) (Fin.ext ?_)
  show 512 * pt15Of (ix3 0 T d) + T.val % 512 = T.val
  rw [hp]
  omega

end

end Cert.Kernel2Ideal.Ffn

end
-- ==== Proof.Ffn.Reals.lean ====
module

public import proofs.«01_k».proof.Proof.Ffn.Spec

@[expose] public section

set_option maxRecDepth 16384

noncomputable section

namespace Cert.Kernel2Ideal.Ffn

open Cert.Kernel2Ideal Idealize.ShloMosaic
open scoped BigOperators

/-! # What reaches the gate is real

A row times one over the root of its mean square is real whatever the row: of a real row the mean square is not negative, so with
the small constant added its root is positive, and of a row with an infinite entry the root is infinite and one over it zero. So
from a real weight, scale and shift, real projection weights and a real convolution the gate's and the value's entries are real.
On reals the gate is the textbook's. -/

/-- An extended real that is a real. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.zero : IsReal 0 := ⟨0, rfl⟩

theorem IsReal.sum {n : ℕ} (f : Fin n → EReal) (h : ∀ k, IsReal (f k)) : IsReal (∑ k, f k) :=
  Finset.sum_induction f IsReal (fun _ _ hx hy => hx.add hy) IsReal.zero fun k _ => h k

/-- An extended real that is a real and not negative. -/
def IsNonneg (x : EReal) : Prop := ∃ r : ℝ, 0 ≤ r ∧ x = (r : EReal)

theorem squares_nonneg (v : Fin 1024 → EReal) (h : ∀ k, IsReal (v k)) : IsNonneg (∑ k, v k * v k) := by
  refine Finset.sum_induction (fun k => v k * v k) IsNonneg ?_ ⟨0, le_refl _, rfl⟩ fun k _ => ?_
  · rintro _ _ ⟨a, ha, rfl⟩ ⟨b, hb, rfl⟩
    exact ⟨a + b, add_nonneg ha hb, (EReal.coe_add a b).symm⟩
  · obtain ⟨a, ha⟩ := h k
    exact ⟨a * a, mul_self_nonneg a, by show v k * v k = _; rw [ha]; exact (EReal.coe_mul a a).symm⟩

theorem length_word : Ideal.ofBits .f32 0x44800000#32 = ((1024 : ℝ) : EReal) := by
  simp [Ideal.ofBits, Ideal.ieee, -EReal.coe_mul]; norm_num
theorem small_word : Ideal.ofBits .f32 0x358637BD#32 = ((8796093 / 8796093022208 : ℝ) : EReal) := by
  simp [Ideal.ofBits, Ideal.ieee, -EReal.coe_mul]; norm_num
theorem one_word : Ideal.ofBits .f32 0x3F800000#32 = ((1 : ℝ) : EReal) := by
  simp [Ideal.ofBits, Ideal.ieee, -EReal.coe_mul]; norm_num
theorem half_word : Ideal.ofBits .f32 0x3F000000#32 = ((1 / 2 : ℝ) : EReal) := by
  simp [Ideal.ofBits, Ideal.ieee, -EReal.coe_mul]; norm_num
theorem root_word : Ideal.ofBits .f32 0x3F4C422A#32 = ((6693141 / 8388608 : ℝ) : EReal) := by
  simp [Ideal.ofBits, Ideal.ieee, -EReal.coe_mul]; norm_num
theorem cube_word : Ideal.ofBits .f32 0x3D372713#32 = ((12003091 / 268435456 : ℝ) : EReal) := by
  simp [Ideal.ofBits, Ideal.ieee, -EReal.coe_mul]; norm_num

theorem rowScale_real (v : Fin 1024 → EReal) (h : ∀ k, IsReal (v k)) : IsReal (rowScale v) := by
  obtain ⟨s, hs, e⟩ := squares_nonneg v h
  have hp : 0 < s * (1 / 1024) + 8796093 / 8796093022208 := by positivity
  unfold rowScale
  rw [e, length_word, small_word, Ideal.div_coe (by norm_num), ← EReal.coe_mul, ← EReal.coe_add, Ideal.rsqrt_coe, if_neg (not_lt.2 hp.le), if_neg hp.ne']
  exact ⟨_, rfl⟩

theorem square_nonneg (x : EReal) : 0 ≤ x * x := by
  induction x with
  | bot => simp
  | top => simp
  | coe r => rw [← EReal.coe_mul]; exact EReal.coe_nonneg.2 (mul_self_nonneg r)

theorem square_top (x : EReal) (h : ¬IsReal x) : x * x = ⊤ := by
  induction x with
  | bot => simp
  | top => simp
  | coe r => exact absurd ⟨r, rfl⟩ h

/-- A row that has an infinite entry is scaled by zero. -/
theorem rowScale_zero (v : Fin 1024 → EReal) (k : Fin 1024) (h : ¬IsReal (v k)) : rowScale v = 0 := by
  have e : ∑ j, v j * v j = ⊤ := top_le_iff.1 ((square_top _ h).ge.trans
    (Finset.single_le_sum (f := fun j => v j * v j) (fun j _ => square_nonneg (v j)) (Finset.mem_univ k)))
  unfold rowScale
  rw [e, length_word, small_word, Ideal.div_coe (by norm_num), EReal.top_mul_coe_of_pos (by norm_num), EReal.top_add_coe]
  rfl

/-- A normalized entry is real, whatever the row. -/
theorem normalized_real (v : Fin 1024 → EReal) (c : Fin 1024) : IsReal (v c * rowScale v) := by
  by_cases h : ∀ k, IsReal (v k)
  · exact (h c).mul (rowScale_real v h)
  · obtain ⟨k, hk⟩ := not_forall.1 h
    rw [rowScale_zero v k hk, mul_zero]
    exact IsReal.zero

/-- On reals the gate is half the value times one plus the hyperbolic tangent, the cube's factor inside. -/
theorem gate_real (g v : EReal) (hg : IsReal g) (hv : IsReal v) :
    g * (Ideal.ofBits .f32 0x3F000000#32 * (Ideal.ofBits .f32 0x3F800000#32
      + Ideal.tanh (Ideal.ofBits .f32 0x3F4C422A#32 * (g + Ideal.ofBits .f32 0x3D372713#32 * (g * g * g))))) * v = gate g v := by
  obtain ⟨a, rfl⟩ := hg
  obtain ⟨b, rfl⟩ := hv
  unfold gate cubic
  rw [half_word, one_word, root_word, cube_word]
  simp only [← EReal.coe_mul, ← EReal.coe_add, Ideal.tanh_coe]
  have e : (6693141 / 8388608 : ℝ) * (a + 12003091 / 268435456 * (a * a * a)) = a * (6693141 / 8388608 + 80338380498831 / 2251799813685248 * (a * a)) := by ring
  rw [e]
  refine congrArg _ ?_
  ring

/-- The arrays between the normalized row and the gate hold reals. -/
structure Args.Real (a : Args) : Prop where
  preFfn : ∀ c, IsReal (a.preFfn c)
  scale2 : ∀ c, IsReal (a.scale2 c)
  shift2 : ∀ c, IsReal (a.shift2 c)
  wUp : ∀ k c, IsReal (a.wUp k c)
  taps : ∀ k c, IsReal (a.taps k c)
  bias : ∀ c, IsReal (a.bias c)

namespace Args.Real
variable {a : Args} (H : a.Real)
include H

theorem hid_real (T : Fin 16384) (c : Fin 1024) : IsReal (a.hid T c) :=
  ((normalized_real (a.first T) c).mul ((H.preFfn c).mul (IsReal.add ⟨1, one_word⟩ (H.scale2 c)))).add (H.shift2 c)

theorem upRow_real (T : Fin 16384) (c : Fin 5632) : IsReal (a.upRow T c) := IsReal.sum _ fun _ => (H.hid_real _ _).mul (H.wUp _ _)

theorem back_real (T d : ℕ) (c : Fin 5632) : IsReal (back a.upRow T d c) := by
  unfold back
  split
  · exact H.upRow_real _ _
  · exact IsReal.zero

theorem convRow_real (T : Fin 16384) (c : Fin 5632) : IsReal (a.convRow T c) :=
  (((H.bias c).add ((H.taps 2 c).mul (H.upRow_real T c))).add ((H.taps 1 c).mul (H.back_real _ _ c))).add ((H.taps 0 c).mul (H.back_real _ _ c))

end Args.Real

end Cert.Kernel2Ideal.Ffn

end
-- ==== Proof.Ffn.RefValue.lean ====
module

public import proofs.«01_k».proof.Proof.Ffn.Arrays
public import proofs.«01_k».proof.Proof.Ffn.Reals
public import proofs.«01_k».proof.Proof.Att.UnitValue
public import proofs.«01_k».proof.Proof.Gen.Reference2Ideal.Read
public import Idealize.ShloMosaic.Lib.KernelVsHost
public import Idealize.ShloMosaic.Lib.ValueIdxCore

@[expose] public section

set_option maxRecDepth 65536

noncomputable section

namespace Cert.Reference2Ideal.Ffn

open Cert.Reference2Ideal Cert.Reference2Ideal.Gen Cert.Reference2Ideal.Read Idealize.ShloMosaic Idealize.ShloMosaic.TcCoe
open Idealize.ShloMosaic.ValueIdx
open Cert.Kernel2Ideal.Ffn
open Cert.KernelIdeal.Att (zero_word)
open scoped BigOperators

/-! # The reference's result array -/

theorem row_read (x : S1x1024.Idx → EReal) (y : S1x1024.Idx) (c : Fin 1024) (h : (y 1).val = c.val) : x y = x (ix2 0 c) := by
  refine congrArg x (funext fun a => Fin.ext ?_)
  have h0 : (y 0).val < 1 := (y 0).isLt
  match a with
  | ⟨0, _⟩ => show (y 0).val = 0; omega
  | ⟨1, _⟩ => exact h

theorem at_pair {m n : ℕ} (x : (⟨2, ![m, n]⟩ : Shape).Idx → EReal) (y : (⟨2, ![m, n]⟩ : Shape).Idx) (r : Fin m) (c : Fin n)
    (h0 : (y 0).val = r.val) (h1 : (y 1).val = c.val) : x y = x (ix2 r c) := by
  refine congrArg x (funext fun a => Fin.ext ?_)
  match a with
  | ⟨0, _⟩ => exact h0
  | ⟨1, _⟩ => exact h1

/-- One over the root of a mean square, as the reference writes it. -/
theorem scale_of (v w : Fin 1024 → EReal) (h : ∀ k, w k = v k * v k) :
    Ideal.rsqrt (Ideal.div (Ideal.ofBits .f32 0x00000000#32 + ∑ k, w k) (Ideal.ofBits .f32 0x44800000#32) + Ideal.ofBits .f32 0x358637BD#32) = rowScale v := by
  unfold rowScale
  rw [zero_word, zero_add, Finset.sum_congr rfl fun k _ => h k]

section
variable (x0 : S1x16384x1024.Idx → EReal) (x1 x2 : S16384x512.Idx → EReal) (x3 x4 x5 x6 x7 x8 x9 : S1x1024.Idx → EReal)
  (x10 : S1024x1024.Idx → EReal) (x11 : S1024x5632.Idx → EReal) (x12 : S3x5632.Idx → EReal) (x13 : S1x5632.Idx → EReal) (x14 : S2816x1024.Idx → EReal)

/-- The two outputs side by side: the attention's. -/
theorem side_left (y : S16384x1024.Idx) (T : Fin 16384) (k : Fin 512) (h0 : (y 0).val = T.val) (h1 : (y 1).val = k.val) :
    val_main_v0 (F := Ideal) x1 x2 y = x1 (ix2 T k) := by
  unfold val_main_v0
  exact concatenate_pair_apply_left (t := S16384x1024) (s₁ := S16384x512) 1 _ _ _ y rfl (ix2 T k) fun b => by
    match b with
    | ⟨0, _⟩ => exact h0.symm
    | ⟨1, _⟩ => exact h1.symm

/-- The two outputs side by side: the state space model's. -/
theorem side_right (y : S16384x1024.Idx) (T : Fin 16384) (k : Fin 512) (h0 : (y 0).val = T.val) (h1 : (y 1).val = 512 + k.val) :
    val_main_v0 (F := Ideal) x1 x2 y = x2 (ix2 T k) := by
  unfold val_main_v0
  exact concatenate_pair_apply_right (t := S16384x1024) (s₁ := S16384x512) (s₂ := S16384x512) 1 _ _ _ y rfl rfl (ix2 T k) (fun b hb => by
    match b, hb with
    | ⟨0, _⟩, _ => exact h0.symm
    | ⟨1, _⟩, hb => exact absurd rfl hb) (by show k.val + 512 = (y 1).val; omega)

theorem mixed_value (i : S1x16384x1024.Idx) : val_main_v2 (F := Ideal) x1 x2 x10 i = (argsOf x0 x1 x2 x3 x4 x5 x6 x7 x8 x9 x10 x11 x12 x13 x14).mixed (i 1) (i 2) := by
  rw [val_main_v2_apply]
  refine (Fin.sum_univ_add (a := 512) (b := 512) fun k : Fin 1024 => val_main_v1 (F := Ideal) x1 x2 (lidx_main_v2 i k) * x10 (ridx_main_v2 i k)).trans
    (congrArg₂ (· + ·) (Finset.sum_congr rfl fun k _ => ?_) (Finset.sum_congr rfl fun k _ => ?_))
  · rw [val_main_v1_apply]
    exact congrArg₂ (· * ·) (side_left x1 x2 _ (i 1) k rfl rfl) (at_pair x10 _ ⟨k.val, by omega⟩ (i 2) rfl rfl)
  · rw [val_main_v1_apply]
    exact congrArg₂ (· * ·) (side_right x1 x2 _ (i 1) k rfl rfl) (at_pair x10 _ ⟨512 + k.val, by omega⟩ (i 2) rfl rfl)

theorem mixed_scale (i : S1x16384x1024.Idx) : val_main_v11 (F := Ideal) x1 x2 x10 i = rowScale ((argsOf x0 x1 x2 x3 x4 x5 x6 x7 x8 x9 x10 x11 x12 x13 x14).mixed (i 1)) := by
  rw [val_main_v11_apply, val_main_v10_apply, val_main_v9_apply, val_main_v7_apply, val_main_v5_apply, val_main_v4_apply, val_main_v6_apply, val_main_v8_apply, val_main_cst_apply, val_main_cst_0_apply, val_main_cst_1_apply]
  refine scale_of ((argsOf x0 x1 x2 x3 x4 x5 x6 x7 x8 x9 x10 x11 x12 x13 x14).mixed (i 1)) _ fun k => ?_
  rw [val_main_v3_apply]
  exact congrArg₂ (· * ·) (mixed_value x0 x1 x2 x3 x4 x5 x6 x7 x8 x9 x10 x11 x12 x13 x14 _) (mixed_value x0 x1 x2 x3 x4 x5 x6 x7 x8 x9 x10 x11 x12 x13 x14 _)

theorem first_value (i : S1x16384x1024.Idx) : val_main_v19 (F := Ideal) x0 x1 x2 x3 x4 x10 i = (argsOf x0 x1 x2 x3 x4 x5 x6 x7 x8 x9 x10 x11 x12 x13 x14).first (i 1) (i 2) := by
  have hx : x0 i = x0 (ix3 0 (i 1) (i 2)) := congrArg x0 (funext fun a => Fin.ext (by
    have h0 : (i 0).val < 1 := (i 0).isLt
    match a with
    | ⟨0, _⟩ => show (i 0).val = 0; omega
    | ⟨1, _⟩ => rfl
    | ⟨2, _⟩ => rfl))
  rw [val_main_v19_apply, val_main_v18_apply, val_main_v17_apply, val_main_v16_apply, val_main_v15_apply, val_main_v12_apply, val_main_v14_apply, val_main_v13_apply, mixed_value x0 x1 x2 x3 x4 x5 x6 x7 x8 x9 x10 x11 x12 x13 x14,
    mixed_scale x0 x1 x2 x3 x4 x5 x6 x7 x8 x9 x10 x11 x12 x13 x14, hx, row_read x3 _ (i 2) rfl, row_read x4 _ (i 2) rfl]
  show (_ : EReal) + _ * (_ * _ * _) = _ + _ * _ * (_ * _)
  rw [mul_left_comm]
  rfl

theorem first_scale (i : S1x16384x1024.Idx) : val_main_v28 (F := Ideal) x0 x1 x2 x3 x4 x10 i = rowScale ((argsOf x0 x1 x2 x3 x4 x5 x6 x7 x8 x9 x10 x11 x12 x13 x14).first (i 1)) := by
  rw [val_main_v28_apply, val_main_v27_apply, val_main_v26_apply, val_main_v24_apply, val_main_v22_apply, val_main_v21_apply, val_main_v23_apply, val_main_v25_apply, val_main_cst_2_apply, val_main_cst_3_apply, val_main_cst_4_apply]
  refine scale_of ((argsOf x0 x1 x2 x3 x4 x5 x6 x7 x8 x9 x10 x11 x12 x13 x14).first (i 1)) _ fun k => ?_
  rw [val_main_v20_apply]
  exact congrArg₂ (· * ·) (first_value x0 x1 x2 x3 x4 x5 x6 x7 x8 x9 x10 x11 x12 x13 x14 _) (first_value x0 x1 x2 x3 x4 x5 x6 x7 x8 x9 x10 x11 x12 x13 x14 _)

theorem hid_value (i : S1x16384x1024.Idx) : val_main_v40 (F := Ideal) x0 x1 x2 x3 x4 x5 x6 x7 x10 i = (argsOf x0 x1 x2 x3 x4 x5 x6 x7 x8 x9 x10 x11 x12 x13 x14).hid (i 1) (i 2) := by
  rw [val_main_v40_apply, val_main_v39_apply, val_main_v38_apply, val_main_v37_apply, val_main_v36_apply, val_main_v35_apply, val_main_v34_apply, val_main_v33_apply, val_main_cst_5_apply, val_main_v32_apply, val_main_v31_apply, val_main_v30_apply, val_main_v29_apply, first_value x0 x1 x2 x3 x4 x5 x6 x7 x8 x9 x10 x11 x12 x13 x14,
    first_scale x0 x1 x2 x3 x4 x5 x6 x7 x8 x9 x10 x11 x12 x13 x14, row_read x5 _ (i 2) rfl, row_read x6 _ (i 2) rfl, row_read x7 _ (i 2) rfl]
  exact congrArg (· + x7 (ix2 0 (i 2))) (mul_assoc (G := EReal) _ _ _)

theorem up_value (i : S1x16384x5632.Idx) : val_main_v41 (F := Ideal) x0 x1 x2 x3 x4 x5 x6 x7 x10 x11 i = (argsOf x0 x1 x2 x3 x4 x5 x6 x7 x8 x9 x10 x11 x12 x13 x14).upRow (i 1) (i 2) := by
  rw [val_main_v41_apply]
  exact Finset.sum_congr rfl fun k _ => congrArg₂ (· * ·) (hid_value x0 x1 x2 x3 x4 x5 x6 x7 x8 x9 x10 x11 x12 x13 x14 _) (at_pair x11 _ k (i 2) rfl rfl)

/-- The padded array: the row two tokens before, zero before the first. -/
theorem padded_value (y : S1x16386x5632.Idx) : val_main_v42 (F := Ideal) x0 x1 x2 x3 x4 x5 x6 x7 x10 x11 y = back (argsOf x0 x1 x2 x3 x4 x5 x6 x7 x8 x9 x10 x11 x12 x13 x14).upRow (y 1).val 2 (y 2) := by
  have hy : (y 1).val < 16386 := (y 1).isLt
  have hz : (y 0).val < 1 := (y 0).isLt
  unfold val_main_v42
  by_cases h : 2 ≤ (y 1).val
  · refine (pad_apply_of_inside _ _ _ _ _ _ _ y (ix3 0 ⟨(y 1).val - 2, by omega⟩ (y 2)) (fun a => ?_)).trans
      ((up_value x0 x1 x2 x3 x4 x5 x6 x7 x8 x9 x10 x11 x12 x13 x14 _).trans (back_eq _ _ _ _ ⟨(y 1).val - 2, by omega⟩ (by show (y 1).val - 2 + 2 = _; omega)).symm)
    match a with
    | ⟨0, _⟩ => show (y 0).val = 0 + 0 * (0 + 1); omega
    | ⟨1, _⟩ => show (y 1).val = 2 + ((y 1).val - 2) * (0 + 1); omega
    | ⟨2, _⟩ => show (y 2).val = 0 + (y 2).val * (0 + 1); omega
  · refine (pad_apply_of_not_inside _ _ _ _ _ _ _ y 1 (fun hh => h hh.1)).trans (Eq.trans ?_ (back_none _ _ _ _ (by omega)).symm)
    show (((0#32 : BitVec 32).toInt : ℝ) : EReal) = 0
    norm_num

theorem back_step (u : Fin 16384 → Fin 5632 → EReal) (T d e : ℕ) (c : Fin 5632) : back u (e + T) (e + d) c = back u T d c := by
  unfold back
  by_cases h : d ≤ T ∧ T - d < 16384
  · rw [dif_pos h, dif_pos ⟨by omega, by omega⟩]
    exact congrArg (fun i => u i c) (Fin.ext (by show e + T - (e + d) = T - d; omega))
  · rw [dif_neg h, dif_neg (by omega)]

theorem tap0 (i : S1x16384x5632.Idx) : val_main_v47 (F := Ideal) x12 i = x12 (ix2 0 (i 2)) := by
  rw [val_main_v47_apply, val_main_v46_apply, val_main_v45_apply, val_main_v44_apply]
  exact at_pair x12 _ 0 (i 2) rfl (Nat.mod_eq_of_lt (i 2).isLt)
theorem tap1 (i : S1x16384x5632.Idx) : val_main_v55 (F := Ideal) x12 i = x12 (ix2 1 (i 2)) := by
  rw [val_main_v55_apply, val_main_v54_apply, val_main_v53_apply, val_main_v52_apply]
  exact at_pair x12 _ 1 (i 2) rfl (Nat.mod_eq_of_lt (i 2).isLt)
theorem tap2 (i : S1x16384x5632.Idx) : val_main_v62 (F := Ideal) x12 i = x12 (ix2 2 (i 2)) := by
  rw [val_main_v62_apply, val_main_v61_apply, val_main_v60_apply, val_main_v59_apply]
  exact at_pair x12 _ 2 (i 2) rfl (Nat.mod_eq_of_lt (i 2).isLt)

theorem conv_sum (z w0 w1 w2 b p0 p1 p2 : EReal) (hz : z = 0) : z + p0 * w0 + p1 * w1 + p2 * w2 + b = b + w2 * p2 + w1 * p1 + w0 * p0 := by
  rw [hz, zero_add, mul_comm p0, mul_comm p1, mul_comm p2]
  simp only [add_comm, add_left_comm, add_assoc]

theorem conv_value (i : S1x16384x5632.Idx) : val_main_v67 (F := Ideal) x0 x1 x2 x3 x4 x5 x6 x7 x10 x11 x12 x13 i = (argsOf x0 x1 x2 x3 x4 x5 x6 x7 x8 x9 x10 x11 x12 x13 x14).convRow (i 1) (i 2) := by
  have h0 : val_main_v43 (F := Ideal) x0 x1 x2 x3 x4 x5 x6 x7 x10 x11 i = back (argsOf x0 x1 x2 x3 x4 x5 x6 x7 x8 x9 x10 x11 x12 x13 x14).upRow (i 1).val 2 (i 2) := by
    rw [val_main_v43_apply]
    exact padded_value x0 x1 x2 x3 x4 x5 x6 x7 x8 x9 x10 x11 x12 x13 x14 _
  have h1 : val_main_v51 (F := Ideal) x0 x1 x2 x3 x4 x5 x6 x7 x10 x11 i = back (argsOf x0 x1 x2 x3 x4 x5 x6 x7 x8 x9 x10 x11 x12 x13 x14).upRow (i 1).val 1 (i 2) := by
    rw [val_main_v51_apply]
    exact (padded_value x0 x1 x2 x3 x4 x5 x6 x7 x8 x9 x10 x11 x12 x13 x14 _).trans (back_step _ (i 1).val 1 1 (i 2))
  have h2 : val_main_v58 (F := Ideal) x0 x1 x2 x3 x4 x5 x6 x7 x10 x11 i = (argsOf x0 x1 x2 x3 x4 x5 x6 x7 x8 x9 x10 x11 x12 x13 x14).upRow (i 1) (i 2) := by
    rw [val_main_v58_apply]
    exact (padded_value x0 x1 x2 x3 x4 x5 x6 x7 x8 x9 x10 x11 x12 x13 x14 _).trans
      ((back_step _ (i 1).val 0 2 (i 2)).trans (back_eq _ _ _ _ (i 1) rfl))
  have hb : val_main_v66 (F := Ideal) x13 i = x13 (ix2 0 (i 2)) := by
    have hi : (i 2).val < 5632 := (i 2).isLt
    rw [val_main_v66_apply, val_main_v65_apply]
    exact at_pair x13 _ 0 (i 2) rfl rfl
  rw [val_main_v67_apply, val_main_v64_apply, val_main_v57_apply, val_main_v50_apply, val_main_v49_apply, val_main_cst_6_apply, val_main_v48_apply, val_main_v56_apply, val_main_v63_apply, h0, h1, h2, hb, tap0, tap1, tap2]
  exact conv_sum _ _ _ _ _ _ _ _ zero_word

theorem act_value (H : (argsOf x0 x1 x2 x3 x4 x5 x6 x7 x8 x9 x10 x11 x12 x13 x14).Real) (i : S1x16384x2816.Idx) : val_main_v83 (F := Ideal) x0 x1 x2 x3 x4 x5 x6 x7 x10 x11 x12 x13 i = (argsOf x0 x1 x2 x3 x4 x5 x6 x7 x8 x9 x10 x11 x12 x13 x14).act (i 1) (i 2) := by
  have hg : val_main_v68 (F := Ideal) x0 x1 x2 x3 x4 x5 x6 x7 x10 x11 x12 x13 i = (argsOf x0 x1 x2 x3 x4 x5 x6 x7 x8 x9 x10 x11 x12 x13 x14).convRow (i 1) ⟨(i 2).val, lt_trans (i 2).isLt (by decide : 2816 < 5632)⟩ := by
    rw [val_main_v68_apply]
    exact conv_value x0 x1 x2 x3 x4 x5 x6 x7 x8 x9 x10 x11 x12 x13 x14 _
  have hv : val_main_v69 (F := Ideal) x0 x1 x2 x3 x4 x5 x6 x7 x10 x11 x12 x13 i = (argsOf x0 x1 x2 x3 x4 x5 x6 x7 x8 x9 x10 x11 x12 x13 x14).convRow (i 1) ⟨2816 + (i 2).val, Nat.add_lt_add_left (i 2).isLt 2816⟩ := by
    rw [val_main_v69_apply]
    exact conv_value x0 x1 x2 x3 x4 x5 x6 x7 x8 x9 x10 x11 x12 x13 x14 _
  rw [val_main_v83_apply, val_main_v82_apply, val_main_v81_apply, val_main_v80_apply, val_main_cst_10_apply, val_main_v79_apply, val_main_v78_apply, val_main_cst_9_apply, val_main_v77_apply, val_main_v76_apply, val_main_v75_apply, val_main_cst_8_apply, val_main_v74_apply, val_main_v73_apply, val_main_v72_apply, val_main_cst_7_apply, val_main_v71_apply, val_main_v70_apply, hg, hv]
  exact gate_real _ _ (H.convRow_real _ _) (H.convRow_real _ _)

theorem down_value (H : (argsOf x0 x1 x2 x3 x4 x5 x6 x7 x8 x9 x10 x11 x12 x13 x14).Real) (i : S1x16384x1024.Idx) : val_main_v84 (F := Ideal) x0 x1 x2 x3 x4 x5 x6 x7 x10 x11 x12 x13 x14 i = (argsOf x0 x1 x2 x3 x4 x5 x6 x7 x8 x9 x10 x11 x12 x13 x14).downRow (i 1) (i 2) := by
  rw [val_main_v84_apply]
  exact Finset.sum_congr rfl fun k _ => congrArg₂ (· * ·) (act_value x0 x1 x2 x3 x4 x5 x6 x7 x8 x9 x10 x11 x12 x13 x14 H _) (at_pair x14 _ k (i 2) rfl rfl)

theorem down_scale (H : (argsOf x0 x1 x2 x3 x4 x5 x6 x7 x8 x9 x10 x11 x12 x13 x14).Real) (i : S1x16384x1024.Idx) : val_main_v93 (F := Ideal) x0 x1 x2 x3 x4 x5 x6 x7 x10 x11 x12 x13 x14 i = rowScale ((argsOf x0 x1 x2 x3 x4 x5 x6 x7 x8 x9 x10 x11 x12 x13 x14).downRow (i 1)) := by
  rw [val_main_v93_apply, val_main_v92_apply, val_main_v91_apply, val_main_v89_apply, val_main_v87_apply, val_main_v86_apply, val_main_v88_apply, val_main_v90_apply, val_main_cst_11_apply, val_main_cst_12_apply, val_main_cst_13_apply]
  refine scale_of ((argsOf x0 x1 x2 x3 x4 x5 x6 x7 x8 x9 x10 x11 x12 x13 x14).downRow (i 1)) _ fun k => ?_
  rw [val_main_v85_apply]
  exact congrArg₂ (· * ·) (down_value x0 x1 x2 x3 x4 x5 x6 x7 x8 x9 x10 x11 x12 x13 x14 H _) (down_value x0 x1 x2 x3 x4 x5 x6 x7 x8 x9 x10 x11 x12 x13 x14 H _)

/-- **The reference's result.** -/
theorem reference_value (H : (argsOf x0 x1 x2 x3 x4 x5 x6 x7 x8 x9 x10 x11 x12 x13 x14).Real) (i : S1x16384x1024.Idx) : val_main_v101 (F := Ideal) x0 x1 x2 x3 x4 x5 x6 x7 x8 x9 x10 x11 x12 x13 x14 i = (argsOf x0 x1 x2 x3 x4 x5 x6 x7 x8 x9 x10 x11 x12 x13 x14).out (i 1) (i 2) := by
  rw [val_main_v101_apply, val_main_v100_apply, val_main_v99_apply, val_main_v98_apply, val_main_v97_apply, val_main_v96_apply, val_main_v95_apply, val_main_v94_apply, first_value x0 x1 x2 x3 x4 x5 x6 x7 x8 x9 x10 x11 x12 x13 x14,
    down_value x0 x1 x2 x3 x4 x5 x6 x7 x8 x9 x10 x11 x12 x13 x14 H, down_scale x0 x1 x2 x3 x4 x5 x6 x7 x8 x9 x10 x11 x12 x13 x14 H,
    row_read x8 _ (i 2) rfl, row_read x9 _ (i 2) rfl]
  exact congrArg ((argsOf x0 x1 x2 x3 x4 x5 x6 x7 x8 x9 x10 x11 x12 x13 x14).first (i 1) (i 2) + ·) (mul_left_comm (G := EReal) _ _ _)

end

end Cert.Reference2Ideal.Ffn

end
-- ==== Proof.Ffn.Finite.lean ====
module

public import proofs.«01_k».proof.Proof.Ffn.Arrays
public import proofs.«01_k».proof.Proof.Ffn.Reals
public import proofs.«01_k».proof.Proof.Att.Finite
public import proofs.«01_k».proof.Proof.Gen.Pre_inputs_finite

@[expose] public section

set_option maxRecDepth 65536

noncomputable section

namespace Cert.Pre_inputs_finite.Ffn

open Idealize.ShloMosaic Cert.Kernel2Ideal.Ffn
open Cert.Pre_scores_finite.Att (real_of_below)

/-! # The second precondition, read as reals

`inputs_finite` asks of the weight, scale and shift of the norm before the up projection, of the projection's weights and of the
convolution's taps and bias that the absolute value of every entry is below infinity. -/

instance : Subsingleton (Cert.Pre_inputs_finite.S_).Idx := ⟨fun a b => funext fun k => k.elim0⟩

/-- One conjunct of the predicate: every entry of the array is a real. -/
theorem entries_real {s : Shape} {axes : List (Fin s.rank)} (x : FVec Ideal s .f32) (hb : Cert.Pre_inputs_finite.S_.BroadcastsInDim s (![] : Fin 0 → Fin s.rank))
    (h : s.ReducesTo axes Cert.Pre_inputs_finite.S_) (hu : 0 < Cert.Pre_inputs_finite.S_.numel) (j : Cert.Pre_inputs_finite.S_.Idx)
    (e : Host.reduce IntOp.andi (cmpf .olt (Host.absf x) (broadcastInDim s ![] hb (constant Cert.Pre_inputs_finite.S_ .f32 0x7F800000#32)))
      (constantI Cert.Pre_inputs_finite.S_ 1 1#1) h hu j = 1#1) (i : s.Idx) : IsReal (x i) :=
  real_of_below (x i) (Host.reduce_andi_all _ _ h hu j e i)

/-- **What the precondition says**: the arrays between the normalized row and the gate hold reals. -/
theorem reals [hF : Cert.Pre_inputs_finite.Facts] (x0 : FVec Ideal S1x16384x1024 .f32) (x1 x2 : FVec Ideal S16384x512 .f32)
    (x3 x4 x5 x6 x7 x8 x9 : FVec Ideal S1x1024 .f32) (x10 : FVec Ideal S1024x1024 .f32) (x11 : FVec Ideal S1024x5632 .f32) (x12 : FVec Ideal S3x5632 .f32)
    (x13 : FVec Ideal S1x5632 .f32) (x14 : FVec Ideal S2816x1024 .f32)
    (h : Cert.Pre_inputs_finite.fn (F := Ideal) x0 x1 x2 x3 x4 x5 x6 x7 x8 x9 x10 x11 x12 x13 x14 = fun _ => 1#1) :
    (argsOf x0 x1 x2 x3 x4 x5 x6 x7 x8 x9 x10 x11 x12 x13 x14).Real := by
  have e := congrFun h (fun a => a.elim0)
  unfold Cert.Pre_inputs_finite.fn Cert.Pre_inputs_finite.fn_part1 at e
  obtain ⟨e, e13⟩ := IntOp.andi_eq_one.1 e
  obtain ⟨e, e12⟩ := IntOp.andi_eq_one.1 e
  obtain ⟨e, e11⟩ := IntOp.andi_eq_one.1 e
  obtain ⟨e, e7⟩ := IntOp.andi_eq_one.1 e
  obtain ⟨e5, e6⟩ := IntOp.andi_eq_one.1 e
  exact
    { preFfn := fun _ => entries_real x5 _ _ _ _ e5 _
      scale2 := fun _ => entries_real x6 _ _ _ _ e6 _
      shift2 := fun _ => entries_real x7 _ _ _ _ e7 _
      wUp := fun _ _ => entries_real x11 _ _ _ _ e11 _
      taps := fun _ _ => entries_real x12 _ _ _ _ e12 _
      bias := fun _ => entries_real x13 _ _ _ _ e13 _ }

end Cert.Pre_inputs_finite.Ffn

end
-- ==== Proof.Mod.Spec.lean ====
module

public import Idealize.ShloMosaic.PureOps.Ideal
public import Mathlib.Algebra.BigOperators.Fin

@[expose] public section

noncomputable section

namespace Cert.Modulation

open Idealize.ShloMosaic
open scoped BigOperators

/-- The SiLU function, `x / (1 + e⁻ˣ)`. -/
def silu (x : EReal) : EReal := x * Ideal.logistic x

/-- One entry of the modulation: the conditioning vector through SiLU, times one column of the weights, plus the bias. -/
def entry (cond weight : Fin 1024 → EReal) (bias : EReal) : EReal := (∑ k, silu (cond k) * weight k) + bias

end Cert.Modulation

end
-- ==== Proof.Mod.KernelValue.lean ====
module

public import proofs.«01_k».proof.Proof.Mod.Spec
public import proofs.«01_k».proof.Proof.Gen.Kernel3Ideal.Value
public import Idealize.ShloMosaic.Lib.ValueIdx
public import Idealize.ShloMosaic.Lib.Pipeline.ValueKit.Basic
public import Idealize.ShloMosaic.PureOps.Ideal.Laws

@[expose] public section

set_option maxRecDepth 65536

noncomputable section

namespace Cert.Kernel3Ideal.Mod

open Cert.Kernel3Ideal Cert.Kernel3Ideal.Gen Cert.Kernel3Ideal.Value Idealize.ShloMosaic Idealize.ShloMosaic.TcCoe Idealize.SL.Sem
open Idealize.ShloMosaic.ValueIdx Cert.Modulation
open scoped BigOperators

/-! # The modulation's result array -/

/-- One product of the point's sum. -/
theorem term_value (x : FVec Ideal S1024x1 .f32) (w : FVec Ideal S1x1024x1024 .f32) (k j : Fin 1024) (q : S1024x1024.Idx) (hq : q = ix2 k j) :
    mulf (F := Ideal) (broadcastTo S1024x1024 (mulf (shapeCast S1024x1 x shapeCasts_S1024x1_S1024x1) (logistic (shapeCast S1024x1 x shapeCasts_S1024x1_S1024x1))) broadcasts_S1024x1_S1024x1024)
      (shapeCast S1024x1024 w shapeCasts_S1x1024x1024_S1024x1024) q = silu (x (ix2 k 0)) * w (ix3 0 k j) := by
  subst hq
  refine congrArg₂ (fun u v : EReal => u * v) ?_ ?_
  · refine (broadcastTo_apply _ _ _ (ix2 k 0) fun a => ?_).trans ?_
    · match a with
      | ⟨0, _⟩ => rfl
      | ⟨1, _⟩ => rfl
    · have ex : shapeCast S1024x1 x shapeCasts_S1024x1_S1024x1 (ix2 k 0) = x (ix2 k 0) := shapeCast_apply _ _ _ _ rfl
      exact congrArg silu ex
  · refine shapeCast_apply _ _ _ _ ?_
    rw [Shape.rowMajor_val_three, Shape.rowMajor_val_two]
    show (0 * 1024 + k.val) * 1024 + j.val = k.val * 1024 + j.val
    omega

/-- What a point computes from its three blocks: the column of the conditioning vector, a block of columns of the weights and
    the same block of the bias. -/
theorem point_value (x : FVec Ideal S1024x1 .f32) (w : FVec Ideal S1x1024x1024 .f32) (b : FVec Ideal S1x1024 .f32) (j : Fin 1024) :
    E3 (F := Ideal) x w b (ix2 0 j) = entry (fun k => x (ix2 k 0)) (fun k => w (ix3 0 k j)) (b (ix2 0 j)) := by
  refine congrArg₂ (fun u v : EReal => u + v) ?_ (congrArg b (funext fun a => by
    match a with
    | ⟨0, _⟩ => rfl
    | ⟨1, _⟩ => rfl))
  refine (Ideal.multiReduction_add_single _ _ _ _ _ _).trans (Finset.sum_congr rfl fun k _ => term_value x w k j _ (funext fun a => Fin.ext ?_))
  match a with
  | ⟨0, _⟩ => rfl
  | ⟨1, _⟩ => rfl

/-- The three loads read their blocks whole. -/
theorem out_eq (x : Vec Ideal S1024x1 .f32) (w : Vec Ideal S1x1024x1024 .f32) (b : Vec Ideal S1x1024 .f32) (y : S1x1024.Idx) :
    out0_3 x w b y = E3 x w b y := by
  unfold out0_3
  have l0 : View.ld x r0_0 = x := View.ld_unit_lit _ _ (by decide)
  have l1 : View.ld w r0_1 = w := View.ld_unit_lit _ _ (by decide)
  have l2 : View.ld b r0_2 = b := View.ld_unit_lit _ _ (by decide)
  rw [canon3_eq, l0, l1, l2]

section
variable (m : (ℓ : Loc nD τ sig) → Buf (Elt Ideal) ℓ) (c : Dev nD)

/-- The result array, from the arrays a device's run reads. -/
def result : S1x2048.Idx → EReal := fun i =>
  entry (fun k => (m ((c : Thread nD τ).loc main_arg0) : S1x1024.Idx → EReal) (ix2 0 k))
    (fun k => (m ((c : Thread nD τ).loc main_arg1) : S1x1024x6144.Idx → EReal) (ix3 0 k ⟨(i 1).val, lt_trans (i 1).isLt (by decide : 2048 < 6144)⟩))
    ((m ((c : Thread nD τ).loc main_arg2) : S1x6144.Idx → EReal) (ix2 0 ⟨(i 1).val, lt_trans (i 1).isLt (by decide : 2048 < 6144)⟩))

/-- The column before the call is the conditioning vector. -/
theorem V_column : (V m c main_v0 : S1024x1.Idx → EReal) = shapeCast S1024x1 (V m c main_arg0 : S1x1024.Idx → EReal) shapeCasts_S1x1024_S1024x1 := (rfl)

theorem pos1 : ∀ t : Fin grid0.N, cc0_transform_1 (grid0.coords t) 2 = t.val := by decide +kernel
theorem pos2 : ∀ t : Fin grid0.N, cc0_transform_2 (grid0.coords t) 1 = t.val := by decide +kernel
theorem pos3 : ∀ t : Fin grid0.N, cc0_transform_3 (grid0.coords t) 1 = t.val := by decide +kernel

/-! ## The blocks a point reads: the whole column, and its half of the columns -/

theorem block0 (t : Fin cfg0.N) (k : Fin 1024) :
    iblk m c 0 t (ix2 k 0) = (m ((c : Thread nD τ).loc main_arg0) : S1x1024.Idx → EReal) (ix2 0 k) := by
  have e : iblk m c 0 t (ix2 k 0) = (V m c main_v0 : S1024x1.Idx → EReal) (ix2 k 0) := by
    show V m c main_v0 (((cfg0.win 0).blk t).view.emb (ix2 k 0)) = _
    refine congrArg _ (funext fun a => Fin.ext ?_)
    match a with
    | ⟨0, _⟩ => show 0 * 1024 + 1 * k.val = k.val; omega
    | ⟨1, _⟩ => rfl
  rw [e, V_column, V_main_arg0]
  refine shapeCast_apply (s := S1x1024) _ _ _ _ ?_
  rw [Shape.rowMajor_val_two, Shape.rowMajor_val_two]
  show 0 * 1024 + k.val = k.val * 1 + 0
  omega

theorem block1 (t : Fin cfg0.N) (k j : Fin 1024) (n : Fin 6144) (hn : n.val = 1024 * t.val + j.val) :
    iblk m c 1 t (ix3 0 k j) = (m ((c : Thread nD τ).loc main_arg1) : S1x1024x6144.Idx → EReal) (ix3 0 k n) := by
  rw [← V_main_arg1 m c]
  show V m c main_arg1 (((cfg0.win 1).blk t).view.emb (ix3 0 k j)) = _
  refine congrArg _ (funext fun a => Fin.ext ?_)
  match a with
  | ⟨0, _⟩ => rfl
  | ⟨1, _⟩ => show 0 * 1024 + 1 * k.val = k.val; omega
  | ⟨2, _⟩ => show cc0_transform_1 (grid0.coords t) 2 * 1024 + 1 * j.val = n.val; rw [pos1 t]; omega

theorem block2 (t : Fin cfg0.N) (j : Fin 1024) (n : Fin 6144) (hn : n.val = 1024 * t.val + j.val) :
    iblk m c 2 t (ix2 0 j) = (m ((c : Thread nD τ).loc main_arg2) : S1x6144.Idx → EReal) (ix2 0 n) := by
  rw [← V_main_arg2 m c]
  show V m c main_arg2 (((cfg0.win 2).blk t).view.emb (ix2 0 j)) = _
  refine congrArg _ (funext fun a => Fin.ext ?_)
  match a with
  | ⟨0, _⟩ => rfl
  | ⟨1, _⟩ => show cc0_transform_2 (grid0.coords t) 1 * 1024 + 1 * j.val = n.val; rw [pos2 t]; omega

/-- A point writes back its half of the result. -/
theorem flushed_eq (t : Fin cfg0.N) : (dats m 0 c).flushed 3 t = ((cfg0.win 3).blk t).view.read (Elt Ideal) (result m c) := by
  rw [flushed3]
  funext y
  have hy0 : (y 0).val < 1 := (y 0).isLt
  have hy1 : (y 1).val < 1024 := (y 1).isLt
  have hx : (cfg0.win 3).xinj (grid0.coords t) y = ix2 0 ⟨(y 1).val, hy1⟩ := funext fun a => Fin.ext (by
    match a with
    | ⟨0, _⟩ => show (y 0).val = 0; omega
    | ⟨1, _⟩ => rfl)
  have hi : (((cfg0.win 3).blk t).view.emb y 1).val = 1024 * t.val + (y 1).val := by
    show cc0_transform_3 (grid0.coords t) 1 * 1024 + 1 * (y 1).val = _
    rw [pos3 t]; omega
  show out0_3 (iblk m c 0 t) (iblk m c 1 t) (iblk m c 2 t) ((cfg0.win 3).xinj (grid0.coords t) y) = result m c (((cfg0.win 3).blk t).view.emb y)
  rw [hx, out_eq, point_value]
  have hn : (((cfg0.win 3).blk t).view.emb y 1).val < 6144 := lt_trans (((cfg0.win 3).blk t).view.emb y 1).isLt (by decide : 2048 < 6144)
  refine congr (congrArg₂ entry (funext fun k => block0 m c t k) (funext fun k => block1 m c t k ⟨(y 1).val, hy1⟩ ⟨_, hn⟩ hi))
    (block2 m c t ⟨(y 1).val, hy1⟩ ⟨_, hn⟩ hi)

/-- The two halves tile the result. -/
theorem tiled (i : S1x2048.Idx) : ∃ t : Fin cfg0.N, (cfg0.win 3).flush t = true ∧ i ∈ ((cfg0.win 3).blk t).view.set := by
  have hi0 : (i 0).val < 1 := (i 0).isLt
  have hi1 : (i 1).val < 2048 := (i 1).isLt
  have hN : grid0.N = 2 := by decide +kernel
  have hf : ∀ t : Fin grid0.N, win0_3.flush t = true := by decide +kernel
  let t : Fin cfg0.N := ⟨(i 1).val / 1024, lt_of_lt_of_eq (by omega) hN.symm⟩
  refine ⟨t, hf t, ?_⟩
  show i ∈ ((View.whole main_v1).slice (win0_3.rect t)).set
  rw [View.set_slice_whole, Rect.mem_set_unit]
  intro a
  match a with
  | ⟨0, _⟩ => show 0 * 1 ≤ (i 0).val ∧ (i 0).val < 0 * 1 + 1; omega
  | ⟨1, _⟩ =>
    show cc0_transform_3 (grid0.coords t) 1 * 1024 ≤ (i 1).val ∧ (i 1).val < cc0_transform_3 (grid0.coords t) 1 * 1024 + 1024
    rw [pos3 t]
    show (i 1).val / 1024 * 1024 ≤ (i 1).val ∧ (i 1).val < (i 1).val / 1024 * 1024 + 1024
    omega

theorem final : (dats m 0 c).arrAt 3 cfg0.N = result m c :=
  (dats m 0 c).arrAt_eq_of_cover 3 _ (fun t _ => flushed_eq m c t) tiled

end

/-- The kernel runs, leaves the result and keeps its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.Kernel3Ideal.Mod

end
-- ==== Proof.Mod.RefValue.lean ====
module

public import proofs.«01_k».proof.Proof.Mod.Spec
public import proofs.«01_k».proof.Proof.Gen.Reference3Ideal.Read
public import Idealize.ShloMosaic.Lib.IdealHost

@[expose] public section

noncomputable section

namespace Cert.Reference3Ideal.Mod

open Cert.Reference3Ideal Cert.Reference3Ideal.Gen Cert.Reference3Ideal.Read Idealize.ShloMosaic Idealize.ShloMosaic.ValueIdx Cert.Modulation
open scoped BigOperators

/-! # The reference's modulation -/

theorem silu_value (x : (⟨S1x1024, .f32⟩ : BufTy).Contents (Elt Ideal)) (i : S1x1024.Idx) :
    val_main_v0 (F := Ideal) x i = silu (x i) := by
  rw [val_main_v0_apply, val_main_call0_v5_apply, val_main_call0_v4_apply, val_main_call0_cst_0_apply, val_main_call0_v3_apply,
    val_main_call0_v2_apply, val_main_call0_cst_apply, val_main_call0_v1_apply, val_main_call0_v0_apply]
  show x i * Ideal.div (Ideal.ofBits .f32 0x3F800000#32) (Ideal.ofBits .f32 0x3F800000#32 + Ideal.exp (-x i)) = _
  rw [Ideal.ofBits_one_f32]
  rfl

theorem reference_value (x : (⟨S1x1024, .f32⟩ : BufTy).Contents (Elt Ideal)) (w : (⟨S1x1024x6144, .f32⟩ : BufTy).Contents (Elt Ideal))
    (b : (⟨S1x6144, .f32⟩ : BufTy).Contents (Elt Ideal)) (i : S1x2048.Idx) (n : Fin 6144) (hn : n.val = (i 1).val) :
    val_main_v6 (F := Ideal) x w b i = entry (fun k => x (ix2 0 k)) (fun k => w (ix3 0 k n)) (b (ix2 0 n)) := by
  have h0 : (i 0).val < 1 := (i 0).isLt
  have h1 : (i 1).val < 2048 := (i 1).isLt
  rw [val_main_v6_apply, val_main_v5_apply, val_main_v2_apply, val_main_v4_apply, val_main_v3_apply]
  refine congrArg₂ (fun u v : EReal => u + v) (Finset.sum_congr rfl fun k _ => ?_) (congrArg b (funext fun a => Fin.ext ?_))
  · rw [silu_value, val_main_v1_apply]
    refine congrArg₂ (fun u v : EReal => silu u * v) (congrArg x (funext fun a => Fin.ext ?_)) (congrArg w (funext fun a => Fin.ext ?_))
    · match a with
      | ⟨0, _⟩ => show (i 0).val = 0; omega
      | ⟨1, _⟩ => rfl
    · have hk : k.val < 1024 := k.isLt
      match a with
      | ⟨0, _⟩ => rfl
      | ⟨1, _⟩ => show (k.val * 6144 + (i 1).val) / 6144 % 1024 = k.val; omega
      | ⟨2, _⟩ => show (k.val * 6144 + (i 1).val) % 6144 = n.val; omega
  · match a with
    | ⟨0, _⟩ => rfl
    | ⟨1, _⟩ => show (i 1).val % 6144 = n.val; omega

end Cert.Reference3Ideal.Mod

end
-- ==== Proof.lean ====
/- The certificate, of three of the layer's calls: the attention from its queries, keys, values, sink logits and relative bias
   table; the layer's last call, from the attention's and the state space model's outputs to the layer's result; and the
   modulation, from the conditioning vector to the first norm's shift and scale.
   Frames: the programs' runs, and the references'. `preserves`: the named constants. `algebraic`: the kernel's result is a
   plain function of the arrays (`result` in Proof/Att/Spec.lean, `Args.out` in Proof/Ffn/Spec.lean, `entry` in Proof/Mod/Spec.lean), and so
   is the reference's, by `reference_value`. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Pre_inputs_finite
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Att.KernelValue
public import proofs.«01_k».proof.Proof.Att.RefResult
public import proofs.«01_k».proof.Proof.Att.Finite
public import proofs.«01_k».proof.Proof.Ffn.KernelValue
public import proofs.«01_k».proof.Proof.Ffn.RefValue
public import proofs.«01_k».proof.Proof.Ffn.Finite
public import proofs.«01_k».proof.Proof.Mod.KernelValue
public import proofs.«01_k».proof.Proof.Mod.RefValue
public import Idealize.ShloMosaic.Adequacy
public import Idealize.ShloMosaic.Init

@[expose] public section

set_option maxRecDepth 65536

noncomputable section

namespace Cert.Proof

open Idealize.ShloMosaic Idealize.SL.Sem Idealize.ShloMosaic.ValueIdx

/-- `KernelIdeal` runs, keeps its arguments and ends quiescent, from any memory. -/
theorem frame_KernelIdeal : Cert.quiescent_KernelIdeal (hKernelIdeal := Cert.KernelIdeal.Gen.facts) :=
  fun m g _ => Cert.KernelIdeal.Gen.frame m g

/-- `ReferenceIdeal` runs, keeps its arguments and ends quiescent, from any memory. -/
theorem frame_ReferenceIdeal : Cert.quiescent_ReferenceIdeal (hReferenceIdeal := Cert.ReferenceIdeal.Gen.facts) :=
  fun m g _ => (θ_run Cert.ReferenceIdeal.defs _ _).mono (fun r h => ⟨fun c => (h c).2, sem_eq_zero_of_no_sems (by decide) r.2⟩)
    (Cert.ReferenceIdeal.Value.run (F := Ideal) m g)

/-- The two named constants are the rule's at their words. -/
theorem constants : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl⟩

section
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- **The two results are one array** where the precondition holds and the arguments are the same. -/
theorem results_eq (h : Cert.Pre_KernelIdeal_scores_finite (hPre_scores_finite := Cert.Pre_scores_finite.Att.facts) m) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v97 m' c = Cert.KernelIdeal.Value.G6 m c := by
  rw [Cert.ReferenceIdeal.Read.val_main_v97_eq, e0, e1, e2, e3, e4]
  obtain ⟨r0, r1, r2, r3⟩ := Cert.Pre_scores_finite.Att.reals (hF := Cert.Pre_scores_finite.Att.facts) _ _ _ _ _ (h c)
  choose s0 hs0 using r0
  choose s1 hs1 using r1
  choose s2 hs2 using r2
  choose s3 hs3 using r3
  have H : Cert.KernelIdeal.Att.Reads m c (fun h => s0 (ix2 0 h)) (fun b h => s1 (ix2 b h)) (fun i j => s2 (ix2 i j)) (fun i j => s3 (ix2 i j)) :=
    ⟨fun h => hs0 _, fun b h => hs1 _, fun i j => hs2 _, fun i j => hs3 _⟩
  refine funext fun i => ?_
  have b0 : (i 0).val < 16384 := (i 0).isLt
  have b1 : (i 1).val < 512 := (i 1).isLt
  have hk := Cert.KernelIdeal.Att.kernel_value H ⟨(i 0).val / 128, by omega⟩ ⟨4 * ((i 1).val / 256) + (i 1).val / 64 % 4, by omega⟩
    ⟨(i 0).val % 128, by omega⟩ ⟨(i 1).val % 64, by omega⟩ i (by show _ = 128 * ((i 0).val / 128) + (i 0).val % 128; omega)
    (by show _ = 64 * (4 * ((i 1).val / 256) + (i 1).val / 64 % 4) + (i 1).val % 64; omega)
  have hr := Cert.ReferenceIdeal.Att.reference_value (fun h => hs0 (ix2 0 h)) (fun b h => hs1 (ix2 b h)) (fun i j => hs2 (ix2 i j)) (fun i j => hs3 (ix2 i j))
    ⟨(i 0).val / 128, by omega⟩ ⟨(i 1).val / 256, by omega⟩ ⟨(i 1).val / 64 % 4, by omega⟩ ⟨(i 0).val % 128, by omega⟩
    (m ((c.tc : Thread Cert.KernelIdeal.nD Cert.KernelIdeal.τ).loc Cert.KernelIdeal.main_arg4))
    ⟨(i 1).val % 64, by omega⟩ i (by show _ = 128 * ((i 0).val / 128) + (i 0).val % 128; omega)
    (by show _ = 64 * (4 * ((i 1).val / 256) + (i 1).val / 64 % 4) + (i 1).val % 64; omega)
  exact hr.trans hk.symm

end

/-- **The kernel's attention is the reference's**, over the extended reals. -/
theorem attention : Cert.algebraic_KernelIdeal_ReferenceIdeal_pre_scores_finite (hKernelIdeal := Cert.KernelIdeal.Gen.facts)
    (hReferenceIdeal := Cert.ReferenceIdeal.Gen.facts) (hPre_scores_finite := Cert.Pre_scores_finite.Att.facts) :=
  fun m g m' g' h e => ⟨Cert.KernelIdeal.Value.G6 m, Cert.KernelIdeal.Value.run m g,
    (θ_run Cert.ReferenceIdeal.defs _ _).mono (fun r hr c => ⟨(hr c).1.trans
      (results_eq m m' h c (e c).1 (e c).2.1 (e c).2.2.1 (e c).2.2.2.1 (e c).2.2.2.2), (hr c).2⟩) (Cert.ReferenceIdeal.Value.run m' g')⟩

/-! ## The layer's last call -/

/-- `Kernel2Ideal` runs, keeps its arguments and ends quiescent, from any memory. -/
theorem frame_Kernel2Ideal : Cert.quiescent_Kernel2Ideal (hKernel2Ideal := Cert.Kernel2Ideal.Gen.facts) :=
  fun m g _ => Cert.Kernel2Ideal.Gen.frame m g

/-- `Reference2Ideal` runs, keeps its arguments and ends quiescent, from any memory. -/
theorem frame_Reference2Ideal : Cert.quiescent_Reference2Ideal (hReference2Ideal := Cert.Reference2Ideal.Gen.facts) :=
  fun m g _ => (θ_run Cert.Reference2Ideal.defs _ _).mono (fun r h => ⟨fun c => (h c).2, sem_eq_zero_of_no_sems (by decide) r.2⟩)
    (Cert.Reference2Ideal.Value.run (F := Ideal) m g)

/-- The named constant is the rule's at its word. -/
theorem constants2 : Cert.preserves_Kernel2_Kernel2Ideal :=
  IdealRules.named_const.statement Cert.Kernel2Ideal.κ "cubic" .f32 0x3D122279#32 ((80338380498831 / 2251799813685248 : ℝ) : EReal) rfl

section
variable (m : (ℓ : Loc Cert.Kernel2Ideal.nD Cert.Kernel2Ideal.τ Cert.Kernel2Ideal.sig) → Buf (Elt Ideal) ℓ)
variable (m' : (ℓ : Loc Cert.Reference2Ideal.nD Cert.Reference2Ideal.τ Cert.Reference2Ideal.sig) → Buf (Elt Ideal) ℓ)

/-- **The two results are one array** where the precondition holds and the arguments are the same. -/
theorem results2_eq (h : Cert.Pre_Kernel2Ideal_inputs_finite (hPre_inputs_finite := Cert.Pre_inputs_finite.Gen.facts) m) (c : Dev Cert.Kernel2Ideal.nD)
    (e0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (e1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (e2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (e3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (e4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (e5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
    (e6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6))
    (e7 : m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7))
    (e8 : m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8))
    (e9 : m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9))
    (e10 : m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10))
    (e11 : m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11))
    (e12 : m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12))
    (e13 : m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13))
    (e14 : m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)) :
    Cert.Reference2Ideal.Read.val_main_v101 (F := Ideal) (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3))
      (m' ((c.tc : Thread Cert.Reference2Ideal.nD Cert.Reference2Ideal.τ).loc Cert.Reference2Ideal.main_arg4))
      (m' ((c.tc : Thread Cert.Reference2Ideal.nD Cert.Reference2Ideal.τ).loc Cert.Reference2Ideal.main_arg5))
      (m' ((c.tc : Thread Cert.Reference2Ideal.nD Cert.Reference2Ideal.τ).loc Cert.Reference2Ideal.main_arg6))
      (m' ((c.tc : Thread Cert.Reference2Ideal.nD Cert.Reference2Ideal.τ).loc Cert.Reference2Ideal.main_arg7))
      (m' ((c.tc : Thread Cert.Reference2Ideal.nD Cert.Reference2Ideal.τ).loc Cert.Reference2Ideal.main_arg8))
      (m' ((c.tc : Thread Cert.Reference2Ideal.nD Cert.Reference2Ideal.τ).loc Cert.Reference2Ideal.main_arg9))
      (m' ((c.tc : Thread Cert.Reference2Ideal.nD Cert.Reference2Ideal.τ).loc Cert.Reference2Ideal.main_arg10))
      (m' ((c.tc : Thread Cert.Reference2Ideal.nD Cert.Reference2Ideal.τ).loc Cert.Reference2Ideal.main_arg11))
      (m' ((c.tc : Thread Cert.Reference2Ideal.nD Cert.Reference2Ideal.τ).loc Cert.Reference2Ideal.main_arg12))
      (m' ((c.tc : Thread Cert.Reference2Ideal.nD Cert.Reference2Ideal.τ).loc Cert.Reference2Ideal.main_arg13))
      (m' ((c.tc : Thread Cert.Reference2Ideal.nD Cert.Reference2Ideal.τ).loc Cert.Reference2Ideal.main_arg14))
      = Cert.Kernel2Ideal.Value.G15 m c := by
  rw [e0, e1, e2, e3, e4, e5, e6, e7, e8, e9, e10, e11, e12, e13, e14]
  refine funext fun i => ?_
  have hi : i = ix3 0 (i 1) (i 2) := funext fun a => Fin.ext (by
    have h0 : (i 0).val < 1 := (i 0).isLt
    match a with
    | ⟨0, _⟩ => show (i 0).val = 0; omega
    | ⟨1, _⟩ => rfl
    | ⟨2, _⟩ => rfl)
  refine (Cert.Reference2Ideal.Ffn.reference_value _ _ _ _ _ _ _ _ _ _ _ _ _ _ _
    (Cert.Pre_inputs_finite.Ffn.reals (hF := Cert.Pre_inputs_finite.Gen.facts) _ _ _ _ _ _ _ _ _ _ _ _ _ _ _ (h c)) i).trans ?_
  exact ((congrArg _ hi).trans (Cert.Kernel2Ideal.Ffn.kernel_value m c (i 1) (i 2))).symm

end

/-- **The kernel's last call is the reference's**, over the extended reals. -/
theorem feedForward : Cert.algebraic_Kernel2Ideal_Reference2Ideal_pre_inputs_finite (hKernel2Ideal := Cert.Kernel2Ideal.Gen.facts)
    (hReference2Ideal := Cert.Reference2Ideal.Gen.facts) (hPre_inputs_finite := Cert.Pre_inputs_finite.Gen.facts) :=
  fun m g m' g' h e => ⟨Cert.Kernel2Ideal.Value.G15 m, Cert.Kernel2Ideal.Value.run m g,
    (θ_run Cert.Reference2Ideal.defs _ _).mono (fun r hr c => ⟨((hr c).1.trans (Cert.Reference2Ideal.Read.val_main_v101_eq _)).trans
      (results2_eq m m' h c (e c).1 (e c).2.1 (e c).2.2.1 (e c).2.2.2.1 (e c).2.2.2.2.1 (e c).2.2.2.2.2.1 (e c).2.2.2.2.2.2.1 (e c).2.2.2.2.2.2.2.1 (e c).2.2.2.2.2.2.2.2.1 (e c).2.2.2.2.2.2.2.2.2.1 (e c).2.2.2.2.2.2.2.2.2.2.1 (e c).2.2.2.2.2.2.2.2.2.2.2.1 (e c).2.2.2.2.2.2.2.2.2.2.2.2.1 (e c).2.2.2.2.2.2.2.2.2.2.2.2.2.1 (e c).2.2.2.2.2.2.2.2.2.2.2.2.2.2), (hr c).2⟩)
      (Cert.Reference2Ideal.Value.run m' g')⟩

/-! ## The modulation -/

/-- `Kernel3Ideal` runs, keeps its arguments and ends quiescent, from any memory. -/
theorem frame_Kernel3Ideal : Cert.quiescent_Kernel3Ideal (hKernel3Ideal := Cert.Kernel3Ideal.Gen.facts) :=
  fun m g _ => Cert.Kernel3Ideal.Gen.frame m g

/-- `Reference3Ideal` runs, keeps its arguments and ends quiescent, from any memory. -/
theorem frame_Reference3Ideal : Cert.quiescent_Reference3Ideal (hReference3Ideal := Cert.Reference3Ideal.Gen.facts) :=
  fun m g _ => (θ_run Cert.Reference3Ideal.defs _ _).mono (fun r h => ⟨fun c => (h c).2, sem_eq_zero_of_no_sems (by decide) r.2⟩)
    (Cert.Reference3Ideal.Value.run (F := Ideal) m g)

section
variable (m : (ℓ : Loc Cert.Kernel3Ideal.nD Cert.Kernel3Ideal.τ Cert.Kernel3Ideal.sig) → Buf (Elt Ideal) ℓ)
variable (m' : (ℓ : Loc Cert.Reference3Ideal.nD Cert.Reference3Ideal.τ Cert.Reference3Ideal.sig) → Buf (Elt Ideal) ℓ)

/-- **The two results are one array** where the arguments are the same. -/
theorem results3_eq (c : Dev Cert.Kernel3Ideal.nD)
    (e0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (e1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (e2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) :
    Cert.Reference3Ideal.Read.val_main_v6 (F := Ideal) (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2))
      = Cert.Kernel3Ideal.Mod.result m c := by
  rw [e0, e1, e2]
  exact funext fun i => Cert.Reference3Ideal.Mod.reference_value _ _ _ i _ rfl

end

/-- **The kernel's modulation is the reference's**, over the extended reals, for every input. -/
theorem modulation : Cert.algebraic_Kernel3Ideal_Reference3Ideal (hKernel3Ideal := Cert.Kernel3Ideal.Gen.facts)
    (hReference3Ideal := Cert.Reference3Ideal.Gen.facts) :=
  fun m g m' g' _ e => ⟨Cert.Kernel3Ideal.Mod.result m, Cert.Kernel3Ideal.Mod.run m g,
    (θ_run Cert.Reference3Ideal.defs _ _).mono (fun r hr c => ⟨((hr c).1.trans (Cert.Reference3Ideal.Read.val_main_v6_eq _ _ _)).trans
      (results3_eq m m' c (e c).1 (e c).2.1 (e c).2.2), (hr c).2⟩)
      (Cert.Reference3Ideal.Value.run m' g')⟩

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Pre_scores_finite.Att.facts, Cert.Pre_inputs_finite.Gen.facts,
  fun m g _ => Cert.Kernel.Gen.frame m g, frame_KernelIdeal, fun m g _ => frame_KernelIdeal m g trivial,
  frame_ReferenceIdeal, fun m g _ => frame_ReferenceIdeal m g trivial,
  fun m g _ => Cert.Kernel2.Gen.frame m g, frame_Kernel2Ideal, fun m g _ => frame_Kernel2Ideal m g trivial,
  frame_Reference2Ideal, fun m g _ => frame_Reference2Ideal m g trivial,
  fun m g _ => Cert.Kernel3.Gen.frame m g, frame_Kernel3Ideal, frame_Reference3Ideal,
  constants, attention, constants2, feedForward, trivial, modulation⟩

end Cert.Proof

end
